-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_GateUp [hPre_tables_ok_gate_up : Cert.Pre_tables_ok_gate_up.Facts] (m : (ℓ : Loc Cert.GateUp.nD Cert.GateUp.τ Cert.GateUp.sig) → Buf (Elt Bits) ℓ) : Prop :=
  ∀ c : Dev Cert.GateUp.nD,
    (Cert.Pre_tables_ok_gate_up.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5))).1 = (fun _ => 1#1)
    ∧ (Cert.Pre_tables_ok_gate_up.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5))).2.1 = (fun _ => 1#1)
    ∧ (Cert.Pre_tables_ok_gate_up.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5))).2.2 = (fun _ => 1#1)

def Pre_GateUpIdeal [hPre_tables_ok_gate_up : Cert.Pre_tables_ok_gate_up.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_tables_ok_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).1 = (fun _ => 1#1)
    ∧ (Cert.Pre_tables_ok_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).2.1 = (fun _ => 1#1)
    ∧ (Cert.Pre_tables_ok_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).2.2 = (fun _ => 1#1)

def Pre_GateUpReferenceIdeal [hPre_tables_ok_gate_up : Cert.Pre_tables_ok_gate_up.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_tables_ok_gate_up.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5))).1 = (fun _ => 1#1)
    ∧ (Cert.Pre_tables_ok_gate_up.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5))).2.1 = (fun _ => 1#1)
    ∧ (Cert.Pre_tables_ok_gate_up.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5))).2.2 = (fun _ => 1#1)

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_GateUp [hGateUp : Cert.GateUp.Facts] [hPre_tables_ok_gate_up : Cert.Pre_tables_ok_gate_up.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] [hPre_tables_ok_gate_up : Cert.Pre_tables_ok_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpReferenceIdeal [hGateUpReferenceIdeal : Cert.GateUpReferenceIdeal.Facts] [hPre_tables_ok_gate_up : Cert.Pre_tables_ok_gate_up.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5))
      ∧ r.2.sem = fun _ => 0)

def preserves_Kernel_KernelIdeal : Prop :=
  True

def algebraic_KernelIdeal_ReferenceIdeal_on_rows_held [hKernelIdeal : Cert.KernelIdeal.Facts] [hReferenceIdeal : Cert.ReferenceIdeal.Facts] [hPre_tables_ok : Cert.Pre_tables_ok.Facts] [hOn_rows_held : Cert.On_rows_held.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 49152, 1024]⟩ : Shape).Idx, (Cert.On_rows_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 49152, 1024]⟩ : Shape).Idx, (Cert.On_rows_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v23) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_GateUp_GateUpIdeal : Prop :=
  True

def algebraic_GateUpIdeal_GateUpReferenceIdeal_on_rows_held_gate_up [hGateUpIdeal : Cert.GateUpIdeal.Facts] [hGateUpReferenceIdeal : Cert.GateUpReferenceIdeal.Facts] [hPre_tables_ok_gate_up : Cert.Pre_tables_ok_gate_up.Facts] [hOn_rows_held_gate_up : Cert.On_rows_held_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          (∀ i : (⟨2, ![49152, 1408]⟩ : Shape).Idx, (Cert.On_rows_held_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).1 i = 1#1 → r.2.mem ((c.tc : Thread Cert.GateUpIdeal.nD Cert.GateUpIdeal.τ).loc Cert.GateUpIdeal.main_v0_0) i = v0 c i)
          ∧ (∀ i : (⟨2, ![49152, 128]⟩ : Shape).Idx, (Cert.On_rows_held_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).2 i = 1#1 → r.2.mem ((c.tc : Thread Cert.GateUpIdeal.nD Cert.GateUpIdeal.τ).loc Cert.GateUpIdeal.main_v0_1) i = v1 c i)
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          (∀ i : (⟨2, ![49152, 1408]⟩ : Shape).Idx, (Cert.On_rows_held_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).1 i = 1#1 → r.2.mem ((c.tc : Thread Cert.GateUpReferenceIdeal.nD Cert.GateUpReferenceIdeal.τ).loc Cert.GateUpReferenceIdeal.main_v71) i = v0 c i)
          ∧ (∀ i : (⟨2, ![49152, 128]⟩ : Shape).Idx, (Cert.On_rows_held_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))).2 i = 1#1 → r.2.mem ((c.tc : Thread Cert.GateUpReferenceIdeal.nD Cert.GateUpReferenceIdeal.τ).loc Cert.GateUpReferenceIdeal.main_v73) i = v1 c i)
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts) (hPre_tables_ok : Cert.Pre_tables_ok.Facts) (hPre_tables_ok_gate_up : Cert.Pre_tables_ok_gate_up.Facts) (hOn_rows_held : Cert.On_rows_held.Facts) (hOn_rows_held_gate_up : Cert.On_rows_held_gate_up.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal) (hPre_tables_ok := hPre_tables_ok)
    ∧ quiescent_GateUp (hGateUp := hGateUp) (hPre_tables_ok_gate_up := hPre_tables_ok_gate_up)
    ∧ quiescent_GateUpIdeal (hGateUpIdeal := hGateUpIdeal) (hPre_tables_ok_gate_up := hPre_tables_ok_gate_up)
    ∧ quiescent_GateUpReferenceIdeal (hGateUpReferenceIdeal := hGateUpReferenceIdeal) (hPre_tables_ok_gate_up := hPre_tables_ok_gate_up)
    ∧ preserves_Kernel_KernelIdeal
    ∧ algebraic_KernelIdeal_ReferenceIdeal_on_rows_held (hKernelIdeal := hKernelIdeal) (hReferenceIdeal := hReferenceIdeal) (hPre_tables_ok := hPre_tables_ok) (hOn_rows_held := hOn_rows_held)
    ∧ preserves_GateUp_GateUpIdeal
    ∧ algebraic_GateUpIdeal_GateUpReferenceIdeal_on_rows_held_gate_up (hGateUpIdeal := hGateUpIdeal) (hGateUpReferenceIdeal := hGateUpReferenceIdeal) (hPre_tables_ok_gate_up := hPre_tables_ok_gate_up) (hOn_rows_held_gate_up := hOn_rows_held_gate_up)
-- ==== On_rows_held.lean ====
abbrev S96 : Shape := ⟨1, ![96]⟩
abbrev S1 : Shape := ⟨1, ![1]⟩
abbrev S49152x1408 : Shape := ⟨2, ![49152, 1408]⟩
abbrev S49152x128 : Shape := ⟨2, ![49152, 128]⟩
abbrev S32x1408x4096 : Shape := ⟨3, ![32, 1408, 4096]⟩
abbrev S32x11x32 : Shape := ⟨3, ![32, 11, 32]⟩
abbrev S4x96x4x128x1024 : Shape := ⟨5, ![4, 96, 4, 128, 1024]⟩
abbrev S_ : Shape := ⟨0, ![]⟩
abbrev S4x49152x1024 : Shape := ⟨3, ![4, 49152, 1024]⟩

class Facts : Prop where
  bcast_S_S4x96x4x128x1024 : S_.BroadcastsInDim S4x96x4x128x1024 (![] : Fin 0 → Fin S4x96x4x128x1024.rank)
  bcast_S96_S4x96x4x128x1024_1 : S96.BroadcastsInDim S4x96x4x128x1024 (![1] : Fin 1 → Fin S4x96x4x128x1024.rank)
  shapeCasts_S4x96x4x128x1024_S4x49152x1024 : S4x96x4x128x1024.ShapeCasts S4x49152x1024

variable [Facts]

def fn {F : FTy → Type} [FloatOps F] (main_arg0 : IVec S96 32) (main_arg1 : IVec S96 32) (main_arg2 : IVec S1 32) (main_arg3 : FVec F S49152x1408 .bf16) (main_arg4 : FVec F S49152x128 .f32) (main_arg5 : FVec F S32x1408x4096 .fp8e4m3) (main_arg6 : FVec F S32x11x32 .f32) : IVec S4x49152x1024 1 :=
  let main_v0 : IVec S4x96x4x128x1024 32 := iotaInDim S4x96x4x128x1024 32 2
  let main_c : IVec S_ 32 := constantI S_ 32 128#32
  let main_v1 : IVec S4x96x4x128x1024 32 := broadcastInDim S4x96x4x128x1024 ![] bcast_S_S4x96x4x128x1024 main_c
  let main_v2 : IVec S4x96x4x128x1024 32 := muli main_v0 main_v1
  let main_v3 : IVec S4x96x4x128x1024 32 := broadcastInDim S4x96x4x128x1024 ![1] bcast_S96_S4x96x4x128x1024_1 main_arg1
  let main_v4 : IVec S4x96x4x128x1024 1 := cmpi .slt main_v2 main_v3
  let main_v5 : IVec S4x49152x1024 1 := shapeCast S4x49152x1024 main_v4 shapeCasts_S4x96x4x128x1024_S4x49152x1024
  main_v5
-- ==== On_rows_held_gate_up.lean ====
abbrev S96 : Shape := ⟨1, ![96]⟩
abbrev S1 : Shape := ⟨1, ![1]⟩
abbrev S49152x2176 : Shape := ⟨2, ![49152, 2176]⟩
abbrev S32x4096x2816 : Shape := ⟨3, ![32, 4096, 2816]⟩
abbrev S32x32x22 : Shape := ⟨3, ![32, 32, 22]⟩
abbrev S96x4x128x1408 : Shape := ⟨4, ![96, 4, 128, 1408]⟩
abbrev S_ : Shape := ⟨0, ![]⟩
abbrev S96x4x128x128 : Shape := ⟨4, ![96, 4, 128, 128]⟩
abbrev S49152x1408 : Shape := ⟨2, ![49152, 1408]⟩
abbrev S49152x128 : Shape := ⟨2, ![49152, 128]⟩

class Facts : Prop where
  bcast_S_S96x4x128x1408 : S_.BroadcastsInDim S96x4x128x1408 (![] : Fin 0 → Fin S96x4x128x1408.rank)
  bcast_S96_S96x4x128x1408_0 : S96.BroadcastsInDim S96x4x128x1408 (![0] : Fin 1 → Fin S96x4x128x1408.rank)
  bcast_S_S96x4x128x128 : S_.BroadcastsInDim S96x4x128x128 (![] : Fin 0 → Fin S96x4x128x128.rank)
  bcast_S96_S96x4x128x128_0 : S96.BroadcastsInDim S96x4x128x128 (![0] : Fin 1 → Fin S96x4x128x128.rank)
  shapeCasts_S96x4x128x1408_S49152x1408 : S96x4x128x1408.ShapeCasts S49152x1408
  shapeCasts_S96x4x128x128_S49152x128 : S96x4x128x128.ShapeCasts S49152x128

variable [Facts]

def fn {F : FTy → Type} [FloatOps F] (main_arg0 : IVec S96 32) (main_arg1 : IVec S96 32) (main_arg2 : IVec S1 32) (main_arg3 : IVec S49152x2176 32) (main_arg4 : FVec F S32x4096x2816 .fp8e4m3) (main_arg5 : FVec F S32x32x22 .f32) : IVec S49152x1408 1 × IVec S49152x128 1 :=
  let main_v0 : IVec S96x4x128x1408 32 := iotaInDim S96x4x128x1408 32 1
  let main_c : IVec S_ 32 := constantI S_ 32 128#32
  let main_v1 : IVec S96x4x128x1408 32 := broadcastInDim S96x4x128x1408 ![] bcast_S_S96x4x128x1408 main_c
  let main_v2 : IVec S96x4x128x1408 32 := muli main_v0 main_v1
  let main_v3 : IVec S96x4x128x1408 32 := broadcastInDim S96x4x128x1408 ![0] bcast_S96_S96x4x128x1408_0 main_arg1
  let main_v4 : IVec S96x4x128x1408 1 := cmpi .slt main_v2 main_v3
  let main_v5 : IVec S96x4x128x128 32 := iotaInDim S96x4x128x128 32 1
  let main_c_0 : IVec S_ 32 := constantI S_ 32 128#32
  let main_v6 : IVec S96x4x128x128 32 := broadcastInDim S96x4x128x128 ![] bcast_S_S96x4x128x128 main_c_0
  let main_v7 : IVec S96x4x128x128 32 := muli main_v5 main_v6
  let main_v8 : IVec S96x4x128x128 32 := broadcastInDim S96x4x128x128 ![0] bcast_S96_S96x4x128x128_0 main_arg1
  let main_v9 : IVec S96x4x128x128 1 := cmpi .slt main_v7 main_v8
  let main_v10 : IVec S49152x1408 1 := shapeCast S49152x1408 main_v4 shapeCasts_S96x4x128x1408_S49152x1408
  let main_v11 : IVec S49152x128 1 := shapeCast S49152x128 main_v9 shapeCasts_S96x4x128x128_S49152x128
  (main_v10, main_v11)
-- ==== Pre_tables_ok.lean ====
abbrev S96 : Shape := ⟨1, ![96]⟩
abbrev S1 : Shape := ⟨1, ![1]⟩
abbrev S49152x1408 : Shape := ⟨2, ![49152, 1408]⟩
abbrev S49152x128 : Shape := ⟨2, ![49152, 128]⟩
abbrev S32x1408x4096 : Shape := ⟨3, ![32, 1408, 4096]⟩
abbrev S32x11x32 : Shape := ⟨3, ![32, 11, 32]⟩
abbrev S_ : Shape := ⟨0, ![]⟩

class Facts : Prop where
  bcast_S_S96 : S_.BroadcastsInDim S96 (![] : Fin 0 → Fin S96.rank)
  bcast_S_S1 : S_.BroadcastsInDim S1 (![] : Fin 0 → Fin S1.rank)
  bcast_S1_S96_0 : S1.BroadcastsInDim S96 (![0] : Fin 1 → Fin S96.rank)

variable [Facts]

def fn {F : FTy → Type} [FloatOps F] (main_arg0 : IVec S96 32) (main_arg1 : IVec S96 32) (main_arg2 : IVec S1 32) (main_arg3 : FVec F S49152x1408 .bf16) (main_arg4 : FVec F S49152x128 .f32) (main_arg5 : FVec F S32x1408x4096 .fp8e4m3) (main_arg6 : FVec F S32x11x32 .f32) : IVec S96 1 × IVec S1 1 × IVec S96 1 :=
  let main_v0 : IVec S96 32 := iotaInDim S96 32 0
  let main_c : IVec S_ 32 := constantI S_ 32 0#32
  let main_v1 : IVec S96 32 := broadcastInDim S96 ![] bcast_S_S96 main_c
  let main_v2 : IVec S96 1 := cmpi .sge main_arg0 main_v1
  let main_c_0 : IVec S_ 32 := constantI S_ 32 31#32
  let main_v3 : IVec S96 32 := broadcastInDim S96 ![] bcast_S_S96 main_c_0
  let main_v4 : IVec S96 1 := cmpi .sle main_arg0 main_v3
  let main_v5 : IVec S96 1 := andi main_v2 main_v4
  let main_c_1 : IVec S_ 32 := constantI S_ 32 1#32
  let main_v6 : IVec S1 32 := broadcastInDim S1 ![] bcast_S_S1 main_c_1
  let main_v7 : IVec S1 1 := cmpi .sge main_arg2 main_v6
  let main_c_2 : IVec S_ 32 := constantI S_ 32 0#32
  let main_v8 : IVec S96 32 := broadcastInDim S96 ![] bcast_S_S96 main_c_2
  let main_v9 : IVec S96 1 := cmpi .sle main_arg1 main_v8
  let main_v10 : IVec S96 32 := broadcastInDim S96 ![0] bcast_S1_S96_0 main_arg2
  let main_v11 : IVec S96 1 := cmpi .slt main_v0 main_v10
  let main_v12 : IVec S96 1 := ori main_v9 main_v11
  (main_v5, main_v7, main_v12)
-- ==== Pre_tables_ok_gate_up.lean ====
abbrev S96 : Shape := ⟨1, ![96]⟩
abbrev S1 : Shape := ⟨1, ![1]⟩
abbrev S49152x2176 : Shape := ⟨2, ![49152, 2176]⟩
abbrev S32x4096x2816 : Shape := ⟨3, ![32, 4096, 2816]⟩
abbrev S32x32x22 : Shape := ⟨3, ![32, 32, 22]⟩
abbrev S_ : Shape := ⟨0, ![]⟩

class Facts : Prop where
  bcast_S_S96 : S_.BroadcastsInDim S96 (![] : Fin 0 → Fin S96.rank)
  bcast_S_S1 : S_.BroadcastsInDim S1 (![] : Fin 0 → Fin S1.rank)
  bcast_S1_S96_0 : S1.BroadcastsInDim S96 (![0] : Fin 1 → Fin S96.rank)

variable [Facts]

def fn {F : FTy → Type} [FloatOps F] (main_arg0 : IVec S96 32) (main_arg1 : IVec S96 32) (main_arg2 : IVec S1 32) (main_arg3 : IVec S49152x2176 32) (main_arg4 : FVec F S32x4096x2816 .fp8e4m3) (main_arg5 : FVec F S32x32x22 .f32) : IVec S96 1 × IVec S1 1 × IVec S96 1 :=
  let main_v0 : IVec S96 32 := iotaInDim S96 32 0
  let main_c : IVec S_ 32 := constantI S_ 32 0#32
  let main_v1 : IVec S96 32 := broadcastInDim S96 ![] bcast_S_S96 main_c
  let main_v2 : IVec S96 1 := cmpi .sge main_arg0 main_v1
  let main_c_0 : IVec S_ 32 := constantI S_ 32 31#32
  let main_v3 : IVec S96 32 := broadcastInDim S96 ![] bcast_S_S96 main_c_0
  let main_v4 : IVec S96 1 := cmpi .sle main_arg0 main_v3
  let main_v5 : IVec S96 1 := andi main_v2 main_v4
  let main_c_1 : IVec S_ 32 := constantI S_ 32 1#32
  let main_v6 : IVec S1 32 := broadcastInDim S1 ![] bcast_S_S1 main_c_1
  let main_v7 : IVec S1 1 := cmpi .sge main_arg2 main_v6
  let main_c_2 : IVec S_ 32 := constantI S_ 32 0#32
  let main_v8 : IVec S96 32 := broadcastInDim S96 ![] bcast_S_S96 main_c_2
  let main_v9 : IVec S96 1 := cmpi .sle main_arg1 main_v8
  let main_v10 : IVec S96 32 := broadcastInDim S96 ![0] bcast_S1_S96_0 main_arg2
  let main_v11 : IVec S96 1 := cmpi .slt main_v0 main_v10
  let main_v12 : IVec S96 1 := ori main_v9 main_v11
  (main_v5, main_v7, main_v12)
-- ==== Kernel.lean ====
abbrev S96 : Shape := ⟨1, ![96]⟩
abbrev S1 : Shape := ⟨1, ![1]⟩
abbrev S49152x1408 : Shape := ⟨2, ![49152, 1408]⟩
abbrev S49152x128 : Shape := ⟨2, ![49152, 128]⟩
abbrev S32x1408x4096 : Shape := ⟨3, ![32, 1408, 4096]⟩
abbrev S32x11x32 : Shape := ⟨3, ![32, 11, 32]⟩
abbrev S4x49152x1024 : Shape := ⟨3, ![4, 49152, 1024]⟩
abbrev S512x1408 : Shape := ⟨2, ![512, 1408]⟩
abbrev S512x128 : Shape := ⟨2, ![512, 128]⟩
abbrev S1x1408x4096 : Shape := ⟨3, ![1, 1408, 4096]⟩
abbrev S1x11x32 : Shape := ⟨3, ![1, 11, 32]⟩
abbrev S4x512x1024 : Shape := ⟨3, ![4, 512, 1024]⟩
abbrev S1x128x128 : Shape := ⟨3, ![1, 128, 128]⟩
abbrev S128x128 : Shape := ⟨2, ![128, 128]⟩
abbrev S1x1x1 : Shape := ⟨3, ![1, 1, 1]⟩
abbrev S1408x128 : Shape := ⟨2, ![1408, 128]⟩
abbrev S1408x256 : Shape := ⟨2, ![1408, 256]⟩
abbrev S512x256 : Shape := ⟨2, ![512, 256]⟩
abbrev S1x512x256 : Shape := ⟨3, ![1, 512, 256]⟩
abbrev S256x1408 : Shape := ⟨2, ![256, 1408]⟩
abbrev S256x256 : Shape := ⟨2, ![256, 256]⟩
abbrev S256x128 : Shape := ⟨2, ![256, 128]⟩
abbrev S1x256x256 : Shape := ⟨3, ![1, 256, 256]⟩
abbrev S128x1408 : Shape := ⟨2, ![128, 1408]⟩
abbrev S128x256 : Shape := ⟨2, ![128, 256]⟩
abbrev S1x128x256 : Shape := ⟨3, ![1, 128, 256]⟩

abbrev nBuf : Space → Nat
  | .hbm => 5
  | .vmem => 8
  | .smem => 5
  | _ => 0

abbrev bufTy : (tb : Table) → Fin (tcTables nBuf tb) → BufTy
  | .hbm, ⟨0, _⟩ => ⟨S49152x1408, .bf16⟩
  | .hbm, ⟨1, _⟩ => ⟨S49152x128, .f32⟩
  | .hbm, ⟨2, _⟩ => ⟨S32x1408x4096, .fp8e4m3⟩
  | .hbm, ⟨3, _⟩ => ⟨S32x11x32, .f32⟩
  | .hbm, ⟨4, _⟩ => ⟨S4x49152x1024, .f32⟩
  | .local _ .vmem, ⟨0, _⟩ => ⟨S512x1408, .bf16⟩
  | .local _ .vmem, ⟨1, _⟩ => ⟨S512x1408, .bf16⟩
  | .local _ .vmem, ⟨2, _⟩ => ⟨S512x128, .f32⟩
  | .local _ .vmem, ⟨3, _⟩ => ⟨S512x128, .f32⟩
  | .local _ .vmem, ⟨4, _⟩ => ⟨S1x1408x4096, .fp8e4m3⟩
  | .local _ .vmem, ⟨5, _⟩ => ⟨S1x1408x4096, .fp8e4m3⟩
  | .local _ .vmem, ⟨6, _⟩ => ⟨S4x512x1024, .f32⟩
  | .local _ .vmem, ⟨7, _⟩ => ⟨S4x512x1024, .f32⟩
  | .local _ .smem, ⟨0, _⟩ => ⟨S96, .i32⟩
  | .local _ .smem, ⟨1, _⟩ => ⟨S96, .i32⟩
  | .local _ .smem, ⟨2, _⟩ => ⟨S1, .i32⟩
  | .local _ .smem, ⟨3, _⟩ => ⟨S1x11x32, .f32⟩
  | .local _ .smem, ⟨4, _⟩ => ⟨S1x11x32, .f32⟩
  | _, _ => ⟨S49152x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 3, rfl⟩
abbrev cc0_stg3_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  v20
def k0_cond3 (v1 : BitVec 32) : BitVec 1 :=
  let c0_i32_2 : BitVec 32 := 0#32
  let v10 : BitVec 1 := Scalar.cmpi .sgt v1 c0_i32_2
  let c128_i32_3 : BitVec 32 := 128#32
  let v11 : BitVec 1 := Scalar.cmpi .sle v1 c128_i32_3
  let v12 : BitVec 1 := Scalar.andi v10 v11
  let c256_i32 : BitVec 32 := 256#32
  let v13 : BitVec 1 := Scalar.cmpi .sgt v1 c256_i32
  let c384_i32_4 : BitVec 32 := 384#32
  let v14 : BitVec 1 := Scalar.cmpi .sle v1 c384_i32_4
  let v15 : BitVec 1 := Scalar.andi v13 v14
  let v16 : BitVec 1 := Scalar.ori v12 v15
  let v17 : BitVec 32 := Scalar.extui v16
  let c0_i32_5 : BitVec 32 := 0#32
  let v18 : BitVec 1 := Scalar.cmpi .ne v17 c0_i32_5
  v18

def k0_off2 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v179 : Index := Scalar.indexCast v21
  let c0_120 : Index := 0#32
  ![v179.toNat, 0]
def k0_off3 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v182 : Index := Scalar.indexCast v21
  let c0_121 : Index := 0#32
  ![v182.toNat, 0]
def k0_off4 (v1 : BitVec 32) : Fin 3 → Nat :=
  let c0_122 : Index := 0#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v186 : Index := Scalar.indexCast v21
  let c0_123 : Index := 0#32
  ![0, v186.toNat, 0]
def k0_off5 (v1 : BitVec 32) : Fin 3 → Nat :=
  let c0_259 : Index := 0#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v354 : Index := Scalar.indexCast v21
  let c256_260 : Index := 256#32
  ![0, v354.toNat, 256]
def k0_off6 (v1 : BitVec 32) : Fin 3 → Nat :=
  let c0_396 : Index := 0#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v522 : Index := Scalar.indexCast v21
  let c512_397 : Index := 512#32
  ![0, v522.toNat, 512]
def k0_off7 (v1 : BitVec 32) : Fin 3 → Nat :=
  let c0_533 : Index := 0#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v690 : Index := Scalar.indexCast v21
  let c768_534 : Index := 768#32
  ![0, v690.toNat, 768]
def k0_off8 (v1 : BitVec 32) : Fin 3 → Nat :=
  let c1_670 : Index := 1#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v858 : Index := Scalar.indexCast v21
  let c0_671 : Index := 0#32
  ![1, v858.toNat, 0]
def k0_off9 (v1 : BitVec 32) : Fin 3 → Nat :=
  let c1_805 : Index := 1#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1026 : Index := Scalar.indexCast v21
  let c256_806 : Index := 256#32
  ![1, v1026.toNat, 256]
def k0_off10 (v1 : BitVec 32) : Fin 3 → Nat :=
  let c1_938 : Index := 1#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1194 : Index := Scalar.indexCast v21
  let c512_939 : Index := 512#32
  ![1, v1194.toNat, 512]
def k0_off11 (v1 : BitVec 32) : Fin 3 → Nat :=
  let c1_1071 : Index := 1#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1362 : Index := Scalar.indexCast v21
  let c768_1072 : Index := 768#32
  ![1, v1362.toNat, 768]
def k0_off12 (v1 : BitVec 32) : Fin 3 → Nat :=
  let c2_1204 : Index := 2#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1530 : Index := Scalar.indexCast v21
  let c0_1205 : Index := 0#32
  ![2, v1530.toNat, 0]
def k0_off13 (v1 : BitVec 32) : Fin 3 → Nat :=
  let c2_1337 : Index := 2#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1698 : Index := Scalar.indexCast v21
  let c256_1338 : Index := 256#32
  ![2, v1698.toNat, 256]
def k0_off14 (v1 : BitVec 32) : Fin 3 → Nat :=
  let c2_1470 : Index := 2#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1866 : Index := Scalar.indexCast v21
  let c512_1471 : Index := 512#32
  ![2, v1866.toNat, 512]
def k0_off15 (v1 : BitVec 32) : Fin 3 → Nat :=
  let c2_1603 : Index := 2#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2034 : Index := Scalar.indexCast v21
  let c768_1604 : Index := 768#32
  ![2, v2034.toNat, 768]
def k0_off16 (v1 : BitVec 32) : Fin 3 → Nat :=
  let c3_1736 : Index := 3#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2202 : Index := Scalar.indexCast v21
  let c0_1737 : Index := 0#32
  ![3, v2202.toNat, 0]
def k0_off17 (v1 : BitVec 32) : Fin 3 → Nat :=
  let c3_1869 : Index := 3#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2370 : Index := Scalar.indexCast v21
  let c256_1870 : Index := 256#32
  ![3, v2370.toNat, 256]
def k0_off18 (v1 : BitVec 32) : Fin 3 → Nat :=
  let c3_2002 : Index := 3#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2538 : Index := Scalar.indexCast v21
  let c512_2003 : Index := 512#32
  ![3, v2538.toNat, 512]
def k0_off19 (v1 : BitVec 32) : Fin 3 → Nat :=
  let c3_2135 : Index := 3#32
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2706 : Index := Scalar.indexCast v21
  let c768_2136 : Index := 768#32
  ![3, v2706.toNat, 768]

def k0_chk1 (v1 : BitVec 32) : Prop :=
  (∀ (k0_h3 : k0_cond3 v1 = 1#1), 128 ∣ (k0_mult1 v1).toNat) ∧
  (∀ (k0_h3 : k0_cond3 v1 = 1#1), ∀ a, (k0_off2 v1) a + S128x1408.size a ≤ S512x1408.size a) ∧
  (∀ (k0_h3 : k0_cond3 v1 = 1#1), ∀ a, (k0_off3 v1) a + S128x128.size a ≤ S512x128.size a) ∧
  (∀ (k0_h3 : k0_cond3 v1 = 1#1), ∀ a, (k0_off4 v1) a + S1x128x256.size a ≤ S4x512x1024.size a) ∧
  (∀ (k0_h3 : k0_cond3 v1 = 1#1), ∀ a, (k0_off5 v1) a + S1x128x256.size a ≤ S4x512x1024.size a) ∧
  (∀ (k0_h3 : k0_cond3 v1 = 1#1), ∀ a, (k0_off6 v1) a + S1x128x256.size a ≤ S4x512x1024.size a) ∧
  (∀ (k0_h3 : k0_cond3 v1 = 1#1), ∀ a, (k0_off7 v1) a + S1x128x256.size a ≤ S4x512x1024.size a) ∧
  (∀ (k0_h3 : k0_cond3 v1 = 1#1), ∀ a, (k0_off8 v1) a + S1x128x256.size a ≤ S4x512x1024.size a) ∧
  (∀ (k0_h3 : k0_cond3 v1 = 1#1), ∀ a, (k0_off9 v1) a + S1x128x256.size a ≤ S4x512x1024.size a) ∧
  (∀ (k0_h3 : k0_cond3 v1 = 1#1), ∀ a, (k0_off10 v1) a + S1x128x256.size a ≤ S4x512x1024.size a) ∧
  (∀ (k0_h3 : k0_cond3 v1 = 1#1), ∀ a, (k0_off11 v1) a + S1x128x256.size a ≤ S4x512x1024.size a) ∧
  (∀ (k0_h3 : k0_cond3 v1 = 1#1), ∀ a, (k0_off12 v1) a + S1x128x256.size a ≤ S4x512x1024.size a) ∧
  (∀ (k0_h3 : k0_cond3 v1 = 1#1), ∀ a, (k0_off13 v1) a + S1x128x256.size a ≤ S4x512x1024.size a) ∧
  (∀ (k0_h3 : k0_cond3 v1 = 1#1), ∀ a, (k0_off14 v1) a + S1x128x256.size a ≤ S4x512x1024.size a) ∧
  (∀ (k0_h3 : k0_cond3 v1 = 1#1), ∀ a, (k0_off15 v1) a + S1x128x256.size a ≤ S4x512x1024.size a) ∧
  (∀ (k0_h3 : k0_cond3 v1 = 1#1), ∀ a, (k0_off16 v1) a + S1x128x256.size a ≤ S4x512x1024.size a) ∧
  (∀ (k0_h3 : k0_cond3 v1 = 1#1), ∀ a, (k0_off17 v1) a + S1x128x256.size a ≤ S4x512x1024.size a) ∧
  (∀ (k0_h3 : k0_cond3 v1 = 1#1), ∀ a, (k0_off18 v1) a + S1x128x256.size a ≤ S4x512x1024.size a) ∧
  (∀ (k0_h3 : k0_cond3 v1 = 1#1), ∀ a, (k0_off19 v1) a + S1x128x256.size a ≤ S4x512x1024.size a)
theorem k0_mult1_dvd : ∀ (v1 : BitVec 32) (k0_hw1 : k0_chk1 v1), ∀ (k0_h3 : k0_cond3 v1 = 1#1), 128 ∣ (k0_mult1 v1).toNat := fun v1 k0_hw1 k0_h3 => k0_hw1.1 k0_h3
theorem k0_off2_inb : ∀ (v1 : BitVec 32) (k0_hw1 : k0_chk1 v1), ∀ (k0_h3 : k0_cond3 v1 = 1#1), ∀ a, (k0_off2 v1) a + S128x1408.size a ≤ S512x1408.size a := fun v1 k0_hw1 k0_h3 => k0_hw1.2.1 k0_h3
theorem k0_off3_inb : ∀ (v1 : BitVec 32) (k0_hw1 : k0_chk1 v1), ∀ (k0_h3 : k0_cond3 v1 = 1#1), ∀ a, (k0_off3 v1) a + S128x128.size a ≤ S512x128.size a := fun v1 k0_hw1 k0_h3 => k0_hw1.2.2.1 k0_h3
theorem k0_off4_inb : ∀ (v1 : BitVec 32) (k0_hw1 : k0_chk1 v1), ∀ (k0_h3 : k0_cond3 v1 = 1#1), ∀ a, (k0_off4 v1) a + S1x128x256.size a ≤ S4x512x1024.size a := fun v1 k0_hw1 k0_h3 => k0_hw1.2.2.2.1 k0_h3
theorem k0_off5_inb : ∀ (v1 : BitVec 32) (k0_hw1 : k0_chk1 v1), ∀ (k0_h3 : k0_cond3 v1 = 1#1), ∀ a, (k0_off5 v1) a + S1x128x256.size a ≤ S4x512x1024.size a := fun v1 k0_hw1 k0_h3 => k0_hw1.2.2.2.2.1 k0_h3
theorem k0_off6_inb : ∀ (v1 : BitVec 32) (k0_hw1 : k0_chk1 v1), ∀ (k0_h3 : k0_cond3 v1 = 1#1), ∀ a, (k0_off6 v1) a + S1x128x256.size a ≤ S4x512x1024.size a := fun v1 k0_hw1 k0_h3 => k0_hw1.2.2.2.2.2.1 k0_h3
theorem k0_off7_inb : ∀ (v1 : BitVec 32) (k0_hw1 : k0_chk1 v1), ∀ (k0_h3 : k0_cond3 v1 = 1#1), ∀ a, (k0_off7 v1) a + S1x128x256.size a ≤ S4x512x1024.size a := fun v1 k0_hw1 k0_h3 => k0_hw1.2.2.2.2.2.2.1 k0_h3
theorem k0_off8_inb : ∀ (v1 : BitVec 32) (k0_hw1 : k0_chk1 v1), ∀ (k0_h3 : k0_cond3 v1 = 1#1), ∀ a, (k0_off8 v1) a + S1x128x256.size a ≤ S4x512x1024.size a := fun v1 k0_hw1 k0_h3 => k0_hw1.2.2.2.2.2.2.2.1 k0_h3
theorem k0_off9_inb : ∀ (v1 : BitVec 32) (k0_hw1 : k0_chk1 v1), ∀ (k0_h3 : k0_cond3 v1 = 1#1), ∀ a, (k0_off9 v1) a + S1x128x256.size a ≤ S4x512x1024.size a := fun v1 k0_hw1 k0_h3 => k0_hw1.2.2.2.2.2.2.2.2.1 k0_h3
theorem k0_off10_inb : ∀ (v1 : BitVec 32) (k0_hw1 : k0_chk1 v1), ∀ (k0_h3 : k0_cond3 v1 = 1#1), ∀ a, (k0_off10 v1) a + S1x128x256.size a ≤ S4x512x1024.size a := fun v1 k0_hw1 k0_h3 => k0_hw1.2.2.2.2.2.2.2.2.2.1 k0_h3
theorem k0_off11_inb : ∀ (v1 : BitVec 32) (k0_hw1 : k0_chk1 v1), ∀ (k0_h3 : k0_cond3 v1 = 1#1), ∀ a, (k0_off11 v1) a + S1x128x256.size a ≤ S4x512x1024.size a := fun v1 k0_hw1 k0_h3 => k0_hw1.2.2.2.2.2.2.2.2.2.2.1 k0_h3
theorem k0_off12_inb : ∀ (v1 : BitVec 32) (k0_hw1 : k0_chk1 v1), ∀ (k0_h3 : k0_cond3 v1 = 1#1), ∀ a, (k0_off12 v1) a + S1x128x256.size a ≤ S4x512x1024.size a := fun v1 k0_hw1 k0_h3 => k0_hw1.2.2.2.2.2.2.2.2.2.2.2.1 k0_h3
theorem k0_off13_inb : ∀ (v1 : BitVec 32) (k0_hw1 : k0_chk1 v1), ∀ (k0_h3 : k0_cond3 v1 = 1#1), ∀ a, (k0_off13 v1) a + S1x128x256.size a ≤ S4x512x1024.size a := fun v1 k0_hw1 k0_h3 => k0_hw1.2.2.2.2.2.2.2.2.2.2.2.2.1 k0_h3
theorem k0_off14_inb : ∀ (v1 : BitVec 32) (k0_hw1 : k0_chk1 v1), ∀ (k0_h3 : k0_cond3 v1 = 1#1), ∀ a, (k0_off14 v1) a + S1x128x256.size a ≤ S4x512x1024.size a := fun v1 k0_hw1 k0_h3 => k0_hw1.2.2.2.2.2.2.2.2.2.2.2.2.2.1 k0_h3
theorem k0_off15_inb : ∀ (v1 : BitVec 32) (k0_hw1 : k0_chk1 v1), ∀ (k0_h3 : k0_cond3 v1 = 1#1), ∀ a, (k0_off15 v1) a + S1x128x256.size a ≤ S4x512x1024.size a := fun v1 k0_hw1 k0_h3 => k0_hw1.2.2.2.2.2.2.2.2.2.2.2.2.2.2.1 k0_h3
theorem k0_off16_inb : ∀ (v1 : BitVec 32) (k0_hw1 : k0_chk1 v1), ∀ (k0_h3 : k0_cond3 v1 = 1#1), ∀ a, (k0_off16 v1) a + S1x128x256.size a ≤ S4x512x1024.size a := fun v1 k0_hw1 k0_h3 => k0_hw1.2.2.2.2.2.2.2.2.2.2.2.2.2.2.2.1 k0_h3
theorem k0_off17_inb : ∀ (v1 : BitVec 32) (k0_hw1 : k0_chk1 v1), ∀ (k0_h3 : k0_cond3 v1 = 1#1), ∀ a, (k0_off17 v1) a + S1x128x256.size a ≤ S4x512x1024.size a := fun v1 k0_hw1 k0_h3 => k0_hw1.2.2.2.2.2.2.2.2.2.2.2.2.2.2.2.2.1 k0_h3
theorem k0_off18_inb : ∀ (v1 : BitVec 32) (k0_hw1 : k0_chk1 v1), ∀ (k0_h3 : k0_cond3 v1 = 1#1), ∀ a, (k0_off18 v1) a + S1x128x256.size a ≤ S4x512x1024.size a := fun v1 k0_hw1 k0_h3 => k0_hw1.2.2.2.2.2.2.2.2.2.2.2.2.2.2.2.2.2.1 k0_h3
theorem k0_off19_inb : ∀ (v1 : BitVec 32) (k0_hw1 : k0_chk1 v1), ∀ (k0_h3 : k0_cond3 v1 = 1#1), ∀ a, (k0_off19 v1) a + S1x128x256.size a ≤ S4x512x1024.size a := fun v1 k0_hw1 k0_h3 => k0_hw1.2.2.2.2.2.2.2.2.2.2.2.2.2.2.2.2.2.2 k0_h3

def k0_cond1 (v1 : BitVec 32) : BitVec 1 :=
  let c384_i32 : BitVec 32 := 384#32
  let v2 : BitVec 1 := Scalar.cmpi .sgt v1 c384_i32
  let v3 : BitVec 32 := Scalar.extui v2
  let c0_i32 : BitVec 32 := 0#32
  let v4 : BitVec 1 := Scalar.cmpi .ne v3 c0_i32
  v4

def k0_cond2 (v1 : BitVec 32) : BitVec 1 :=
  let c128_i32 : BitVec 32 := 128#32
  let v5 : BitVec 1 := Scalar.cmpi .sgt v1 c128_i32
  let c384_i32_0 : BitVec 32 := 384#32
  let v6 : BitVec 1 := Scalar.cmpi .sle v1 c384_i32_0
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x11x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S96 : Shape := ⟨1, ![96]⟩
abbrev S1 : Shape := ⟨1, ![1]⟩
abbrev S49152x1408 : Shape := ⟨2, ![49152, 1408]⟩
abbrev S49152x128 : Shape := ⟨2, ![49152, 128]⟩
abbrev S32x1408x4096 : Shape := ⟨3, ![32, 1408, 4096]⟩
abbrev S32x11x32 : Shape := ⟨3, ![32, 11, 32]⟩
abbrev S32x11x1x32x1 : Shape := ⟨5, ![32, 11, 1, 32, 1]⟩
abbrev S32x11x128x32x128 : Shape := ⟨5, ![32, 11, 128, 32, 128]⟩
abbrev S32x4096x49152 : Shape := ⟨3, ![32, 4096, 49152]⟩
abbrev S32x49152x4096 : Shape := ⟨3, ![32, 49152, 4096]⟩
abbrev S96x1 : Shape := ⟨2, ![96, 1]⟩
abbrev S96x512 : Shape := ⟨2, ![96, 512]⟩
abbrev S49152 : Shape := ⟨1, ![49152]⟩
abbrev S1x49152x1 : Shape := ⟨3, ![1, 49152, 1]⟩
abbrev S_ : Shape := ⟨0, ![]⟩
abbrev S49152x4096 : Shape := ⟨2, ![49152, 4096]⟩
abbrev S49152x1x128 : Shape := ⟨3, ![49152, 1, 128]⟩
abbrev S49152x32x128 : Shape := ⟨3, ![49152, 32, 128]⟩
abbrev S49152x4x1024 : Shape := ⟨3, ![49152, 4, 1024]⟩
abbrev S4x49152x1024 : Shape := ⟨3, ![4, 49152, 1024]⟩

abbrev nBuf : Space → Nat
  | .hbm => 33
  | .vmem => 2
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S1, .i32⟩
  | .hbm, ⟨3, _⟩ => ⟨S49152x1408, .bf16⟩
  | .hbm, ⟨4, _⟩ => ⟨S49152x128, .f32⟩
  | .hbm, ⟨5, _⟩ => ⟨S32x1408x4096, .fp8e4m3⟩
  | .hbm, ⟨6, _⟩ => ⟨S32x11x32, .f32⟩
  | .hbm, ⟨7, _⟩ => ⟨S32x11x32, .bf16⟩
  | .hbm, ⟨8, _⟩ => ⟨S32x1408x4096, .bf16⟩
  | .hbm, ⟨9, _⟩ => ⟨S32x11x1x32x1, .bf16⟩
  | .hbm, ⟨10, _⟩ => ⟨S32x11x128x32x128, .bf16⟩
  | .hbm, ⟨11, _⟩ => ⟨S32x1408x4096, .bf16⟩
  | .hbm, ⟨12, _⟩ => ⟨S32x1408x4096, .bf16⟩
  | .hbm, ⟨13, _⟩ => ⟨S32x4096x49152, .f32⟩
  | .hbm, ⟨14, _⟩ => ⟨S32x49152x4096, .f32⟩
  | .hbm, ⟨15, _⟩ => ⟨S96x1, .i32⟩
  | .hbm, ⟨16, _⟩ => ⟨S96x512, .i32⟩
  | .hbm, ⟨17, _⟩ => ⟨S49152, .i32⟩
  | .hbm, ⟨18, _⟩ => ⟨S32x49152x4096, .i32⟩
  | .hbm, ⟨19, _⟩ => ⟨S1x49152x1, .i32⟩
  | .hbm, ⟨20, _⟩ => ⟨S32x49152x4096, .i32⟩
  | .hbm, ⟨21, _⟩ => ⟨S32x49152x4096, .i1⟩
  | .hbm, ⟨22, _⟩ => ⟨S_, .f32⟩
  | .hbm, ⟨23, _⟩ => ⟨S32x49152x4096, .f32⟩
  | .hbm, ⟨24, _⟩ => ⟨S32x49152x4096, .f32⟩
  | .hbm, ⟨25, _⟩ => ⟨S_, .f32⟩
  | .hbm, ⟨26, _⟩ => ⟨S49152x4096, .f32⟩
  | .hbm, ⟨27, _⟩ => ⟨S49152x1x128, .f32⟩
  | .hbm, ⟨28, _⟩ => ⟨S49152x32x128, .f32⟩
  | .hbm, ⟨29, _⟩ => ⟨S49152x4096, .f32⟩
  | .hbm, ⟨30, _⟩ => ⟨S49152x4096, .f32⟩
  | .hbm, ⟨31, _⟩ => ⟨S49152x4x1024, .f32⟩
  | .hbm, ⟨32, _⟩ => ⟨S4x49152x1024, .f32⟩
  | .local _ .vmem, ⟨0, _⟩ => ⟨S32x1408x4096, .fp8e4m3⟩
  | .local _ .vmem, ⟨1, _⟩ => ⟨S32x1408x4096, .bf16⟩
  | _, _ => ⟨S96, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x1408x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1408x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== GateUp.lean ====
abbrev S96 : Shape := ⟨1, ![96]⟩
abbrev S1 : Shape := ⟨1, ![1]⟩
abbrev S49152x2176 : Shape := ⟨2, ![49152, 2176]⟩
abbrev S32x4096x2816 : Shape := ⟨3, ![32, 4096, 2816]⟩
abbrev S32x32x22 : Shape := ⟨3, ![32, 32, 22]⟩
abbrev S49152x1408 : Shape := ⟨2, ![49152, 1408]⟩
abbrev S49152x128 : Shape := ⟨2, ![49152, 128]⟩
abbrev S512x2176 : Shape := ⟨2, ![512, 2176]⟩
abbrev S1x4096x2816 : Shape := ⟨3, ![1, 4096, 2816]⟩
abbrev S1x32x22 : Shape := ⟨3, ![1, 32, 22]⟩
abbrev S512x1408 : Shape := ⟨2, ![512, 1408]⟩
abbrev S512x128 : Shape := ⟨2, ![512, 128]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S1x4096x128 : Shape := ⟨3, ![1, 4096, 128]⟩
abbrev S4096x128 : Shape := ⟨2, ![4096, 128]⟩
abbrev S128x128 : Shape := ⟨2, ![128, 128]⟩
abbrev S1x1x1 : Shape := ⟨3, ![1, 1, 1]⟩
abbrev S4096x256 : Shape := ⟨2, ![4096, 256]⟩
abbrev S512x256 : Shape := ⟨2, ![512, 256]⟩
abbrev S1x246 : Shape := ⟨2, ![1, 246]⟩
abbrev S512x246 : Shape := ⟨2, ![512, 246]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩
abbrev S256x256 : Shape := ⟨2, ![256, 256]⟩
abbrev S256x246 : Shape := ⟨2, ![256, 246]⟩
abbrev S128x2048 : Shape := ⟨2, ![128, 2048]⟩
abbrev S128 : Shape := ⟨1, ![128]⟩
abbrev S128x1 : Shape := ⟨2, ![128, 1]⟩
abbrev S128x4096 : Shape := ⟨2, ![128, 4096]⟩
abbrev S128x256 : Shape := ⟨2, ![128, 256]⟩
abbrev S128x246 : Shape := ⟨2, ![128, 246]⟩

abbrev nBuf : Space → Nat
  | .hbm => 5
  | .vmem => 9
  | .smem => 5
  | _ => 0

abbrev bufTy : (tb : Table) → Fin (tcTables nBuf tb) → BufTy
  | .hbm, ⟨0, _⟩ => ⟨S49152x2176, .i32⟩
  | .hbm, ⟨1, _⟩ => ⟨S32x4096x2816, .fp8e4m3⟩
  | .hbm, ⟨2, _⟩ => ⟨S32x32x22, .f32⟩
  | .hbm, ⟨3, _⟩ => ⟨S49152x1408, .bf16⟩
  | .hbm, ⟨4, _⟩ => ⟨S49152x128, .f32⟩
  | .local _ .vmem, ⟨0, _⟩ => ⟨S512x2176, .i32⟩
  | .local _ .vmem, ⟨1, _⟩ => ⟨S512x2176, .i32⟩
  | .local _ .vmem, ⟨2, _⟩ => ⟨S1x4096x2816, .fp8e4m3⟩
  | .local _ .vmem, ⟨3, _⟩ => ⟨S1x4096x2816, .fp8e4m3⟩
  | .local _ .vmem, ⟨4, _⟩ => ⟨S512x1408, .bf16⟩
  | .local _ .vmem, ⟨5, _⟩ => ⟨S512x1408, .bf16⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .smem, ⟨0, _⟩ => ⟨S96, .i32⟩
  | .local _ .smem, ⟨1, _⟩ => ⟨S96, .i32⟩
  | .local _ .smem, ⟨2, _⟩ => ⟨S1, .i32⟩
  | .local _ .smem, ⟨3, _⟩ => ⟨S1x32x22, .f32⟩
  | .local _ .smem, ⟨4, _⟩ => ⟨S1x32x22, .f32⟩
  | _, _ => ⟨S49152x2176, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg2_0 : Ref sig .tc := ⟨.smem, 3, rfl⟩
abbrev cc0_stg2_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v37 : Index := Scalar.indexCast arg0
  ![v37.toNat]
def k0_off3 (i : grid0.Coords) : Fin 1 → Nat :=
  let arg0 : BitVec 32 := BitVec.ofNat 32 (i 0).val
  let v37 : Index := Scalar.indexCast arg0
  ![v37.toNat]
def k0_mult1 (v1 : BitVec 32) : BitVec 32 :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  v20
def k0_cond3 (v1 : BitVec 32) : BitVec 1 :=
  let c0_i32_2 : BitVec 32 := 0#32
  let v10 : BitVec 1 := Scalar.cmpi .sgt v1 c0_i32_2
  let c128_i32_3 : BitVec 32 := 128#32
  let v11 : BitVec 1 := Scalar.cmpi .sle v1 c128_i32_3
  let v12 : BitVec 1 := Scalar.andi v10 v11
  let c256_i32 : BitVec 32 := 256#32
  let v13 : BitVec 1 := Scalar.cmpi .sgt v1 c256_i32
  let c384_i32_4 : BitVec 32 := 384#32
  let v14 : BitVec 1 := Scalar.cmpi .sle v1 c384_i32_4
  let v15 : BitVec 1 := Scalar.andi v13 v14
  let v16 : BitVec 1 := Scalar.ori v12 v15
  let v17 : BitVec 32 := Scalar.extui v16
  let c0_i32_5 : BitVec 32 := 0#32
  let v18 : BitVec 1 := Scalar.cmpi .ne v17 c0_i32_5
  v18

def k0_off4 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v22 : Index := Scalar.indexCast v21
  let c0 : Index := 0#32
  ![v22.toNat, 0]
def k0_off5 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v28 : Index := Scalar.indexCast v21
  let c0_9 : Index := 0#32
  ![v28.toNat, 0]
def k0_off6 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v36 : Index := Scalar.indexCast v21
  let c2048 : Index := 2048#32
  ![v36.toNat, 2048]
def k0_off7 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v41 : Index := Scalar.indexCast v21
  let c2048_10 : Index := 2048#32
  ![v41.toNat, 2048]
def k0_off8 (i : grid0.Coords) : Fin 1 → Nat :=
  let arg0 : BitVec 32 := BitVec.ofNat 32 (i 0).val
  let v44 : Index := Scalar.indexCast arg0
  ![v44.toNat]
def k0_off9 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v54 : Index := Scalar.indexCast v21
  let c0_12 : Index := 0#32
  ![v54.toNat, 0]
def k0_off10 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v447 : Index := Scalar.indexCast v21
  let c0_179 : Index := 0#32
  ![v447.toNat, 0]
def k0_off11 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v499 : Index := Scalar.indexCast v21
  let c0_191 : Index := 0#32
  ![v499.toNat, 0]
def k0_off12 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v944 : Index := Scalar.indexCast v21
  let c128_404 : Index := 128#32
  ![v944.toNat, 128]
def k0_off13 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1389 : Index := Scalar.indexCast v21
  let c256_617 : Index := 256#32
  ![v1389.toNat, 256]
def k0_off14 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v1834 : Index := Scalar.indexCast v21
  let c384_830 : Index := 384#32
  ![v1834.toNat, 384]
def k0_off15 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2279 : Index := Scalar.indexCast v21
  let c512_1043 : Index := 512#32
  ![v2279.toNat, 512]
def k0_off16 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v2724 : Index := Scalar.indexCast v21
  let c640_1257 : Index := 640#32
  ![v2724.toNat, 640]
def k0_off17 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v3169 : Index := Scalar.indexCast v21
  let c768_1470 : Index := 768#32
  ![v3169.toNat, 768]
def k0_off18 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v3614 : Index := Scalar.indexCast v21
  let c896_1683 : Index := 896#32
  ![v3614.toNat, 896]
def k0_off19 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v4059 : Index := Scalar.indexCast v21
  let c1024_1896 : Index := 1024#32
  ![v4059.toNat, 1024]
def k0_off20 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v4504 : Index := Scalar.indexCast v21
  let c1152_2109 : Index := 1152#32
  ![v4504.toNat, 1152]
def k0_off21 (v1 : BitVec 32) : Fin 2 → Nat :=
  let c128_i32_6 : BitVec 32 := 128#32
  let v19 : BitVec 1 := Scalar.cmpi .sgt v1 c128_i32_6
  let c256_i32_7 : BitVec 32 := 256#32
  let c0_i32_8 : BitVec 32 := 0#32
  let v20 : BitVec 32 := Scalar.select v19 c256_i32_7 c0_i32_8
  let v21 : BitVec 32 := v20
  let v4949 : Index := Scalar.indexCast v21
  let c1280_2322 : Index := 1280#32
  ![v4949.toNat, 1280]

def k0_chk1 (v1 : BitVec 32) : Prop :=
  (∀ (k0_h3 : k0_cond3 v1 = 1#1), 128 ∣ (k0_mult1 v1).toNat) ∧
  (∀ (k0_h3 : k0_cond3 v1 = 1#1), ∀ a, (k0_off4 v1) a + S128x2048.size a ≤ S512x2176.size a) ∧
  (∀ (k0_h3 : k0_cond3 v1 = 1#1), ∀ a, (k0_off5 v1) a + S128x2048.size a ≤ S512x4096.size a) ∧
  (∀ (k0_h3 : k0_cond3 v1 = 1#1), ∀ (hinb : ∀ a, (k0_off5 v1) a + S128x2048.size a ≤ S512x4096.size a), (Rect.unit (s := S512x4096) (k0_off5 v1) S128x2048.size hinb).PackedRows (EltTy.packing .bf16)) ∧
  (∀ (k0_h3 : k0_cond3 v1 = 1#1), ∀ a, (k0_off6 v1) a + S128x2048.size a ≤ S512x4096.size a) ∧
  (∀ (k0_h3 : k0_cond3 v1 = 1#1), ∀ (hinb : ∀ a, (k0_off6 v1) a + S128x2048.size a ≤ S512x4096.size a), (Rect.unit (s := S512x4096) (k0_off6 v1) S128x2048.size hinb).PackedRows (EltTy.packing .bf16)) ∧
  (∀ (k0_h3 : k0_cond3 v1 = 1#1), ∀ a, (k0_off7 v1) a + S128x128.size a ≤ S512x2176.size a) ∧
  (∀ (k0_h3 : k0_cond3 v1 = 1#1), ∀ a, (k0_off9 v1) a + S128x128.size a ≤ S512x128.size a) ∧
  (∀ (k0_h3 : k0_cond3 v1 = 1#1), ∀ a, (k0_off10 v1) a + S128x4096.size a ≤ S512x4096.size a) ∧
  (∀ (k0_h3 : k0_cond3 v1 = 1#1), ∀ a, (k0_off11 v1) a + S128x128.size a ≤ S512x1408.size a) ∧
  (∀ (k0_h3 : k0_cond3 v1 = 1#1), ∀ (hinb : ∀ a, (k0_off11 v1) a + S128x128.size a ≤ S512x1408.size a), (Rect.unit (s := S512x1408) (k0_off11 v1) S128x128.size hinb).PackedRows (EltTy.packing .bf16)) ∧
  (∀ (k0_h3 : k0_cond3 v1 = 1#1), ∀ a, (k0_off12 v1) a + S128x128.size a ≤ S512x1408.size a) ∧
  (∀ (k0_h3 : k0_cond3 v1 = 1#1), ∀ (hinb : ∀ a, (k0_off12 v1) a + S128x128.size a ≤ S512x1408.size a), (Rect.unit (s := S512x1408) (k0_off12 v1) S128x128.size hinb).PackedRows (EltTy.packing .bf16)) ∧
  (∀ (k0_h3 : k0_cond3 v1 = 1#1), ∀ a, (k0_off13 v1) a + S128x128.size a ≤ S512x1408.size a) ∧
  (∀ (k0_h3 : k0_cond3 v1 = 1#1), ∀ (hinb : ∀ a, (k0_off13 v1) a + S128x128.size a ≤ S512x1408.size a), (Rect.unit (s := S512x1408) (k0_off13 v1) S128x128.size hinb).PackedRows (EltTy.packing .bf16)) ∧
  (∀ (k0_h3 : k0_cond3 v1 = 1#1), ∀ a, (k0_off14 v1) a + S128x128.size a ≤ S512x1408.size a) ∧
  (∀ (k0_h3 : k0_cond3 v1 = 1#1), ∀ (hinb : ∀ a, (k0_off14 v1) a + S128x128.size a ≤ S512x1408.size a), (Rect.unit (s := S512x1408) (k0_off14 v1) S128x128.size hinb).PackedRows (EltTy.packing .bf16)) ∧
  (∀ (k0_h3 : k0_cond3 v1 = 1#1), ∀ a, (k0_off15 v1) a + S128x128.size a ≤ S512x1408.size a) ∧
  (∀ (k0_h3 : k0_cond3 v1 = 1#1), ∀ (hinb : ∀ a, (k0_off15 v1) a + S128x128.size a ≤ S512x1408.size a), (Rect.unit (s := S512x1408) (k0_off15 v1) S128x128.size hinb).PackedRows (EltTy.packing .bf16)) ∧
  (∀ (k0_h3 : k0_cond3 v1 = 1#1), ∀ a, (k0_off16 v1) a + S128x128.size a ≤ S512x1408.size a) ∧
  (∀ (k0_h3 : k0_cond3 v1 = 1#1), ∀ (hinb : ∀ a, (k0_off16 v1) a + S128x128.size a ≤ S512x1408.size a), (Rect.unit (s := S512x1408) (k0_off16 v1) S128x128.size hinb).PackedRows (EltTy.packing .bf16)) ∧
  (∀ (k0_h3 : k0_cond3 v1 = 1#1), ∀ a, (k0_off17 v1) a + S128x128.size a ≤ S512x1408.size a) ∧
  (∀ (k0_h3 : k0_cond3 v1 = 1#1), ∀ (hinb : ∀ a, (k0_off17 v1) a + S128x128.size a ≤ S512x1408.size a), (Rect.unit (s := S512x1408) (k0_off17 v1) S128x128.size hinb).PackedRows (EltTy.packing .bf16)) ∧
  (∀ (k0_h3 : k0_cond3 v1 = 1#1), ∀ a, (k0_off18 v1) a + S128x128.size a ≤ S512x1408.size a) ∧
  (∀ (k0_h3 : k0_cond3 v1 = 1#1), ∀ (hinb : ∀ a, (k0_off18 v1) a + S128x128.size a ≤ S512x1408.size a), (Rect.unit (s := S512x1408) (k0_off18 v1) S128x128.size hinb).PackedRows (EltTy.packing .bf16)) ∧
  (∀ (k0_h3 : k0_cond3 v1 = 1#1), ∀ a, (k0_off19 v1) a + S128x128.size a ≤ S512x1408.size a) ∧
  (∀ (k0_h3 : k0_cond3 v1 = 1#1), ∀ (hinb : ∀ a, (k0_off19 v1) a + S128x128.size a ≤ S512x1408.size a), (Rect.unit (s := S512x1408) (k0_off19 v1) S128x128.size hinb).PackedRows (EltTy.packing .bf16)) ∧
  (∀ (k0_h3 : k0_cond3 v1 = 1#1), ∀ a, (k0_off20 v1) a + S128x128.size a ≤ S512x1408.size a) ∧
  (∀ (k0_h3 : k0_cond3 v1 = 1#1), ∀ (hinb : ∀ a, (k0_off20 v1) a + S128x128.size a ≤ S512x1408.size a), (Rect.unit (s := S512x1408) (k0_off20 v1) S128x128.size hinb).PackedRows (EltTy.packing .bf16)) ∧
  (∀ (k0_h3 : k0_cond3 v1 = 1#1), ∀ a, (k0_off21 v1) a + S128x128.size a ≤ S512x1408.size a) ∧
  (∀ (k0_h3 : k0_cond3 v1 = 1#1), ∀ (hinb : ∀ a, (k0_off21 v1) a + S128x128.size a ≤ S512x1408.size a), (Rect.unit (s := S512x1408) (k0_off21 v1) S128x128.size hinb).PackedRows (EltTy.packing .bf16))
theorem k0_mult1_dvd : ∀ (v1 : BitVec 32) (k0_hw1 : k0_chk1 v1), ∀ (k0_h3 : k0_cond3 v1 = 1#1), 128 ∣ (k0_mult1 v1).toNat := fun v1 k0_hw1 k0_h3 => k0_hw1.1 k0_h3
theorem k0_off4_inb : ∀ (v1 : BitVec 32) (k0_hw1 : k0_chk1 v1), ∀ (k0_h3 : k0_cond3 v1 = 1#1), ∀ a, (k0_off4 v1) a + S128x2048.size a ≤ S512x2176.size a := fun v1 k0_hw1 k0_h3 => k0_hw1.2.1 k0_h3
theorem k0_off5_inb : ∀ (v1 : BitVec 32) (k0_hw1 : k0_chk1 v1), ∀ (k0_h3 : k0_cond3 v1 = 1#1), ∀ a, (k0_off5 v1) a + S128x2048.size a ≤ S512x4096.size a := fun v1 k0_hw1 k0_h3 => k0_hw1.2.2.1 k0_h3
theorem k0_off5_packedbf16 : ∀ (v1 : BitVec 32) (k0_hw1 : k0_chk1 v1), ∀ (k0_h3 : k0_cond3 v1 = 1#1), (Rect.unit (s := S512x4096) (k0_off5 v1) S128x2048.size (k0_off5_inb v1 k0_hw1 k0_h3)).PackedRows (EltTy.packing .bf16) := fun v1 k0_hw1 k0_h3 => k0_hw1.2.2.2.1 k0_h3 (k0_off5_inb v1 k0_hw1 k0_h3)
theorem k0_off6_inb : ∀ (v1 : BitVec 32) (k0_hw1 : k0_chk1 v1), ∀ (k0_h3 : k0_cond3 v1 = 1#1), ∀ a, (k0_off6 v1) a + S128x2048.size a ≤ S512x4096.size a := fun v1 k0_hw1 k0_h3 => k0_hw1.2.2.2.2.1 k0_h3
theorem k0_off6_packedbf16 : ∀ (v1 : BitVec 32) (k0_hw1 : k0_chk1 v1), ∀ (k0_h3 : k0_cond3 v1 = 1#1), (Rect.unit (s := S512x4096) (k0_off6 v1) S128x2048.size (k0_off6_inb v1 k0_hw1 k0_h3)).PackedRows (EltTy.packing .bf16) := fun v1 k0_hw1 k0_h3 => k0_hw1.2.2.2.2.2.1 k0_h3 (k0_off6_inb v1 k0_hw1 k0_h3)
theorem k0_off7_inb : ∀ (v1 : BitVec 32) (k0_hw1 : k0_chk1 v1), ∀ (k0_h3 : k0_cond3 v1 = 1#1), ∀ a, (k0_off7 v1) a + S128x128.size a ≤ S512x2176.size a := fun v1 k0_hw1 k0_h3 => k0_hw1.2.2.2.2.2.2.1 k0_h3
theorem k0_off9_inb : ∀ (v1 : BitVec 32) (k0_hw1 : k0_chk1 v1), ∀ (k0_h3 : k0_cond3 v1 = 1#1), ∀ a, (k0_off9 v1) a + S128x128.size a ≤ S512x128.size a := fun v1 k0_hw1 k0_h3 => k0_hw1.2.2.2.2.2.2.2.1 k0_h3
theorem k0_off10_inb : ∀ (v1 : BitVec 32) (k0_hw1 : k0_chk1 v1), ∀ (k0_h3 : k0_cond3 v1 = 1#1), ∀ a, (k0_off10 v1) a + S128x4096.size a ≤ S512x4096.size a := fun v1 k0_hw1 k0_h3 => k0_hw1.2.2.2.2.2.2.2.2.1 k0_h3
theorem k0_off11_inb : ∀ (v1 : BitVec 32) (k0_hw1 : k0_chk1 v1), ∀ (k0_h3 : k0_cond3 v1 = 1#1), ∀ a, (k0_off11 v1) a + S128x128.size a ≤ S512x1408.size a := fun v1 k0_hw1 k0_h3 => k0_hw1.2.2.2.2.2.2.2.2.2.1 k0_h3
theorem k0_off11_packedbf16 : ∀ (v1 : BitVec 32) (k0_hw1 : k0_chk1 v1), ∀ (k0_h3 : k0_cond3 v1 = 1#1), (Rect.unit (s := S512x1408) (k0_off11 v1) S128x128.size (k0_off11_inb v1 k0_hw1 k0_h3)).PackedRows (EltTy.packing .bf16) := fun v1 k0_hw1 k0_h3 => k0_hw1.2.2.2.2.2.2.2.2.2.2.1 k0_h3 (k0_off11_inb v1 k0_hw1 k0_h3)
theorem k0_off12_inb : ∀ (v1 : BitVec 32) (k0_hw1 : k0_chk1 v1), ∀ (k0_h3 : k0_cond3 v1 = 1#1), ∀ a, (k0_off12 v1) a + S128x128.size a ≤ S512x1408.size a := fun v1 k0_hw1 k0_h3 => k0_hw1.2.2.2.2.2.2.2.2.2.2.2.1 k0_h3
theorem k0_off12_packedbf16 : ∀ (v1 : BitVec 32) (k0_hw1 : k0_chk1 v1), ∀ (k0_h3 : k0_cond3 v1 = 1#1), (Rect.unit (s := S512x1408) (k0_off12 v1) S128x128.size (k0_off12_inb v1 k0_hw1 k0_h3)).PackedRows (EltTy.packing .bf16) := fun v1 k0_hw1 k0_h3 => k0_hw1.2.2.2.2.2.2.2.2.2.2.2.2.1 k0_h3 (k0_off12_inb v1 k0_hw1 k0_h3)
theorem k0_off13_inb : ∀ (v1 : BitVec 32) (k0_hw1 : k0_chk1 v1), ∀ (k0_h3 : k0_cond3 v1 = 1#1), ∀ a, (k0_off13 v1) a + S128x128.size a ≤ S512x1408.size a := fun v1 k0_hw1 k0_h3 => k0_hw1.2.2.2.2.2.2.2.2.2.2.2.2.2.1 k0_h3
theorem k0_off13_packedbf16 : ∀ (v1 : BitVec 32) (k0_hw1 : k0_chk1 v1), ∀ (k0_h3 : k0_cond3 v1 = 1#1), (Rect.unit (s := S512x1408) (k0_off13 v1) S128x128.size (k0_off13_inb v1 k0_hw1 k0_h3)).PackedRows (EltTy.packing .bf16) := fun v1 k0_hw1 k0_h3 => k0_hw1.2.2.2.2.2.2.2.2.2.2.2.2.2.2.1 k0_h3 (k0_off13_inb v1 k0_hw1 k0_h3)
theorem k0_off14_inb : ∀ (v1 : BitVec 32) (k0_hw1 : k0_chk1 v1), ∀ (k0_h3 : k0_cond3 v1 = 1#1), ∀ a, (k0_off14 v1) a + S128x128.size a ≤ S512x1408.size a := fun v1 k0_hw1 k0_h3 => k0_hw1.2.2.2.2.2.2.2.2.2.2.2.2.2.2.2.1 k0_h3
theorem k0_off14_packedbf16 : ∀ (v1 : BitVec 32) (k0_hw1 : k0_chk1 v1), ∀ (k0_h3 : k0_cond3 v1 = 1#1), (Rect.unit (s := S512x1408) (k0_off14 v1) S128x128.size (k0_off14_inb v1 k0_hw1 k0_h3)).PackedRows (EltTy.packing .bf16) := fun v1 k0_hw1 k0_h3 => k0_hw1.2.2.2.2.2.2.2.2.2.2.2.2.2.2.2.2.1 k0_h3 (k0_off14_inb v1 k0_hw1 k0_h3)
theorem k0_off15_inb : ∀ (v1 : BitVec 32) (k0_hw1 : k0_chk1 v1), ∀ (k0_h3 : k0_cond3 v1 = 1#1), ∀ a, (k0_off15 v1) a + S128x128.size a ≤ S512x1408.size a := fun v1 k0_hw1 k0_h3 => k0_hw1.2.2.2.2.2.2.2.2.2.2.2.2.2.2.2.2.2.1 k0_h3
theorem k0_off15_packedbf16 : ∀ (v1 : BitVec 32) (k0_hw1 : k0_chk1 v1), ∀ (k0_h3 : k0_cond3 v1 = 1#1), (Rect.unit (s := S512x1408) (k0_off15 v1) S128x128.size (k0_off15_inb v1 k0_hw1 k0_h3)).PackedRows (EltTy.packing .bf16) := fun v1 k0_hw1 k0_h3 => k0_hw1.2.2.2.2.2.2.2.2.2.2.2.2.2.2.2.2.2.2.1 k0_h3 (k0_off15_inb v1 k0_hw1 k0_h3)
theorem k0_off16_inb : ∀ (v1 : BitVec 32) (k0_hw1 : k0_chk1 v1), ∀ (k0_h3 : k0_cond3 v1 = 1#1), ∀ a, (k0_off16 v1) a + S128x128.size a ≤ S512x1408.size a := fun v1 k0_hw1 k0_h3 => k0_hw1.2.2.2.2.2.2.2.2.2.2.2.2.2.2.2.2.2.2.2.1 k0_h3
theorem k0_off16_packedbf16 : ∀ (v1 : BitVec 32) (k0_hw1 : k0_chk1 v1), ∀ (k0_h3 : k0_cond3 v1 = 1#1), (Rect.unit (s := S512x1408) (k0_off16 v1) S128x128.size (k0_off16_inb v1 k0_hw1 k0_h3)).PackedRows (EltTy.packing .bf16) := fun v1 k0_hw1 k0_h3 => k0_hw1.2.2.2.2.2.2.2.2.2.2.2.2.2.2.2.2.2.2.2.2.1 k0_h3 (k0_off16_inb v1 k0_hw1 k0_h3)
theorem k0_off17_inb : ∀ (v1 : BitVec 32) (k0_hw1 : k0_chk1 v1), ∀ (k0_h3 : k0_cond3 v1 = 1#1), ∀ a, (k0_off17 v1) a + S128x128.size a ≤ S512x1408.size a := fun v1 k0_hw1 k0_h3 => k0_hw1.2.2.2.2.2.2.2.2.2.2.2.2.2.2.2.2.2.2.2.2.2.1 k0_h3
theorem k0_off17_packedbf16 : ∀ (v1 : BitVec 32) (k0_hw1 : k0_chk1 v1), ∀ (k0_h3 : k0_cond3 v1 = 1#1), (Rect.unit (s := S512x1408) (k0_off17 v1) S128x128.size (k0_off17_inb v1 k0_hw1 k0_h3)).PackedRows (EltTy.packing .bf16) := fun v1 k0_hw1 k0_h3 => k0_hw1.2.2.2.2.2.2.2.2.2.2.2.2.2.2.2.2.2.2.2.2.2.2.1 k0_h3 (k0_off17_inb v1 k0_hw1 k0_h3)
theorem k0_off18_inb : ∀ (v1 : BitVec 32) (k0_hw1 : k0_chk1 v1), ∀ (k0_h3 : k0_cond3 v1 = 1#1), ∀ a, (k0_off18 v1) a + S128x128.size a ≤ S512x1408.size a := fun v1 k0_hw1 k0_h3 => k0_hw1.2.2.2.2.2.2.2.2.2.2.2.2.2.2.2.2.2.2.2.2.2.2.2.1 k0_h3
theorem k0_off18_packedbf16 : ∀ (v1 : BitVec 32) (k0_hw1 : k0_chk1 v1), ∀ (k0_h3 : k0_cond3 v1 = 1#1), (Rect.unit (s := S512x1408) (k0_off18 v1) S128x128.size (k0_off18_inb v1 k0_hw1 k0_h3)).PackedRows (EltTy.packing .bf16) := fun v1 k0_hw1 k0_h3 => k0_hw1.2.2.2.2.2.2.2.2.2.2.2.2.2.2.2.2.2.2.2.2.2.2.2.2.1 k0_h3 (k0_off18_inb v1 k0_hw1 k0_h3)
theorem k0_off19_inb : ∀ (v1 : BitVec 32) (k0_hw1 : k0_chk1 v1), ∀ (k0_h3 : k0_cond3 v1 = 1#1), ∀ a, (k0_off19 v1) a + S128x128.size a ≤ S512x1408.size a := fun v1 k0_hw1 k0_h3 => k0_hw1.2.2.2.2.2.2.2.2.2.2.2.2.2.2.2.2.2.2.2.2.2.2.2.2.2.1 k0_h3
theorem k0_off19_packedbf16 : ∀ (v1 : BitVec 32) (k0_hw1 : k0_chk1 v1), ∀ (k0_h3 : k0_cond3 v1 = 1#1), (Rect.unit (s := S512x1408) (k0_off19 v1) S128x128.size (k0_off19_inb v1 k0_hw1 k0_h3)).PackedRows (EltTy.packing .bf16) := fun v1 k0_hw1 k0_h3 => k0_hw1.2.2.2.2.2.2.2.2.2.2.2.2.2.2.2.2.2.2.2.2.2.2.2.2.2.2.1 k0_h3 (k0_off19_inb v1 k0_hw1 k0_h3)
theorem k0_off20_inb : ∀ (v1 : BitVec 32) (k0_hw1 : k0_chk1 v1), ∀ (k0_h3 : k0_cond3 v1 = 1#1), ∀ a, (k0_off20 v1) a + S128x128.size a ≤ S512x1408.size a := fun v1 k0_hw1 k0_h3 => k0_hw1.2.2.2.2.2.2.2.2.2.2.2.2.2.2.2.2.2.2.2.2.2.2.2.2.2.2.2.1 k0_h3
theorem k0_off20_packedbf16 : ∀ (v1 : BitVec 32) (k0_hw1 : k0_chk1 v1), ∀ (k0_h3 : k0_cond3 v1 = 1#1), (Rect.unit (s := S512x1408) (k0_off20 v1) S128x128.size (k0_off20_inb v1 k0_hw1 k0_h3)).PackedRows (EltTy.packing .bf16) := fun v1 k0_hw1 k0_h3 => k0_hw1.2.2.2.2.2.2.2.2.2.2.2.2.2.2.2.2.2.2.2.2.2.2.2.2.2.2.2.2.1 k0_h3 (k0_off20_inb v1 k0_hw1 k0_h3)
theorem k0_off21_inb : ∀ (v1 : BitVec 32) (k0_hw1 : k0_chk1 v1), ∀ (k0_h3 : k0_cond3 v1 = 1#1), ∀ a, (k0_off21 v1) a + S128x128.size a ≤ S512x1408.size a := fun v1 k0_hw1 k0_h3 => k0_hw1.2.2.2.2.2.2.2.2.2.2.2.2.2.2.2.2.2.2.2.2.2.2.2.2.2.2.2.2.2.1 k0_h3
theorem k0_off21_packedbf16 : ∀ (v1 : BitVec 32) (k0_hw1 : k0_chk1 v1), ∀ (k0_h3 : k0_cond3 v1 = 1#1), (Rect.unit (s := S512x1408) (k0_off21 v1) S128x128.size (k0_off21_inb v1 k0_hw1 k0_h3)).PackedRows (EltTy.packing .bf16) := fun v1 k0_hw1 k0_h3 => k0_hw1.2.2.2.2.2.2.2.2.2.2.2.2.2.2.2.2.2.2.2.2.2.2.2.2.2.2.2.2.2.2 k0_h3 (k0_off21_inb v1 k0_hw1 k0_h3)

def k0_cond1 (v1 : BitVec 32) : BitVec 1 :=
  let c384_i32 : BitVec 32 := 384#32
  let v2 : BitVec 1 := Scalar.cmpi .sgt v1 c384_i32
  let v3 : BitVec 32 := Scalar.extui v2
  let c0_i32 : BitVec 32 := 0#32
  let v4 : BitVec 1 := Scalar.cmpi .ne v3 c0_i32
  v4

def k0_cond2 (v1 : BitVec 32) : BitVec 1 :=
  let c128_i32 : BitVec 32 := 128#32
  let v5 : BitVec 1 := Scalar.cmpi .sgt v1 c128_i32
  let c384_i32_0 : BitVec 32 := 384#32
  let v6 : BitVec 1 := Scalar.cmpi .sle v1 c384_i32_0
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x2176 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x32x22 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateUpReferenceIdeal.lean ====
abbrev S96 : Shape := ⟨1, ![96]⟩
abbrev S1 : Shape := ⟨1, ![1]⟩
abbrev S49152x2176 : Shape := ⟨2, ![49152, 2176]⟩
abbrev S32x4096x2816 : Shape := ⟨3, ![32, 4096, 2816]⟩
abbrev S32x32x22 : Shape := ⟨3, ![32, 32, 22]⟩
abbrev S247 : Shape := ⟨1, ![247]⟩
abbrev S96x1 : Shape := ⟨2, ![96, 1]⟩
abbrev S96x512 : Shape := ⟨2, ![96, 512]⟩
abbrev S49152 : Shape := ⟨1, ![49152]⟩
abbrev S49152x128 : Shape := ⟨2, ![49152, 128]⟩
abbrev S49152x1 : Shape := ⟨2, ![49152, 1]⟩
abbrev S_ : Shape := ⟨0, ![]⟩
abbrev S49152x2048 : Shape := ⟨2, ![49152, 2048]⟩
abbrev S49152x2048x2 : Shape := ⟨3, ![49152, 2048, 2]⟩
abbrev S49152x2x2048 : Shape := ⟨3, ![49152, 2, 2048]⟩
abbrev S49152x4096 : Shape := ⟨2, ![49152, 4096]⟩
abbrev S32x32x1x22x1 : Shape := ⟨5, ![32, 32, 1, 22, 1]⟩
abbrev S32x32x128x22x128 : Shape := ⟨5, ![32, 32, 128, 22, 128]⟩
abbrev S32x2816x49152 : Shape := ⟨3, ![32, 2816, 49152]⟩
abbrev S32x49152x2816 : Shape := ⟨3, ![32, 49152, 2816]⟩
abbrev S1x49152x1 : Shape := ⟨3, ![1, 49152, 1]⟩
abbrev S49152x2816 : Shape := ⟨2, ![49152, 2816]⟩
abbrev S49152x1408 : Shape := ⟨2, ![49152, 1408]⟩
abbrev S49152x11x128 : Shape := ⟨3, ![49152, 11, 128]⟩
abbrev S49152x11 : Shape := ⟨2, ![49152, 11]⟩
abbrev S49152x11x1 : Shape := ⟨3, ![49152, 11, 1]⟩
abbrev S49152x11x247 : Shape := ⟨3, ![49152, 11, 247]⟩

abbrev nBuf : Space → Nat
  | .hbm => 96
  | .vmem => 4
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S1, .i32⟩
  | .hbm, ⟨3, _⟩ => ⟨S49152x2176, .i32⟩
  | .hbm, ⟨4, _⟩ => ⟨S32x4096x2816, .fp8e4m3⟩
  | .hbm, ⟨5, _⟩ => ⟨S32x32x22, .f32⟩
  | .hbm, ⟨6, _⟩ => ⟨S247, .f32⟩
  | .hbm, ⟨7, _⟩ => ⟨S96x1, .i32⟩
  | .hbm, ⟨8, _⟩ => ⟨S96x512, .i32⟩
  | .hbm, ⟨9, _⟩ => ⟨S49152, .i32⟩
  | .hbm, ⟨10, _⟩ => ⟨S49152x128, .i32⟩
  | .hbm, ⟨11, _⟩ => ⟨S49152x128, .i32⟩
  | .hbm, ⟨12, _⟩ => ⟨S49152x128, .f32⟩
  | .hbm, ⟨13, _⟩ => ⟨S49152x1, .i32⟩
  | .hbm, ⟨14, _⟩ => ⟨S49152x128, .i32⟩
  | .hbm, ⟨15, _⟩ => ⟨S49152x128, .i1⟩
  | .hbm, ⟨16, _⟩ => ⟨S_, .f32⟩
  | .hbm, ⟨17, _⟩ => ⟨S49152x128, .f32⟩
  | .hbm, ⟨18, _⟩ => ⟨S49152x128, .f32⟩
  | .hbm, ⟨19, _⟩ => ⟨S_, .f32⟩
  | .hbm, ⟨20, _⟩ => ⟨S49152, .f32⟩
  | .hbm, ⟨21, _⟩ => ⟨S49152x2048, .i32⟩
  | .hbm, ⟨22, _⟩ => ⟨S49152x2048x2, .bf16⟩
  | .hbm, ⟨23, _⟩ => ⟨S49152x2x2048, .bf16⟩
  | .hbm, ⟨24, _⟩ => ⟨S49152x4096, .bf16⟩
  | .hbm, ⟨25, _⟩ => ⟨S32x32x22, .bf16⟩
  | .hbm, ⟨26, _⟩ => ⟨S32x4096x2816, .bf16⟩
  | .hbm, ⟨27, _⟩ => ⟨S32x32x1x22x1, .bf16⟩
  | .hbm, ⟨28, _⟩ => ⟨S32x32x128x22x128, .bf16⟩
  | .hbm, ⟨29, _⟩ => ⟨S32x4096x2816, .bf16⟩
  | .hbm, ⟨30, _⟩ => ⟨S32x4096x2816, .bf16⟩
  | .hbm, ⟨31, _⟩ => ⟨S32x2816x49152, .f32⟩
  | .hbm, ⟨32, _⟩ => ⟨S32x49152x2816, .f32⟩
  | .hbm, ⟨33, _⟩ => ⟨S32x49152x2816, .i32⟩
  | .hbm, ⟨34, _⟩ => ⟨S1x49152x1, .i32⟩
  | .hbm, ⟨35, _⟩ => ⟨S32x49152x2816, .i32⟩
  | .hbm, ⟨36, _⟩ => ⟨S32x49152x2816, .i1⟩
  | .hbm, ⟨37, _⟩ => ⟨S_, .f32⟩
  | .hbm, ⟨38, _⟩ => ⟨S32x49152x2816, .f32⟩
  | .hbm, ⟨39, _⟩ => ⟨S32x49152x2816, .f32⟩
  | .hbm, ⟨40, _⟩ => ⟨S_, .f32⟩
  | .hbm, ⟨41, _⟩ => ⟨S49152x2816, .f32⟩
  | .hbm, ⟨42, _⟩ => ⟨S49152x1408, .f32⟩
  | .hbm, ⟨43, _⟩ => ⟨S49152x1408, .f32⟩
  | .hbm, ⟨44, _⟩ => ⟨S49152x1408, .f32⟩
  | .hbm, ⟨45, _⟩ => ⟨S49152x1408, .f32⟩
  | .hbm, ⟨46, _⟩ => ⟨S_, .f32⟩
  | .hbm, ⟨47, _⟩ => ⟨S49152x1408, .f32⟩
  | .hbm, ⟨48, _⟩ => ⟨S49152x1408, .f32⟩
  | .hbm, ⟨49, _⟩ => ⟨S_, .f32⟩
  | .hbm, ⟨50, _⟩ => ⟨S49152x1408, .f32⟩
  | .hbm, ⟨51, _⟩ => ⟨S49152x1408, .f32⟩
  | .hbm, ⟨52, _⟩ => ⟨S49152x1408, .f32⟩
  | .hbm, ⟨53, _⟩ => ⟨S49152x1408, .f32⟩
  | .hbm, ⟨54, _⟩ => ⟨S49152x11x128, .f32⟩
  | .hbm, ⟨55, _⟩ => ⟨S49152x11x128, .f32⟩
  | .hbm, ⟨56, _⟩ => ⟨S_, .f32⟩
  | .hbm, ⟨57, _⟩ => ⟨S49152x11, .f32⟩
  | .hbm, ⟨58, _⟩ => ⟨S_, .f32⟩
  | .hbm, ⟨59, _⟩ => ⟨S49152x11, .f32⟩
  | .hbm, ⟨60, _⟩ => ⟨S49152x11, .f32⟩
  | .hbm, ⟨61, _⟩ => ⟨S49152x11x1, .f32⟩
  | .hbm, ⟨62, _⟩ => ⟨S49152x11x247, .f32⟩
  | .hbm, ⟨63, _⟩ => ⟨S49152x11x247, .f32⟩
  | .hbm, ⟨64, _⟩ => ⟨S49152x11x247, .i1⟩
  | .hbm, ⟨65, _⟩ => ⟨S_, .f32⟩
  | .hbm, ⟨66, _⟩ => ⟨S49152x11x247, .f32⟩
  | .hbm, ⟨67, _⟩ => ⟨S49152x11x247, .f32⟩
  | .hbm, ⟨68, _⟩ => ⟨S_, .f32⟩
  | .hbm, ⟨69, _⟩ => ⟨S49152x11, .f32⟩
  | .hbm, ⟨70, _⟩ => ⟨S49152x11, .i1⟩
  | .hbm, ⟨71, _⟩ => ⟨S_, .f32⟩
  | .hbm, ⟨72, _⟩ => ⟨S49152x11, .f32⟩
  | .hbm, ⟨73, _⟩ => ⟨S_, .f32⟩
  | .hbm, ⟨74, _⟩ => ⟨S49152x11, .f32⟩
  | .hbm, ⟨75, _⟩ => ⟨S49152x11, .f32⟩
  | .hbm, ⟨76, _⟩ => ⟨S_, .f32⟩
  | .hbm, ⟨77, _⟩ => ⟨S49152x11, .f32⟩
  | .hbm, ⟨78, _⟩ => ⟨S49152x11, .f32⟩
  | .hbm, ⟨79, _⟩ => ⟨S49152x11x1, .f32⟩
  | .hbm, ⟨80, _⟩ => ⟨S49152x11x128, .f32⟩
  | .hbm, ⟨81, _⟩ => ⟨S49152x11x128, .f32⟩
  | .hbm, ⟨82, _⟩ => ⟨S_, .f32⟩
  | .hbm, ⟨83, _⟩ => ⟨S49152x11x128, .f32⟩
  | .hbm, ⟨84, _⟩ => ⟨S49152x11x128, .f32⟩
  | .hbm, ⟨85, _⟩ => ⟨S_, .f32⟩
  | .hbm, ⟨86, _⟩ => ⟨S49152x11x128, .f32⟩
  | .hbm, ⟨87, _⟩ => ⟨S49152x11x128, .f32⟩
  | .hbm, ⟨88, _⟩ => ⟨S49152x11x128, .bf16⟩
  | .hbm, ⟨89, _⟩ => ⟨S49152x11, .bf16⟩
  | .hbm, ⟨90, _⟩ => ⟨S49152x11x1, .bf16⟩
  | .hbm, ⟨91, _⟩ => ⟨S49152x11x128, .bf16⟩
  | .hbm, ⟨92, _⟩ => ⟨S49152x11x128, .bf16⟩
  | .hbm, ⟨93, _⟩ => ⟨S49152x1408, .bf16⟩
  | .hbm, ⟨94, _⟩ => ⟨S49152x1, .f32⟩
  | .hbm, ⟨95, _⟩ => ⟨S49152x128, .f32⟩
  | .local _ .vmem, ⟨0, _⟩ => ⟨S32x4096x2816, .fp8e4m3⟩
  | .local _ .vmem, ⟨1, _⟩ => ⟨S32x4096x2816, .bf16⟩
  | .local _ .vmem, ⟨2, _⟩ => ⟨S49152x11x128, .f32⟩
  | .local _ .vmem, ⟨3, _⟩ => ⟨S49152x11x128, .bf16⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc0_sem0_0 : DmaSem sig := 0
abbrev cc0_sem1_0 : DmaSem sig := 1
abbrev cc1_sem0_0 : DmaSem sig := 2
abbrev cc1_sem1_0 : DmaSem sig := 3

abbrev nD : Nat := 1
abbrev τ : Topo := Topo.v7x

variable {F : FTy → Type} [FloatOps F]

abbrev grid0 : Pipeline.Grid := .none

abbrev stage0_0 : Fin 1 → Memref sig .tc .vmem S32x4096x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4096x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S49152x11x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S49152x11x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== Proof.Body.lean ====
/- The kernel body of the down projection written once, as a recursion.

   The printed body is some 4900 statements: three branches by the number of valid rows of the tile (512 rows, 256 rows,
   128 rows at a run-time offset), each unrolled over 16 pieces of 256 output columns and, in a piece, over 2 · 11
   blocks of weights.  Here a branch is `chunksK` at its number of rows `m` and its row offset `r0`; the last theorem of
   the module says that the printed body is this program. -/
module

public import proofs.«01_k».proof.KernelIdeal
public import Idealize.ShloMosaic.Lib.Tactic

@[expose] public section

noncomputable section

namespace Cert.KernelIdeal.Down

open Cert.KernelIdeal
open Idealize.ShloMosaic Idealize.SL.Sem
open Facts₀ Facts

variable {F : FTy → Type} [FloatOps F] [Facts]

/-- Programs of the kernel body. -/
abbrev PR (F : FTy → Type) [FloatOps F] := Prog (TpuEff nD τ sig (Elt F) Λ₀ .tc) PUnit

/-- The block `(fb, db)` of 128 by 128 codes of the staged weights. -/
abbrev rW (fb : Fin 11) (db : Fin 32) : Rect S1x1408x4096 :=
  Rect.unit (s := S1x1408x4096) ![0, 128 * fb.val, 128 * db.val] S1x128x128.size (by
    have := fb.isLt; have := db.isLt
    intro a; match a with
    | ⟨0, _⟩ => show 0 + 1 ≤ 1; omega
    | ⟨1, _⟩ => show 128 * fb.val + 128 ≤ 1408; omega
    | ⟨2, _⟩ => show 128 * db.val + 128 ≤ 4096; omega)

/-- The one scale of block `(fb, db)`. -/
abbrev rS (fb : Fin 11) (db : Fin 32) : Rect S1x11x32 :=
  Rect.unit (s := S1x11x32) ![0, fb.val, db.val] S1x1x1.size (by
    have := fb.isLt; have := db.isLt
    intro a; match a with
    | ⟨0, _⟩ => show 0 + 1 ≤ 1; omega
    | ⟨1, _⟩ => show fb.val + 1 ≤ 11; omega
    | ⟨2, _⟩ => show db.val + 1 ≤ 32; omega)

/-- A block of codes widened to bf16 and multiplied by its scale, rounded to bf16. -/
def blk (w : Vec F S1x128x128 .fp8e4m3) (s : Elt F .f32) : FVec F S128x128 .bf16 :=
  mulf (extf .bf16 (shapeCast S128x128 w shapeCasts_S1x128x128_S128x128 : FVec F S128x128 .fp8e4m3) bitsLt_fp8e4m3_bf16)
    (truncf .bf16 (broadcast S128x128 s : FVec F S128x128 .f32) bitsLt_bf16_f32)

/-- One more element at the end of a tuple. -/
def snoc {α : Type} {n : ℕ} (v : Fin n → α) (x : α) : Fin (n + 1) → α :=
  fun i => if h : i.val < n then v ⟨i.val, h⟩ else x

/-- Read the first `n` blocks of block column `db`, in order, each with its scale, and go on with the scaled blocks. -/
def colK (arg6 : Memref sig .tc .vmem S1x1408x4096 .fp8e4m3) (arg7 : Memref sig .tc .smem S1x11x32 .f32) (db : Fin 32) :
    (n : ℕ) → n ≤ 11 → ((Fin n → FVec F S128x128 .bf16) → PR F) → PR F
  | 0, _, k => k (fun i => i.elim0)
  | n + 1, h, k => colK arg6 arg7 db n (Nat.le_of_succ_le h) fun v =>
      .op (.load arg6 (rW ⟨n, h⟩ db).toLoadRect (View.loadsAt_vmem h_S1x128x128)) fun w =>
      .op (.load arg7 (rS ⟨n, h⟩ db) (View.loadsAt_rect (View.loads_smem_one rfl numel1_S1x1x1)))
        fun f => k (snoc v (blk w (f (Shape.Idx.first (numel1_S1x1x1.symm ▸ Nat.one_pos)))))

/-- A block column: its 11 scaled blocks one under the other. -/
def column (v : Fin 11 → FVec F S128x128 .bf16) : FVec F S1408x128 .bf16 :=
  concatenate S1408x128 0 [⟨S128x128, v 0⟩, ⟨S128x128, v 1⟩, ⟨S128x128, v 2⟩, ⟨S128x128, v 3⟩, ⟨S128x128, v 4⟩, ⟨S128x128, v 5⟩,
      ⟨S128x128, v 6⟩, ⟨S128x128, v 7⟩, ⟨S128x128, v 8⟩, ⟨S128x128, v 9⟩, ⟨S128x128, v 10⟩]
    concatenates_S128x128_S128x128_S128x128_S128x128_S128x128_S128x128_S128x128_S128x128_S128x128_S128x128_S128x128_S1408x128_d0

/-- Two block columns side by side: the operand of one product. -/
def wide (a b : Fin 11 → FVec F S128x128 .bf16) : FVec F S1408x256 .bf16 :=
  concatenate S1408x256 1 [⟨S1408x128, column a⟩, ⟨S1408x128, column b⟩] concatenates_S1408x128_S1408x128_S1408x256_d1

/-- What a branch of the body takes as its rows: how many, from where, and the shapes' facts. -/
structure Rows where
  /-- the number of rows -/
  m : ℕ
  /-- the first row -/
  r0 : ℕ
  pos : 0 < m
  le : r0 + m ≤ 512
  dot : DotDims.WF ⟨2, ![m, 1408]⟩ S1408x256 ⟨2, ![m, 256]⟩ [1] [0] [0] [1] [] []
  cat : Shape.Concatenates [⟨2, ![m, 128]⟩, ⟨2, ![m, 128]⟩] ⟨2, ![m, 256]⟩ 1
  cast : Shape.ShapeCasts ⟨2, ![m, 256]⟩ ⟨3, ![1, m, 256]⟩
  posH : 0 < Shape.numel ⟨2, ![m, 1408]⟩
  posR : 0 < Shape.numel ⟨2, ![m, 128]⟩
  posY : 0 < Shape.numel ⟨3, ![1, m, 256]⟩

namespace Rows
variable (R : Rows)

abbrev SH : Shape := ⟨2, ![R.m, 1408]⟩
abbrev SR : Shape := ⟨2, ![R.m, 128]⟩
abbrev SO : Shape := ⟨2, ![R.m, 256]⟩
abbrev SY : Shape := ⟨3, ![1, R.m, 256]⟩

abbrev rH : Rect S512x1408 := Rect.unit (s := S512x1408) ![R.r0, 0] R.SH.size (by
  have := R.le
  intro a; match a with
  | ⟨0, _⟩ => show R.r0 + R.m ≤ 512; omega
  | ⟨1, _⟩ => show 0 + 1408 ≤ 1408; omega)

abbrev rR : Rect S512x128 := Rect.unit (s := S512x128) ![R.r0, 0] R.SR.size (by
  have := R.le
  intro a; match a with
  | ⟨0, _⟩ => show R.r0 + R.m ≤ 512; omega
  | ⟨1, _⟩ => show 0 + 128 ≤ 128; omega)

/-- The place of column piece `j` in the staged block of the result. -/
abbrev rY (j : Fin 16) : Rect S4x512x1024 := Rect.unit (s := S4x512x1024) ![j.val / 4, R.r0, 256 * (j.val % 4)] R.SY.size (by
  have := R.le; have := j.isLt
  intro a; match a with
  | ⟨0, _⟩ => show j.val / 4 + 1 ≤ 4; omega
  | ⟨1, _⟩ => show R.r0 + R.m ≤ 512; omega
  | ⟨2, _⟩ => show 256 * (j.val % 4) + 256 ≤ 1024; omega)

abbrev dims : DotDims R.SH S1408x256 R.SO where
  lhsContracting := [1]
  rhsContracting := [0]
  lhsNonContracting := [0]
  rhsNonContracting := [1]
  lhsBatch := []
  rhsBatch := []
  wf := R.dot

/-- What piece of 256 columns the branch stores: the rows times the widened weights, times the row weights. -/
def val (a b : Fin 11 → FVec F S128x128 .bf16) (h : Vec F R.SH .bf16) (rw : Vec F R.SR .f32) : FVec F R.SY .f32 :=
  shapeCast R.SY
    (mulf (matmul R.dims none h (wide a b) (constant R.SO .f32 0x00000000#32) : FVec F R.SO .f32)
      (concatenate R.SO 1 [⟨R.SR, rw⟩, ⟨R.SR, rw⟩] R.cat : FVec F R.SO .f32)) R.cast

end Rows

/-- Piece `j` of a branch. -/
def chunkK (R : Rows) (arg4 : Memref sig .tc .vmem S512x1408 .bf16) (arg5 : Memref sig .tc .vmem S512x128 .f32)
    (arg6 : Memref sig .tc .vmem S1x1408x4096 .fp8e4m3) (arg7 : Memref sig .tc .smem S1x11x32 .f32)
    (arg8 : Memref sig .tc .vmem S4x512x1024 .f32) (j : Fin 16) (k : PR F) : PR F :=
  colK arg6 arg7 ⟨2 * j.val, by have := j.isLt; omega⟩ 11 (Nat.le_refl 11) fun a =>
  colK arg6 arg7 ⟨2 * j.val + 1, by have := j.isLt; omega⟩ 11 (Nat.le_refl 11) fun b =>
  .op (.load arg4 R.rH.toLoadRect (View.loadsAt_vmem R.posH)) fun h =>
  .op (.load arg5 R.rR.toLoadRect (View.loadsAt_vmem R.posR)) fun rw =>
  .op (.load arg8 (R.rY j).toLoadRect (View.loadsAt_vmem R.posY)) fun _ =>
  .op (.store arg8 (R.rY j) (R.val a b h rw) Finset.univ (View.stores_vmem_bits_univ R.posY rfl) (.inl rfl)) fun _ => k

/-- The first `n` pieces of a branch, in order, then `k`. -/
def chunksK (R : Rows) (arg4 : Memref sig .tc .vmem S512x1408 .bf16) (arg5 : Memref sig .tc .vmem S512x128 .f32)
    (arg6 : Memref sig .tc .vmem S1x1408x4096 .fp8e4m3) (arg7 : Memref sig .tc .smem S1x11x32 .f32)
    (arg8 : Memref sig .tc .vmem S4x512x1024 .f32) : (n : ℕ) → n ≤ 16 → PR F → PR F
  | 0, _, k => k
  | n + 1, h, k => chunksK R arg4 arg5 arg6 arg7 arg8 n (Nat.le_of_succ_le h) (chunkK R arg4 arg5 arg6 arg7 arg8 ⟨n, h⟩ k)

/-- All 512 rows. -/
def rows512 : Rows where
  m := 512
  r0 := 0
  pos := by decide
  le := by decide
  dot := dot_S512x1408_S1408x256_S512x256_1_0_0_1_n_n_wf
  cat := concatenates_S512x128_S512x128_S512x256_d1
  cast := shapeCasts_S512x256_S1x512x256
  posH := h_S512x1408
  posR := h_S512x128
  posY := h_S1x512x256

/-- The first 256 rows. -/
def rows256 : Rows where
  m := 256
  r0 := 0
  pos := by decide
  le := by decide
  dot := dot_S256x1408_S1408x256_S256x256_1_0_0_1_n_n_wf
  cat := concatenates_S256x128_S256x128_S256x256_d1
  cast := shapeCasts_S256x256_S1x256x256
  posH := h_S256x1408
  posR := h_S256x128
  posY := h_S1x256x256

/-- 128 rows, from the row the body computes. -/
def rows128 (v1 : BitVec 32) (hc : k0_chk1 v1) (h3 : k0_cond3 v1 = 1#1) : Rows where
  m := 128
  r0 := (k0_mult1 v1).toNat
  pos := by decide
  le := k0_off2_inb v1 hc h3 0
  dot := dot_S128x1408_S1408x256_S128x256_1_0_0_1_n_n_wf
  cat := concatenates_S128x128_S128x128_S128x256_d1
  cast := shapeCasts_S128x256_S1x128x256
  posH := h_S128x1408
  posR := h_S128x128
  posY := h_S1x128x256

/-- The body after it has read the tile's number of valid rows `v`. -/
def branches (arg4 : Memref sig .tc .vmem S512x1408 .bf16) (arg5 : Memref sig .tc .vmem S512x128 .f32)
    (arg6 : Memref sig .tc .vmem S1x1408x4096 .fp8e4m3) (arg7 : Memref sig .tc .smem S1x11x32 .f32) (arg8 : Memref sig .tc .vmem S4x512x1024 .f32)
    (v : BitVec 32) (hc : k0_chk1 v) : PR F :=
  let part3 : PR F :=
    if h : k0_cond3 v = 1#1 then chunksK (rows128 v hc h) arg4 arg5 arg6 arg7 arg8 16 (Nat.le_refl 16) (.ret ⟨⟩) else .ret ⟨⟩
  let part2 : PR F :=
    if _h : k0_cond2 v = 1#1 then chunksK rows256 arg4 arg5 arg6 arg7 arg8 16 (Nat.le_refl 16) part3 else part3
  if _h : k0_cond1 v = 1#1 then chunksK rows512 arg4 arg5 arg6 arg7 arg8 16 (Nat.le_refl 16) part2 else part2

/-- The body at the word `v`: the word's side condition, then the branches. -/
def atWord (arg4 : Memref sig .tc .vmem S512x1408 .bf16) (arg5 : Memref sig .tc .vmem S512x128 .f32)
    (arg6 : Memref sig .tc .vmem S1x1408x4096 .fp8e4m3) (arg7 : Memref sig .tc .smem S1x11x32 .f32) (arg8 : Memref sig .tc .vmem S4x512x1024 .f32)
    (v : BitVec 32) : PR F :=
  .op (.assume (k0_chk1 v) (k0_chk1.dec v)) fun hc => branches arg4 arg5 arg6 arg7 arg8 v hc.down

/-- The body: the tile's number of valid rows, and the branches that number selects. -/
def clean (i : grid0.Coords) (arg2 : Memref sig .tc .smem S96 .i32) (arg4 : Memref sig .tc .vmem S512x1408 .bf16)
    (arg5 : Memref sig .tc .vmem S512x128 .f32) (arg6 : Memref sig .tc .vmem S1x1408x4096 .fp8e4m3)
    (arg7 : Memref sig .tc .smem S1x11x32 .f32) (arg8 : Memref sig .tc .vmem S4x512x1024 .f32) : PR F :=
  .op (.load arg2 (Rect.unit (s := S96) (k0_off1 i) S1.size (k0_off1_inb i)) (View.loadsAt_rect (View.loads_smem_one rfl numel1_S1)))
    fun f =>
    atWord arg4 arg5 arg6 arg7 arg8 (f (Shape.Idx.first (numel1_S1.symm ▸ Nat.one_pos)))

end Cert.KernelIdeal.Down

end
-- ==== Proof.BodyEq.lean ====
/- The printed kernel body is the recursion of `Body`. -/
module

public import proofs.«01_k».proof.Proof.Body

@[expose] public section

namespace Cert.KernelIdeal.Down

open Cert.KernelIdeal
open Idealize.ShloMosaic Idealize.SL.Sem

variable {F : FTy → Type} [FloatOps F] [Facts]

set_option maxRecDepth 100000 in
set_option maxHeartbeats 0 in
/-- The printed body is the recursion. -/
theorem cc0_down_eq (i : grid0.Coords) (arg1 : Memref sig .tc .smem S96 .i32) (harg1 : arg1.IsWhole) (arg2 : Memref sig .tc .smem S96 .i32)
    (harg2 : arg2.IsWhole) (arg3 : Memref sig .tc .smem S1 .i32) (harg3 : arg3.IsWhole) (arg4 : Memref sig .tc .vmem S512x1408 .bf16)
    (harg4 : arg4.IsWhole) (arg5 : Memref sig .tc .vmem S512x128 .f32) (harg5 : arg5.IsWhole)
    (arg6 : Memref sig .tc .vmem S1x1408x4096 .fp8e4m3) (harg6 : arg6.IsWhole) (arg7 : Memref sig .tc .smem S1x11x32 .f32)
    (harg7 : arg7.IsWhole) (arg8 : Memref sig .tc .vmem S4x512x1024 .f32) (harg8 : arg8.IsWhole) :
    cc0_down (F := F) i arg1 harg1 arg2 harg2 arg3 harg3 arg4 harg4 arg5 harg5 arg6 harg6 arg7 harg7 arg8 harg8
      = clean i arg2 arg4 arg5 arg6 arg7 arg8 := by
  sl_kernel_rfl

end Cert.KernelIdeal.Down
-- ==== Proof.BodyRun.lean ====
/- Running the body: what it leaves in the staged block of the result.

   `colK_run`, `chunksK_run`: a block column, and the pieces of a branch, run under the weakest precondition; `clean_run`:
   the whole body.  The contents it leaves are `leaves`: each branch lays its 16 pieces over what was there before. -/
module

public import proofs.«01_k».proof.Proof.BodyEq
public import Idealize.ShloMosaic.Lib.Memref
public import Idealize.ShloMosaic.Lib.Pipeline.Kit
public import Idealize.ShloMosaic.Lib.Exec
public import Idealize.ShloMosaic.Rules.Step

@[expose] public section

noncomputable section

namespace Cert.KernelIdeal.Down

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Facts]

local notation "𝕄" => MT nD τ sig Unit (Elt F) ℕ (UR sig nD τ) ℕ

/-! ## The values -/

/-- The scaled block `(fb, db)` of the staged weights `x2` at the staged scales `x3`. -/
def blkAt (x2 : S1x1408x4096.Idx → Elt F .fp8e4m3) (x3 : S1x11x32.Idx → Elt F .f32) (db : Fin 32) (fb : Fin 11) : FVec F S128x128 .bf16 :=
  blk (fun x => x2 ((rW fb db).emb x)) (x3 ((rS fb db).emb (Shape.Idx.first (numel1_S1x1x1.symm ▸ Nat.one_pos))))

/-- Piece `j` of a branch, from the staged blocks. -/
def pieceAt (R : Rows) (x0 : S512x1408.Idx → Elt F .bf16) (x1 : S512x128.Idx → Elt F .f32) (x2 : S1x1408x4096.Idx → Elt F .fp8e4m3)
    (x3 : S1x11x32.Idx → Elt F .f32) (j : Fin 16) : FVec F R.SY .f32 :=
  R.val (blkAt x2 x3 ⟨2 * j.val, by have := j.isLt; omega⟩) (blkAt x2 x3 ⟨2 * j.val + 1, by have := j.isLt; omega⟩)
    (fun x => x0 (R.rH.emb x)) (fun x => x1 (R.rR.emb x))

/-- The first `n` pieces of a branch laid over `Y`. -/
def lay (R : Rows) (x0 : S512x1408.Idx → Elt F .bf16) (x1 : S512x128.Idx → Elt F .f32) (x2 : S1x1408x4096.Idx → Elt F .fp8e4m3)
    (x3 : S1x11x32.Idx → Elt F .f32) : (n : ℕ) → n ≤ 16 → (S4x512x1024.Idx → Elt F .f32) → S4x512x1024.Idx → Elt F .f32
  | 0, _, Y => Y
  | n + 1, h, Y => (R.rY ⟨n, h⟩).overlay (lay R x0 x1 x2 x3 n (Nat.le_of_succ_le h) Y) (pieceAt R x0 x1 x2 x3 ⟨n, h⟩)

open Classical in
/-- What the body leaves in the staged block of the result, at a tile of `v` valid rows, from the contents `Y` before. -/
def leaves (v : BitVec 32) (hc : k0_chk1 v) (x0 : S512x1408.Idx → Elt F .bf16) (x1 : S512x128.Idx → Elt F .f32)
    (x2 : S1x1408x4096.Idx → Elt F .fp8e4m3) (x3 : S1x11x32.Idx → Elt F .f32) (Y : S4x512x1024.Idx → Elt F .f32) :
    S4x512x1024.Idx → Elt F .f32 :=
  let Y1 := if k0_cond1 v = 1#1 then lay rows512 x0 x1 x2 x3 16 (Nat.le_refl 16) Y else Y
  let Y2 := if k0_cond2 v = 1#1 then lay rows256 x0 x1 x2 x3 16 (Nat.le_refl 16) Y1 else Y1
  if h : k0_cond3 v = 1#1 then lay (rows128 v hc h) x0 x1 x2 x3 16 (Nat.le_refl 16) Y2 else Y2

/-! ## The runs -/

theorem snoc_eq {α : Type} {n N : ℕ} (g : Fin N → α) (h : n + 1 ≤ N) :
    snoc (fun i : Fin n => g ⟨i.val, by have := i.isLt; omega⟩) (g ⟨n, h⟩) = fun i : Fin (n + 1) => g ⟨i.val, by have := i.isLt; omega⟩ := by
  funext i
  unfold snoc
  split
  · rfl
  · next hi => congr 1; apply Fin.ext; have := i.isLt; simp only; omega

section Runs

variable (c : Dev nD)
  (arg4 : Memref sig .tc .vmem S512x1408 .bf16) (arg5 : Memref sig .tc .vmem S512x128 .f32)
  (arg6 : Memref sig .tc .vmem S1x1408x4096 .fp8e4m3) (arg7 : Memref sig .tc .smem S1x11x32 .f32)
  (arg8 : Memref sig .tc .vmem S4x512x1024 .f32)
  (x0 : S512x1408.Idx → Elt F .bf16) (x1 : S512x128.Idx → Elt F .f32) (x2 : S1x1408x4096.Idx → Elt F .fp8e4m3)
  (x3 : S1x11x32.Idx → Elt F .f32)

/-- A rectangle of a memref's elements lies among the memref's own. -/
theorem acc_sub {sp : Space} {s : Shape} {e : EltTy} (m : Memref sig .tc sp s e) (r : Rect s) : (m.access r).set ⊆ m.view.set :=
  m.view.set_slice_subset r

/-- Loading a rectangle of a memref held at contents `X`. -/
theorem owns_load {cs : CoreSpace} {s : Shape} {e : EltTy} (m : Memref sig .tc cs s e) (r : Rect s) (hl : m.view.LoadsAt r)
    (X : s.Idx → Elt F e) (P : sProp 𝕄) {Q : PUnit.{1} → sProp 𝕄} {k : (r.toLoadRect.shape.Idx → Elt F e) → PR F}
    (h : iprop(owns (c : Thread nD τ) m fullShare X ∗ P) ⊢ wp frame (wpE (defs₀ (F := F)) Variants.none c none) Set.univ (k fun x => X (r.emb x)) Q) :
    iprop(owns (c : Thread nD τ) m fullShare X ∗ P)
      ⊢ wp frame (wpE (defs₀ (F := F)) Variants.none c none) Set.univ (.op (.load m r.toLoadRect hl) k) Q := by
  unfold owns at h ⊢
  iintro ⟨⟨%f, %hf, Hm⟩, HP⟩
  iapply (wp_load_rect (Val := Elt F) Variants.none (c : Thread nD τ) none Set.univ (Q := Q) (m := m) (r := r) (hl := hl) (k := k) (acc_sub m r)) $$ Hm
  iintro Hm
  subst hf
  iapply h
  isplitl [Hm]
  · iexists f
    isplitr
    · ipureintro; rfl
    · iexact Hm
  · iexact HP

/-- Storing a rectangle of a memref held at contents `X`: the rectangle laid over them. -/
theorem owns_store {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1)
    (X : s.Idx → Elt F e) (P : sProp 𝕄) {Q : PUnit.{1} → sProp 𝕄} {k : PUnit → PR F}
    (h : iprop(owns (c : Thread nD τ) m fullShare (r.overlay X w) ∗ P)
      ⊢ wp frame (wpE (defs₀ (F := F)) Variants.none c none) Set.univ (k ⟨⟩) Q) :
    iprop(owns (c : Thread nD τ) m fullShare X ∗ P)
      ⊢ wp frame (wpE (defs₀ (F := F)) Variants.none c none) Set.univ (.op (.store m r w Finset.univ hx hm) k) Q := by
  unfold owns at h ⊢
  iintro ⟨⟨%f, %hf, Hm⟩, HP⟩
  iapply (wp_store (Val := Elt F) Variants.none (c : Thread nD τ) none Set.univ (Q := Q) (m := m) (r := r) (w := w) (hx := hx) (hm := hm) (k := k)
    (by rw [View.setOn_univ]; exact acc_sub m r)) $$ Hm
  iintro Hm
  iapply h
  isplitl [Hm]
  · iexists _
    isplitr
    swap
    · iexact Hm
    · ipureintro
      funext y
      subst hf
      by_cases hy : y ∈ r.set
      · rw [← r.map_emb_univ] at hy
        obtain ⟨x, -, rfl⟩ := Finset.mem_map.mp hy
        rw [Rect.overlay_emb]
        exact View.read_slice_write_emb r f w (Finset.mem_univ x)
      · rw [Rect.overlay_of_not_mem _ _ _ hy]
        exact View.read_slice_write_of_not_mem r f w Finset.univ (by rw [r.map_emb_univ]; exact hy)
  · iexact HP

/-- A block column: its reads change nothing, and what they hand on are the scaled blocks. -/
theorem colK_run (db : Fin 32) (P : sProp 𝕄) {Q : PUnit.{1} → sProp 𝕄} (n : ℕ) (hn : n ≤ 11) (k : (Fin n → FVec F S128x128 .bf16) → PR F)
    (h : iprop(owns (c : Thread nD τ) arg6 fullShare x2 ∗ owns (c : Thread nD τ) arg7 fullShare x3 ∗ P)
      ⊢ wp frame (wpE (defs₀ (F := F)) Variants.none c none) Set.univ (k fun i => blkAt x2 x3 db ⟨i.val, by have := i.isLt; omega⟩) Q) :
    iprop(owns (c : Thread nD τ) arg6 fullShare x2 ∗ owns (c : Thread nD τ) arg7 fullShare x3 ∗ P)
      ⊢ wp frame (wpE (defs₀ (F := F)) Variants.none c none) Set.univ (colK arg6 arg7 db n hn k) Q := by
  induction n with
  | zero =>
    have e : (fun i : Fin 0 => i.elim0) = fun i : Fin 0 => blkAt x2 x3 db ⟨i.val, by have := i.isLt; omega⟩ := funext fun i => i.elim0
    unfold colK
    rw [e]; exact h
  | succ n ih =>
    unfold colK
    refine ih (Nat.le_of_succ_le hn) _ ?_
    refine owns_load c arg6 _ _ x2 _ ?_
    have hs : iprop(owns (c : Thread nD τ) arg6 fullShare x2 ∗ owns (c : Thread nD τ) arg7 fullShare x3 ∗ P)
        ⊢ iprop(owns (c : Thread nD τ) arg7 fullShare x3 ∗ owns (c : Thread nD τ) arg6 fullShare x2 ∗ P) := by
      iintro ⟨H6, H7, HP⟩
      isplitl [H7]; · iexact H7
      isplitl [H6]; · iexact H6
      iexact HP
    have hs' : iprop(owns (c : Thread nD τ) arg7 fullShare x3 ∗ owns (c : Thread nD τ) arg6 fullShare x2 ∗ P)
        ⊢ iprop(owns (c : Thread nD τ) arg6 fullShare x2 ∗ owns (c : Thread nD τ) arg7 fullShare x3 ∗ P) := by
      iintro ⟨H7, H6, HP⟩
      isplitl [H6]; · iexact H6
      isplitl [H7]; · iexact H7
      iexact HP
    refine hs.trans ?_
    refine owns_load c arg7 (rS ⟨n, hn⟩ db) _ x3 _ ?_
    refine hs'.trans ?_
    rw [← snoc_eq (blkAt x2 x3 db) hn] at h
    exact h

/-- What the pieces hold throughout: the four staged inputs. -/
def held : sProp 𝕄 :=
  iprop(owns (c : Thread nD τ) arg6 fullShare x2 ∗ owns (c : Thread nD τ) arg7 fullShare x3
    ∗ owns (c : Thread nD τ) arg4 fullShare x0 ∗ owns (c : Thread nD τ) arg5 fullShare x1)

theorem chunkK_run (R : Rows) (j : Fin 16) (Y : S4x512x1024.Idx → Elt F .f32) (P : sProp 𝕄) {Q : PUnit.{1} → sProp 𝕄} (k : PR F)
    (h : iprop(held c arg4 arg5 arg6 arg7 x0 x1 x2 x3
        ∗ owns (c : Thread nD τ) arg8 fullShare ((R.rY j).overlay Y (pieceAt R x0 x1 x2 x3 j)) ∗ P)
      ⊢ wp frame (wpE (defs₀ (F := F)) Variants.none c none) Set.univ k Q) :
    iprop(held c arg4 arg5 arg6 arg7 x0 x1 x2 x3 ∗ owns (c : Thread nD τ) arg8 fullShare Y ∗ P)
      ⊢ wp frame (wpE (defs₀ (F := F)) Variants.none c none) Set.univ (chunkK R arg4 arg5 arg6 arg7 arg8 j k) Q := by
  unfold held at h ⊢
  have a1 : ∀ Y' : S4x512x1024.Idx → Elt F .f32,
      iprop((owns (c : Thread nD τ) arg6 fullShare x2 ∗ owns (c : Thread nD τ) arg7 fullShare x3
        ∗ owns (c : Thread nD τ) arg4 fullShare x0 ∗ owns (c : Thread nD τ) arg5 fullShare x1) ∗ owns (c : Thread nD τ) arg8 fullShare Y' ∗ P)
      ⊢ iprop(owns (c : Thread nD τ) arg6 fullShare x2 ∗ owns (c : Thread nD τ) arg7 fullShare x3
        ∗ owns (c : Thread nD τ) arg4 fullShare x0 ∗ owns (c : Thread nD τ) arg5 fullShare x1 ∗ owns (c : Thread nD τ) arg8 fullShare Y' ∗ P) := by
    intro Y'
    iintro ⟨⟨H6, H7, H4, H5⟩, H8, HP⟩
    isplitl [H6]; · iexact H6
    isplitl [H7]; · iexact H7
    isplitl [H4]; · iexact H4
    isplitl [H5]; · iexact H5
    isplitl [H8]; · iexact H8
    iexact HP
  refine (a1 Y).trans ?_
  unfold chunkK
  refine colK_run c arg6 arg7 x2 x3 _ _ 11 (Nat.le_refl 11) _ ?_
  refine colK_run c arg6 arg7 x2 x3 _ _ 11 (Nat.le_refl 11) _ ?_
  have b1 : ∀ Y' : S4x512x1024.Idx → Elt F .f32,
      iprop(owns (c : Thread nD τ) arg6 fullShare x2 ∗ owns (c : Thread nD τ) arg7 fullShare x3
        ∗ owns (c : Thread nD τ) arg4 fullShare x0 ∗ owns (c : Thread nD τ) arg5 fullShare x1 ∗ owns (c : Thread nD τ) arg8 fullShare Y' ∗ P)
      ⊢ iprop(owns (c : Thread nD τ) arg4 fullShare x0 ∗ owns (c : Thread nD τ) arg5 fullShare x1 ∗ owns (c : Thread nD τ) arg8 fullShare Y'
        ∗ owns (c : Thread nD τ) arg6 fullShare x2 ∗ owns (c : Thread nD τ) arg7 fullShare x3 ∗ P) := by
    intro Y'
    iintro ⟨H6, H7, H4, H5, H8, HP⟩
    isplitl [H4]; · iexact H4
    isplitl [H5]; · iexact H5
    isplitl [H8]; · iexact H8
    isplitl [H6]; · iexact H6
    isplitl [H7]; · iexact H7
    iexact HP
  refine (b1 Y).trans ?_
  refine owns_load c arg4 R.rH _ x0 _ ?_
  have b2 : ∀ Y' : S4x512x1024.Idx → Elt F .f32,
      iprop(owns (c : Thread nD τ) arg4 fullShare x0 ∗ owns (c : Thread nD τ) arg5 fullShare x1 ∗ owns (c : Thread nD τ) arg8 fullShare Y'
        ∗ owns (c : Thread nD τ) arg6 fullShare x2 ∗ owns (c : Thread nD τ) arg7 fullShare x3 ∗ P)
      ⊢ iprop(owns (c : Thread nD τ) arg5 fullShare x1 ∗ owns (c : Thread nD τ) arg4 fullShare x0 ∗ owns (c : Thread nD τ) arg8 fullShare Y'
        ∗ owns (c : Thread nD τ) arg6 fullShare x2 ∗ owns (c : Thread nD τ) arg7 fullShare x3 ∗ P) := by
    intro Y'
    iintro ⟨H4, H5, H8, H6, H7, HP⟩
    isplitl [H5]; · iexact H5
    isplitl [H4]; · iexact H4
    isplitl [H8]; · iexact H8
    isplitl [H6]; · iexact H6
    isplitl [H7]; · iexact H7
    iexact HP
  refine (b2 Y).trans ?_
  refine owns_load c arg5 R.rR _ x1 _ ?_
  have b3 : ∀ Y' : S4x512x1024.Idx → Elt F .f32,
      iprop(owns (c : Thread nD τ) arg5 fullShare x1 ∗ owns (c : Thread nD τ) arg4 fullShare x0 ∗ owns (c : Thread nD τ) arg8 fullShare Y'
        ∗ owns (c : Thread nD τ) arg6 fullShare x2 ∗ owns (c : Thread nD τ) arg7 fullShare x3 ∗ P)
      ⊢ iprop(owns (c : Thread nD τ) arg8 fullShare Y' ∗ owns (c : Thread nD τ) arg4 fullShare x0 ∗ owns (c : Thread nD τ) arg5 fullShare x1
        ∗ owns (c : Thread nD τ) arg6 fullShare x2 ∗ owns (c : Thread nD τ) arg7 fullShare x3 ∗ P) := by
    intro Y'
    iintro ⟨H5, H4, H8, H6, H7, HP⟩
    isplitl [H8]; · iexact H8
    isplitl [H4]; · iexact H4
    isplitl [H5]; · iexact H5
    isplitl [H6]; · iexact H6
    isplitl [H7]; · iexact H7
    iexact HP
  refine (b3 Y).trans ?_
  refine owns_load c arg8 (R.rY j) _ Y _ ?_
  refine owns_store c arg8 (R.rY j) _ _ _ Y _ ?_
  refine .trans ?_ h
  iintro ⟨H8, H4, H5, H6, H7, HP⟩
  isplitl [H6 H7 H4 H5]
  · isplitl [H6]; · iexact H6
    isplitl [H7]; · iexact H7
    isplitl [H4]; · iexact H4
    iexact H5
  isplitl [H8]; · iexact H8
  iexact HP

/-- The pieces of a branch, one after the other. -/
theorem chunksK_run (R : Rows) (Y : S4x512x1024.Idx → Elt F .f32) (P : sProp 𝕄) {Q : PUnit.{1} → sProp 𝕄} (n : ℕ) (hn : n ≤ 16) (k : PR F)
    (h : iprop(held c arg4 arg5 arg6 arg7 x0 x1 x2 x3 ∗ owns (c : Thread nD τ) arg8 fullShare (lay R x0 x1 x2 x3 n hn Y) ∗ P)
      ⊢ wp frame (wpE (defs₀ (F := F)) Variants.none c none) Set.univ k Q) :
    iprop(held c arg4 arg5 arg6 arg7 x0 x1 x2 x3 ∗ owns (c : Thread nD τ) arg8 fullShare Y ∗ P)
      ⊢ wp frame (wpE (defs₀ (F := F)) Variants.none c none) Set.univ (chunksK R arg4 arg5 arg6 arg7 arg8 n hn k) Q := by
  induction n generalizing k with
  | zero => exact h
  | succ n ih =>
    unfold chunksK
    exact ih (Nat.le_of_succ_le hn) _ (chunkK_run c arg4 arg5 arg6 arg7 arg8 x0 x1 x2 x3 R ⟨n, hn⟩ _ P k h)

theorem branches_run (Y : S4x512x1024.Idx → Elt F .f32) (P : sProp 𝕄)
    {Q : PUnit.{1} → sProp 𝕄} (v : BitVec 32) (hc : k0_chk1 v)
    (h : iprop(held c arg4 arg5 arg6 arg7 x0 x1 x2 x3
        ∗ owns (c : Thread nD τ) arg8 fullShare (leaves v hc x0 x1 x2 x3 Y) ∗ P) ⊢ Q ⟨⟩) :
    iprop(held c arg4 arg5 arg6 arg7 x0 x1 x2 x3 ∗ owns (c : Thread nD τ) arg8 fullShare Y ∗ P)
      ⊢ wp frame (wpE (defs₀ (F := F)) Variants.none c none) Set.univ (branches (F := F) arg4 arg5 arg6 arg7 arg8 v hc) Q := by
  have hret : iprop(held c arg4 arg5 arg6 arg7 x0 x1 x2 x3
        ∗ owns (c : Thread nD τ) arg8 fullShare (leaves v hc x0 x1 x2 x3 Y) ∗ P)
      ⊢ wp frame (wpE (defs₀ (F := F)) Variants.none c none) Set.univ (.ret ⟨⟩ : PR F) Q :=
    h.trans (le_wp_ret _ _ _ _ _)
  unfold leaves at hret
  have part3 : ∀ Y2 : S4x512x1024.Idx → Elt F .f32,
      (iprop(held c arg4 arg5 arg6 arg7 x0 x1 x2 x3 ∗ owns (c : Thread nD τ) arg8 fullShare
          (if h : k0_cond3 v = 1#1 then lay (rows128 v hc h) x0 x1 x2 x3 16 (Nat.le_refl 16) Y2 else Y2) ∗ P)
        ⊢ wp frame (wpE (defs₀ (F := F)) Variants.none c none) Set.univ (.ret ⟨⟩ : PR F) Q) →
      iprop(held c arg4 arg5 arg6 arg7 x0 x1 x2 x3 ∗ owns (c : Thread nD τ) arg8 fullShare Y2 ∗ P)
        ⊢ wp frame (wpE (defs₀ (F := F)) Variants.none c none) Set.univ
          (if h : k0_cond3 v = 1#1 then chunksK (rows128 v hc h) arg4 arg5 arg6 arg7 arg8 16 (Nat.le_refl 16) (.ret ⟨⟩) else .ret ⟨⟩) Q := by
    intro Y2 hY
    by_cases h3 : k0_cond3 v = 1#1
    · rw [dif_pos h3] at hY ⊢
      exact chunksK_run c arg4 arg5 arg6 arg7 arg8 x0 x1 x2 x3 _ _ _ _ _ _ hY
    · rw [dif_neg h3] at hY ⊢
      exact hY
  unfold branches
  by_cases h1 : k0_cond1 v = 1#1 <;> by_cases h2 : k0_cond2 v = 1#1
  · simp only [if_pos h1, if_pos h2] at hret
    rw [dif_pos h1, dif_pos h2]
    refine chunksK_run c arg4 arg5 arg6 arg7 arg8 x0 x1 x2 x3 _ _ _ _ _ _ ?_
    refine chunksK_run c arg4 arg5 arg6 arg7 arg8 x0 x1 x2 x3 _ _ _ _ _ _ ?_
    exact part3 _ hret
  · simp only [if_pos h1, if_neg h2] at hret
    rw [dif_pos h1, dif_neg h2]
    refine chunksK_run c arg4 arg5 arg6 arg7 arg8 x0 x1 x2 x3 _ _ _ _ _ _ ?_
    exact part3 _ hret
  · simp only [if_neg h1, if_pos h2] at hret
    rw [dif_neg h1, dif_pos h2]
    refine chunksK_run c arg4 arg5 arg6 arg7 arg8 x0 x1 x2 x3 _ _ _ _ _ _ ?_
    exact part3 _ hret
  · simp only [if_neg h1, if_neg h2] at hret
    rw [dif_neg h1, dif_neg h2]
    exact part3 _ hret

/-- Reading one word of a table held at `T` and going on: it suffices to go on at the word. -/
theorem word_run (i : grid0.Coords) (T : S96.Idx → Elt F .i32) (q : PosShare TreeShare) (P : sProp 𝕄)
    {Q : PUnit.{1} → sProp 𝕄} (v : BitVec 32) (K : BitVec 32 → PR F)
    (hv : T ((Rect.unit (s := S96) (k0_off1 i) S1.size (k0_off1_inb i)).emb (Shape.Idx.first (numel1_S1.symm ▸ Nat.one_pos))) = v)
    (hl : (Memref.whole main_arg1).view.LoadsAt (Rect.unit (s := S96) (k0_off1 i) S1.size (k0_off1_inb i)).toLoadRect)
    (h : iprop((((c : Thread nD τ).loc main_arg1) ↦{q} T) ∗ P)
      ⊢ wp frame (wpE (defs₀ (F := F)) Variants.none c none) Set.univ (K v) Q) :
    iprop((((c : Thread nD τ).loc main_arg1) ↦{q} T) ∗ P)
      ⊢ wp frame (wpE (defs₀ (F := F)) Variants.none c none) Set.univ
          (.op (.load (Memref.whole main_arg1) (Rect.unit (s := S96) (k0_off1 i) S1.size (k0_off1_inb i)).toLoadRect hl)
            fun f => K (f (Shape.Idx.first (numel1_S1.symm ▸ Nat.one_pos)))) Q := by
  iintro ⟨HT, HP⟩
  iapply (wp_load_rect (Val := Elt F) Variants.none (c : Thread nD τ) none Set.univ (Q := Q) (m := Memref.whole main_arg1)
    (r := Rect.unit (s := S96) (k0_off1 i) S1.size (k0_off1_inb i)) (q := q) (f := T) (S := Finset.univ) (Finset.subset_univ _)) $$ HT
  iintro HT
  have hread : ((Memref.whole main_arg1).access (Rect.unit (s := S96) (k0_off1 i) S1.size (k0_off1_inb i))).read (Elt F) T
      (Shape.Idx.first (numel1_S1.symm ▸ Nat.one_pos)) = v := hv
  generalize ((Memref.whole main_arg1).access (Rect.unit (s := S96) (k0_off1 i) S1.size (k0_off1_inb i))).read (Elt F) T = f at hread ⊢
  subst hread
  iapply h
  isplitl [HT]; · iexact HT
  iexact HP

/-- THE BODY: from the staged inputs, the table of valid rows, and anything in the staged block of the result, it runs to
    `leaves` there and everything else as it was. -/
theorem clean_run (i : grid0.Coords) (T : S96.Idx → Elt F .i32) (q : PosShare TreeShare) (Y : S4x512x1024.Idx → Elt F .f32) (P : sProp 𝕄)
    {Q : PUnit.{1} → sProp 𝕄} (v : BitVec 32) (hc : k0_chk1 v)
    (hv : T ((Rect.unit (s := S96) (k0_off1 i) S1.size (k0_off1_inb i)).emb (Shape.Idx.first (numel1_S1.symm ▸ Nat.one_pos))) = v)
    (h : iprop((((c : Thread nD τ).loc main_arg1) ↦{q} T) ∗ held c arg4 arg5 arg6 arg7 x0 x1 x2 x3
        ∗ owns (c : Thread nD τ) arg8 fullShare (leaves v hc x0 x1 x2 x3 Y) ∗ P) ⊢ Q ⟨⟩) :
    iprop((((c : Thread nD τ).loc main_arg1) ↦{q} T) ∗ held c arg4 arg5 arg6 arg7 x0 x1 x2 x3 ∗ owns (c : Thread nD τ) arg8 fullShare Y ∗ P)
      ⊢ wp frame (wpE (defs₀ (F := F)) Variants.none c none) Set.univ
          (clean (F := F) i (Memref.whole main_arg1) arg4 arg5 arg6 arg7 arg8) Q := by
  unfold clean
  refine word_run c i T q _ v (fun v => atWord arg4 arg5 arg6 arg7 arg8 v) hv _ ?_
  show _ ⊢ wp frame (wpE (defs₀ (F := F)) Variants.none c none) Set.univ (atWord arg4 arg5 arg6 arg7 arg8 v) Q
  unfold atWord
  refine .trans ?_ (wp_assume (Val := Elt F) Variants.none (c : Thread nD τ) none Set.univ (Q := Q) hc)
  have a : iprop((((c : Thread nD τ).loc main_arg1) ↦{q} T) ∗ held c arg4 arg5 arg6 arg7 x0 x1 x2 x3 ∗ owns (c : Thread nD τ) arg8 fullShare Y ∗ P)
      ⊢ iprop(held c arg4 arg5 arg6 arg7 x0 x1 x2 x3 ∗ owns (c : Thread nD τ) arg8 fullShare Y ∗ ((((c : Thread nD τ).loc main_arg1) ↦{q} T) ∗ P)) := by
    iintro ⟨HT, Hh, H8, HP⟩
    isplitl [Hh]; · iexact Hh
    isplitl [H8]; · iexact H8
    isplitl [HT]; · iexact HT
    iexact HP
  refine a.trans (branches_run c arg4 arg5 arg6 arg7 arg8 x0 x1 x2 x3 Y _ v hc ?_)
  refine .trans ?_ h
  iintro ⟨Hh, H8, HT, HP⟩
  isplitl [HT]; · iexact HT
  isplitl [Hh]; · iexact Hh
  isplitl [H8]; · iexact H8
  iexact HP

end Runs

end Cert.KernelIdeal.Down

end
-- ==== Proof.Tables.lean ====
/- The tables: which blocks the launch names.

   The index maps read the prefetched tables.  `Good`: every expert is one of the 32, and there is at least one
   tile.  Then each index map is a plain function of the grid point, and every block lies inside its array (`ok0_of_good`). -/
module

public import proofs.«01_k».proof.Proof.BodyRun
public import proofs.«01_k».proof.Proof.Gen.KernelIdeal.Launch
public import Idealize.ShloMosaic.Lib.Affine

@[expose] public section

noncomputable section

namespace Cert.KernelIdeal.Down

open Cert.KernelIdeal
open Idealize.ShloMosaic Idealize.ShloMosaic.TcCoe
open Facts₀ Facts

variable {F : FTy → Type} [FloatOps F] [Facts]

/-- Tile `t` as an index of a table. -/
def tileIx (t : Fin 96) : S96.Idx := fun a => ⟨t.val, by
  obtain rfl : a = (0 : Fin 1) := Subsingleton.elim (α := Fin 1) _ _
  exact t.isLt⟩
/-- The index of the one word of the last table. -/
def oneIx : S1.Idx := fun a => ⟨0, by
  obtain rfl : a = (0 : Fin 1) := Subsingleton.elim (α := Fin 1) _ _
  exact Nat.one_pos⟩

/-- The expert of tile `t`. -/
def expertAt (pf : pre0.Contents (Elt F)) (t : Fin 96) : BitVec 32 := (pf 0 : S96.Idx → BitVec 32) (tileIx t)
/-- The number of valid rows of tile `t`. -/
def validAt (pf : pre0.Contents (Elt F)) (t : Fin 96) : BitVec 32 := (pf 1 : S96.Idx → BitVec 32) (tileIx t)
/-- The number of tiles that hold rows. -/
def tiles (pf : pre0.Contents (Elt F)) : BitVec 32 := (pf 2 : S1.Idx → BitVec 32) oneIx

/-- The tables name existing experts and at least one tile. -/
structure Good (pf : pre0.Contents (Elt F)) : Prop where
  expert : ∀ t, (expertAt pf t).toNat < 32
  tiles : (1 : Int) ≤ (tiles pf).toInt

/-- The block of rows tile `t` reads and writes: itself, but the tiles after the last one stay at the last. -/
def blockOf (pf : pre0.Contents (Elt F)) (t : Fin 96) : ℕ := min t.val ((tiles pf).toNat - 1)

theorem blockOf_lt (pf : pre0.Contents (Elt F)) (t : Fin 96) : blockOf pf t < 96 :=
  lt_of_le_of_lt (Nat.min_le_left _ _) t.isLt

theorem emb_tile (i : grid0.Coords) :
    (Rect.unit (s := S96) (k0_off1 i) S1.size (k0_off1_inb i)).emb (Shape.Idx.first (numel1_S1.symm ▸ Nat.one_pos)) = tileIx (i 0) := by
  funext a
  obtain rfl : a = (0 : Fin 1) := Subsingleton.elim (α := Fin 1) _ _
  apply Fin.ext
  have h : (k0_off1 i) 0 = (i 0).val := by rw [Gen.k0_off1_eq]; rfl
  show (k0_off1 i) 0 + 0 * 1 = (i 0).val
  omega

theorem at0 (pf : pre0.Contents (Elt F)) (i : grid0.Coords) :
    pf.at 0 (Rect.unit (s := S96) (k0_off1 i) S1.size (k0_off1_inb i)) numel1_S1 = expertAt pf (i 0) :=
  congrArg (pf 0 : S96.Idx → BitVec 32) (emb_tile i)

theorem at2 (pf : pre0.Contents (Elt F)) :
    pf.at 2 (Rect.unit (s := S1) ![0] S1.size inb_S1_S1_0) numel1_S1 = tiles pf := by
  refine congrArg (pf 2 : S1.Idx → BitVec 32) ?_
  funext a
  obtain rfl : a = (0 : Fin 1) := Subsingleton.elim (α := Fin 1) _ _
  exact Subsingleton.elim (α := Fin 1) _ _

/-- The smaller of the tile and the last tile, as the signed words compute it. -/
theorem minsi_toNat (t : Fin 96) (n : BitVec 32) (hn : (1 : Int) ≤ n.toInt) :
    (Scalar.minsi (BitVec.ofNat 32 t.val) (Scalar.subi n 1#32)).toNat = min t.val (n.toNat - 1) := by
  have ht := t.isLt
  have h1 : n.toNat < 2 ^ 31 := by
    rw [BitVec.toInt_eq_toNat_cond] at hn
    split at hn <;> omega
  have h2 : 1 ≤ n.toNat := by
    rw [BitVec.toInt_eq_toNat_cond] at hn
    split at hn <;> omega
  have h3 : (n - 1#32).toNat = n.toNat - 1 := by
    rw [BitVec.toNat_sub]; simp; omega
  unfold Scalar.minsi Scalar.subi IntOp.minsi IntOp.subi
  have h4 : (BitVec.ofNat 32 t.val).slt (n - 1#32) = decide (t.val < n.toNat - 1) := by
    rw [BitVec.slt_eq_decide]
    congr 1
    rw [BitVec.toInt_eq_toNat_cond, BitVec.toInt_eq_toNat_cond, h3]
    simp only [BitVec.toNat_ofNat]
    rw [if_pos (by omega), if_pos (by omega)]
    apply propext; omega
  rw [h4]
  by_cases h : t.val < n.toNat - 1
  · simp only [h, decide_true, if_true, BitVec.toNat_ofNat]; omega
  · simp only [h, decide_false, Bool.false_eq_true, if_false, h3]; omega

theorem tr0 (pf : pre0.Contents (Elt F)) (g : Good pf) (i : grid0.Coords) :
    cc0_transform_0 inb_S1_S1_0 numel1_S1 pf i = ![blockOf pf (i 0), 0] := by
  show ![(Scalar.minsi (BitVec.ofNat 32 (i 0).val) (Scalar.subi (pf.at 2 (Rect.unit (s := S1) ![0] S1.size inb_S1_S1_0) numel1_S1) 1#32)).toNat, 0] = ![blockOf pf (i 0), 0]
  have e := minsi_toNat (i 0) _ g.tiles
  rw [← at2] at e
  unfold blockOf
  rw [e, at2]

theorem tr1 (pf : pre0.Contents (Elt F)) (g : Good pf) (i : grid0.Coords) :
    cc0_transform_1 inb_S1_S1_0 numel1_S1 pf i = ![blockOf pf (i 0), 0] := by
  show ![(Scalar.minsi (BitVec.ofNat 32 (i 0).val) (Scalar.subi (pf.at 2 (Rect.unit (s := S1) ![0] S1.size inb_S1_S1_0) numel1_S1) 1#32)).toNat, 0] = ![blockOf pf (i 0), 0]
  have e := minsi_toNat (i 0) _ g.tiles
  rw [← at2] at e
  unfold blockOf
  rw [e, at2]

theorem tr2 (pf : pre0.Contents (Elt F)) (i : grid0.Coords) :
    cc0_transform_2 k0_off1_inb numel1_S1 pf i = ![(expertAt pf (i 0)).toNat, 0, 0] := by
  rw [← at0 pf i]; rfl

theorem tr3 (pf : pre0.Contents (Elt F)) (i : grid0.Coords) :
    cc0_transform_3 k0_off1_inb numel1_S1 pf i = ![(expertAt pf (i 0)).toNat, 0, 0] := by
  rw [← at0 pf i]; rfl

theorem tr4 (pf : pre0.Contents (Elt F)) (g : Good pf) (i : grid0.Coords) :
    cc0_transform_4 inb_S1_S1_0 numel1_S1 pf i = ![0, blockOf pf (i 0), 0] := by
  show ![0, (Scalar.minsi (BitVec.ofNat 32 (i 0).val) (Scalar.subi (pf.at 2 (Rect.unit (s := S1) ![0] S1.size inb_S1_S1_0) numel1_S1) 1#32)).toNat, 0] = ![0, blockOf pf (i 0), 0]
  have e := minsi_toNat (i 0) _ g.tiles
  rw [← at2] at e
  unfold blockOf
  rw [e, at2]

/-- The launch's side condition holds of good tables. -/
theorem ok0_of_good (pf : pre0.Contents (Elt F)) (g : Good pf) : ok0 pf := by
  have hb := fun i : grid0.Coords => blockOf_lt pf (i 0)
  have he := fun i : grid0.Coords => g.expert (i 0)
  refine ⟨fun i => ⟨?_, .inr ?_⟩, fun i => ⟨?_, .inl rfl⟩, fun i => ⟨?_, .inr ?_⟩, fun i => ⟨?_, .inl rfl⟩,
    fun i => ⟨?_, .inl rfl⟩⟩
  · rw [tr0 pf g i]; intro a; have := hb i
    fin_cases a
    · show (blockOf pf (i 0) + 1) * 512 ≤ 49152; omega
    · show (0 + 1) * 1408 ≤ 1408; omega
  · exact Affine.block_words_dvd (s := S49152x1408) (p := EltTy.packing .bf16) (by decide) (by decide)
  · rw [tr1 pf g i]; intro a; have := hb i
    fin_cases a
    · show (blockOf pf (i 0) + 1) * 512 ≤ 49152; omega
    · show (0 + 1) * 128 ≤ 128; omega
  · rw [tr2 pf i]; intro a; have := he i
    fin_cases a
    · show ((expertAt pf (i 0)).toNat + 1) * 1 ≤ 32; omega
    · show (0 + 1) * 1408 ≤ 1408; omega
    · show (0 + 1) * 4096 ≤ 4096; omega
  · exact Affine.block_words_dvd (s := S32x1408x4096) (p := EltTy.packing .fp8e4m3) (by decide) (by decide)
  · rw [tr3 pf i]; intro a; have := he i
    fin_cases a
    · show ((expertAt pf (i 0)).toNat + 1) * 1 ≤ 32; omega
    · show (0 + 1) * 11 ≤ 11; omega
    · show (0 + 1) * 32 ≤ 32; omega
  · rw [tr4 pf g i]; intro a; have := hb i
    fin_cases a
    · show (0 + 1) * 4 ≤ 4; omega
    · show (blockOf pf (i 0) + 1) * 512 ≤ 49152; omega
    · show (0 + 1) * 1024 ≤ 1024; omega

end Cert.KernelIdeal.Down

end
-- ==== Proof.Run.lean ====
/- The launch: what the buffers may hold when it has ended.

   `rdat`: the pipeline's data, each input block kept, the result's block changed from `Y` to `leaves … Y`;
   `body_obligation`: the body does that; `run`: the whole launch. -/
module

public import proofs.«01_k».proof.Proof.Tables
public import Idealize.ShloMosaic.Lib.Pipeline.Quiescent
public import Idealize.ShloMosaic.Lib.Pipeline.FrameBody
public import Idealize.ShloMosaic.Lib.Claim
public import Idealize.ShloMosaic.Lib.Ring
public import Idealize.ShloMosaic.Lib.Tactic
public import Idealize.ShloMosaic.Adequacy
public import Idealize.ShloMosaic.Init

@[expose] public section

noncomputable section

namespace Cert.KernelIdeal.Down

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as launched. -/
def pf : pre0.Contents (Elt F) := fun k => m (((0 : Dev nD).tc : Thread nD τ).loc (pre0.ref k))

variable (g : Good (pf m))

/-- The tables as the launch takes them. -/
abbrev adm : (p : Fin 1) → (pcfgs (F := F) p).Adm := fun _ => ⟨pf m, ok0_of_good _ g⟩
/-- The pipeline at these tables. -/
abbrev cfgA : Pipeline.Cfg sig Λ₀ := Pipeline.pin (pcfgs (F := F)) (adm m g) 0

/-- The tile of point `t`. -/
def tile (t : Fin (cfgA m g).N) : Fin 96 := ((cfgA m g).grid.coords t) 0

/-- Window `w`'s block at point `t`. -/
def iblk (c : Dev nD) (w : Fin 5) (t : Fin (cfgA m g).N) : ((cfgA m g).win w).block.Idx → Elt F ((cfgA m g).win w).elt :=
  (((cfgA m g).win w).blk t).view.read (Elt F) (m (((cfgA m g).win w).arr.view.loc (c : Thread nD τ)))

/-- What the body leaves in the result's block at point `t`, given what it finds there. -/
def left (c : Dev nD) (t : Fin (cfgA m g).N) (Y : S4x512x1024.Idx → Elt F .f32) : S4x512x1024.Idx → Elt F .f32 :=
  leaves (validAt (pf m) (tile m g t)) (Gen.k0_chk1_all _) (iblk m g c 0 t) (iblk m g c 1 t) (iblk m g c 2 t) (iblk m g c 3 t) Y

/-- The pipeline's data. -/
def rdat (c : Dev nD) : RDat τ (Elt F) Unit ℕ (UR sig nD τ) ℕ (cfgA m g) c where
  A w := m ((c : Thread nD τ).loc (Pipeline.arrRef spec0 w))
  after w t Y X := match w, Y, X with
    | ⟨0, _⟩, Y, X => X = Y
    | ⟨1, _⟩, Y, X => X = Y
    | ⟨2, _⟩, Y, X => X = Y
    | ⟨3, _⟩, Y, X => X = Y
    | ⟨4, _⟩, Y, X => X = left m g c t Y
  Φ _ := iprop(Pipeline.ΦA spec0 c ∗ Pipeline.ΦT pre0 (pf m) c)
  q _ := fullShare
  owed _ := 0

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- An input's staged block is the array's block. -/
theorem finds_in (c : Dev nD) (t : Fin (cfgA m g).N) (w : Fin 5) (hw : w ≠ 4) (Y) (h : (rdat m g c).Finds w t Y) :
    Y = iblk m g c w t := by
  match w, hw, Y, h with
  | ⟨0, _⟩, _, Y, h =>
    obtain ⟨d, hd⟩ := (rdat m g c).finds_in_eq_fetched (0 : Fin 5) rfl (fun _ _ _ => rfl) (fun _ _ _ h => h) t Y h
    exact hd.trans rfl
  | ⟨1, _⟩, _, Y, h =>
    obtain ⟨d, hd⟩ := (rdat m g c).finds_in_eq_fetched (1 : Fin 5) rfl (fun _ _ _ => rfl) (fun _ _ _ h => h) t Y h
    exact hd.trans rfl
  | ⟨2, _⟩, _, Y, h =>
    obtain ⟨d, hd⟩ := (rdat m g c).finds_in_eq_fetched (2 : Fin 5) rfl (fun _ _ _ => rfl) (fun _ _ _ h => h) t Y h
    exact hd.trans rfl
  | ⟨3, _⟩, _, Y, h =>
    obtain ⟨d, hd⟩ := (rdat m g c).finds_in_eq_fetched (3 : Fin 5) rfl (fun _ _ _ => rfl) (fun _ _ _ h => h) t Y h
    exact hd.trans rfl
  | ⟨4, _⟩, hw, Y, h => exact absurd rfl hw

/-- The body at point `t`, as the table of bodies names it. -/
def bodyAt (t : Fin (cfgA m g).N) : Prog (TpuEff nD τ sig (Elt F) Λ₀ .tc) PUnit :=
  cc0_down ((cfgA m g).grid.coords t) (Memref.whole main_arg0) (Memref.isWhole_whole _) (Memref.whole main_arg1) (Memref.isWhole_whole _)
    (Memref.whole main_arg2) (Memref.isWhole_whole _)
    (spec0_0.stage ((cfgA m g).slots t (0 : Fin 5))) (hstage0_0 (((cfgA m g).slots t (0 : Fin 5)).cast nbuf0_0))
    (spec0_1.stage ((cfgA m g).slots t (1 : Fin 5))) (hstage0_1 (((cfgA m g).slots t (1 : Fin 5)).cast nbuf0_1))
    (spec0_2.stage ((cfgA m g).slots t (2 : Fin 5))) (hstage0_2 (((cfgA m g).slots t (2 : Fin 5)).cast nbuf0_2))
    (spec0_3.stage ((cfgA m g).slots t (3 : Fin 5))) (hstage0_3 (((cfgA m g).slots t (3 : Fin 5)).cast nbuf0_3))
    (spec0_4.stage ((cfgA m g).slots t (4 : Fin 5))) (hstage0_4 (((cfgA m g).slots t (4 : Fin 5)).cast nbuf0_4))

theorem defs₀_row (t : Fin (cfgA m g).N) :
    defs₀ (F := F) .tc (cfgA m g).body ((cfgA m g).bodyArgs t ((cfgA m g).slots t)) = bodyAt m g t := by
  unfold defs₀; rw [Defs.onTc_tc]; rfl

theorem sound_body (c : Dev nD) (t : Fin (cfgA m g).N)
    (Y : (w : Fin 5) → ((cfgA m g).win w).block.Idx → Elt F ((cfgA m g).win w).elt)
    (h0 : Y 0 = iblk m g c 0 t) (h1 : Y 1 = iblk m g c 1 t) (h2 : Y 2 = iblk m g c 2 t) (h3 : Y 3 = iblk m g c 3 t) (P R : sProp 𝕄) :
    iprop((P ∗ Pipeline.ΦT pre0 (pf m) c) ∗ R
        ∗ owns (c : Thread nD τ) (spec0_0.stage ((cfgA m g).slots t (0 : Fin 5))) fullShare (Y 0)
        ∗ owns (c : Thread nD τ) (spec0_1.stage ((cfgA m g).slots t (1 : Fin 5))) fullShare (Y 1)
        ∗ owns (c : Thread nD τ) (spec0_2.stage ((cfgA m g).slots t (2 : Fin 5))) fullShare (Y 2)
        ∗ owns (c : Thread nD τ) (spec0_3.stage ((cfgA m g).slots t (3 : Fin 5))) fullShare (Y 3)
        ∗ owns (c : Thread nD τ) (spec0_4.stage ((cfgA m g).slots t (4 : Fin 5))) fullShare (Y 4))
      ⊢ wp frame (wpE (defs₀ (F := F)) Variants.none c none) Set.univ (bodyAt m g t) (fun _ =>
        iprop((P ∗ Pipeline.ΦT pre0 (pf m) c) ∗ R
        ∗ owns (c : Thread nD τ) (spec0_0.stage ((cfgA m g).slots t (0 : Fin 5))) fullShare (Y 0)
        ∗ owns (c : Thread nD τ) (spec0_1.stage ((cfgA m g).slots t (1 : Fin 5))) fullShare (Y 1)
        ∗ owns (c : Thread nD τ) (spec0_2.stage ((cfgA m g).slots t (2 : Fin 5))) fullShare (Y 2)
        ∗ owns (c : Thread nD τ) (spec0_3.stage ((cfgA m g).slots t (3 : Fin 5))) fullShare (Y 3)
        ∗ owns (c : Thread nD τ) (spec0_4.stage ((cfgA m g).slots t (4 : Fin 5))) fullShare (left m g c t (Y 4)))) := by
  unfold bodyAt left
  unfold Pipeline.ΦT
  rw [cc0_down_eq, h0, h1, h2, h3, prefHeld_eq]
  have run := fun Q hQ => clean_run (F := F) c (spec0_0.stage ((cfgA m g).slots t (0 : Fin 5))) (spec0_1.stage ((cfgA m g).slots t (1 : Fin 5)))
    (spec0_2.stage ((cfgA m g).slots t (2 : Fin 5))) (spec0_3.stage ((cfgA m g).slots t (3 : Fin 5))) (spec0_4.stage ((cfgA m g).slots t (4 : Fin 5)))
    (iblk m g c 0 t) (iblk m g c 1 t) (iblk m g c 2 t) (iblk m g c 3 t) ((cfgA m g).grid.coords t) (pf m 1) fullShare.right (Y 4)
    (iprop(P ∗ R ∗ (((c : Thread nD τ).loc main_arg0) ↦{fullShare.right} pf m 0) ∗ (((c : Thread nD τ).loc main_arg2) ↦{fullShare.right} pf m 2)))
    (Q := Q) (validAt (pf m) (tile m g t)) (Gen.k0_chk1_all _) (congrArg (pf m 1 : S96.Idx → BitVec 32) (emb_tile ((cfgA m g).grid.coords t))) hQ
  refine BIBase.Entails.trans ?_ (run _ ?_)
  · unfold held
    iintro ⟨⟨HP, T0, T1, T2⟩, HR, H0, H1, H2, H3, H4⟩
    isplitl [T1]; · iexact T1
    isplitl [H0 H1 H2 H3]
    · isplitl [H2]; · iexact H2
      isplitl [H3]; · iexact H3
      isplitl [H0]; · iexact H0
      iexact H1
    isplitl [H4]; · iexact H4
    isplitl [HP]; · iexact HP
    isplitl [HR]; · iexact HR
    isplitl [T0]; · iexact T0
    iexact T2
  · unfold held
    iintro ⟨T1, ⟨H2, H3, H0, H1⟩, H4, HP, HR, T0, T2⟩
    isplitl [HP T0 T1 T2]
    · isplitl [HP]; · iexact HP
      isplitl [T0]; · iexact T0
      isplitl [T1]; · iexact T1
      iexact T2
    isplitl [HR]; · iexact HR
    isplitl [H0]; · iexact H0
    isplitl [H1]; · iexact H1
    isplitl [H2]; · iexact H2
    isplitl [H3]; · iexact H3
    iexact H4

theorem body_obligation (c : Dev nD) : (rdat m g c).BodyObligation (defs₀ (F := F)) Variants.none () Set.univ := fun t Y hY => by
  rw [bigSep_W0, bigSep_W0, defs₀_row]
  refine triple_restated (sound_body m g c t Y (finds_in m g c t 0 (by decide) _ (hY 0)) (finds_in m g c t 1 (by decide) _ (hY 1))
    (finds_in m g c t 2 (by decide) _ (hY 2)) (finds_in m g c t 3 (by decide) _ (hY 3)) (Pipeline.ΦA spec0 c) ((rdat m g c).owesAt () t.castSucc))
    rfl .rfl fun _ => ?_
  rw [show (rdat m g c).Φ t.succ = iprop(Pipeline.ΦA spec0 c ∗ Pipeline.ΦT pre0 (pf m) c) from rfl,
    show (rdat m g c).owesAt () t.succ = (rdat m g c).owesAt () t.castSucc from rfl]
  iintro ⟨HΦ, Ho, H0, H1, H2, H3, H4⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  isplitl [H3]
  · iexists (Y 3); isplitr; · ipureintro; rfl
    iexact H3
  iexists (left m g c t (Y 4)); isplitr; · ipureintro; rfl
  iexact H4

/-- The contents at launch. -/
abbrev V0 (c : Dev nD) (b : Ref sig .tc) : Buf (Elt F) ((c : Thread nD τ).loc b) := m ((c : Thread nD τ).loc b)

set_option backward.isDefEq.respectTransparency.types false in
/-- The whole launch: it ends, every semaphore at zero, the arrays at contents the data allow, everything else as launched. -/
theorem run : θ_run defs (onTc (τ := τ) (main (F := F))) (s₀ m ρ)
    (fun r => RDat.FramePost (cfgA m g) (fun c => rdat m g c) (V0 m) r ∧ r.2.sem = fun _ => 0) :=
  RDat.θ_run_frameP (Q' := _) (pcfgs (F := F)) (adm m g) (0 : Fin 1) launch0 defs₀ Variants.none (fun c => rdat m g c) m ρ main
    (hbody := fun c => body_obligation m g c)
    (hshare := fun c w => by unfold RDat.share; split <;> rfl) (howed := fun _ _ => rfl)
    (V := V0 m) (hmain := Pipeline.hmainP_region _ _ _ _ m main fun c => by
      delta main; simp only [Prog.bind_lift, Prog.pure_eq_ret])
    (hA := fun _ _ => rfl) (hpf := fun c k => by obtain rfl : c = 0 := Subsingleton.elim (α := Fin 1) _ _; rfl) (hΦ := fun _ _ => rfl)

include g in
/-- The frame: every argument ends as launched, every semaphore at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1 c).2 main_arg0 (Pipeline.mem_restRefs_of main_arg0 (by decide) (by exact (by decide : ∀ w, Pipeline.arrRef spec0 w ≠ main_arg0))),
    (h.1 c).2 main_arg1 (Pipeline.mem_restRefs_of main_arg1 (by decide) (by exact (by decide : ∀ w, Pipeline.arrRef spec0 w ≠ main_arg1))),
    (h.1 c).2 main_arg2 (Pipeline.mem_restRefs_of main_arg2 (by decide) (by exact (by decide : ∀ w, Pipeline.arrRef spec0 w ≠ main_arg2))),
    RDat.FramePost.arr_in h.1 c (0 : Fin 5) rfl, RDat.FramePost.arr_in h.1 c (1 : Fin 5) rfl,
    RDat.FramePost.arr_in h.1 c (2 : Fin 5) rfl, RDat.FramePost.arr_in h.1 c (3 : Fin 5) rfl⟩, h.2⟩) (run m ρ g)

end Cert.KernelIdeal.Down

end
-- ==== Proof.Pre.lean ====
/- The precondition and the mask, read.

   The precondition says the tables are good (`good_of_pre`) and that a tile with valid rows is below the count of
   tiles (`used_of_pre`).  The mask at row `p`: the first row of its piece of 128 is below the tile's valid rows (`held_of_mask`). -/
module

public import proofs.«01_k».proof.Pre_tables_ok
public import proofs.«01_k».proof.On_rows_held
public import proofs.«01_k».proof.Proof.Tables
public import Idealize.ShloMosaic.Lib.ValueIdxCore
public import Idealize.ShloMosaic.Lib.Pipeline.Value

@[expose] public section

noncomputable section

namespace Cert.KernelIdeal.Down

open Cert.KernelIdeal
open Idealize.ShloMosaic Idealize.ShloMosaic.TcCoe Idealize.ShloMosaic.ValueIdx

variable {F : FTy → Type} [FloatOps F]

/-- The shape facts of the precondition. -/
instance preFacts : Cert.Pre_tables_ok.Facts where
  bcast_S_S96 := by decide
  bcast_S_S1 := by decide
  bcast_S1_S96_0 := by decide

/-- The shape facts of the mask. -/
instance onFacts : Cert.On_rows_held.Facts where
  bcast_S_S4x96x4x128x1024 := by decide
  bcast_S96_S4x96x4x128x1024_1 := by decide
  shapeCasts_S4x96x4x128x1024_S4x49152x1024 := by decide

variable (e v : IVec S96 32) (n : IVec S1 32) (h : FVec F S49152x1408 .bf16) (rw : FVec F S49152x128 .f32)
  (w : FVec F S32x1408x4096 .fp8e4m3) (s : FVec F S32x11x32 .f32)

theorem expert_of_pre (hp : (Cert.Pre_tables_ok.fn e v n h rw w s).1 = fun _ => 1#1) (i : S96.Idx) : (e i).toNat < 32 := by
  have h1 := congrFun hp i
  have h2 : IntOp.andi (IntOp.cmpi .sge (e i) 0#32) (IntOp.cmpi .sle (e i) 31#32) = 1#1 := h1
  rw [IntOp.andi_eq_one, IntOp.cmpi_sge, IntOp.cmpi_sle] at h2
  obtain ⟨a, b⟩ := h2
  rw [BitVec.toInt_eq_toNat_cond, BitVec.toInt_eq_toNat_cond] at a b
  simp at a b
  split at a <;> split at b <;> omega

theorem tiles_of_pre (hp : (Cert.Pre_tables_ok.fn e v n h rw w s).2.1 = fun _ => 1#1) (i : S1.Idx) : (1 : Int) ≤ (n i).toInt := by
  have h1 := congrFun hp i
  have h2 : IntOp.cmpi .sge (n i) 1#32 = 1#1 := h1
  rw [IntOp.cmpi_sge] at h2
  simpa using h2

theorem used_of_pre (hp : (Cert.Pre_tables_ok.fn e v n h rw w s).2.2 = fun _ => 1#1) (t : Fin 96) :
    (v (tileIx t)).toInt ≤ 0 ∨ (t.val : Int) < (n oneIx).toInt := by
  have h1 := congrFun hp (tileIx t)
  have h2 : IntOp.ori (IntOp.cmpi .sle (v (tileIx t)) 0#32) (IntOp.cmpi .slt (BitVec.ofNat 32 t.val) (n oneIx)) = 1#1 := by
    refine Eq.trans ?_ h1
    refine congrArg (fun z => IntOp.ori (IntOp.cmpi .sle (v (tileIx t)) 0#32) (IntOp.cmpi .slt (BitVec.ofNat 32 t.val) (n z))) ?_
    funext a
    obtain rfl : a = (0 : Fin 1) := Subsingleton.elim (α := Fin 1) _ _
    exact Subsingleton.elim (α := Fin 1) _ _
  rw [IntOp.ori_eq_one, IntOp.cmpi_sle, IntOp.cmpi_slt] at h2
  have h3 : (BitVec.ofNat 32 t.val).toInt = t.val := by
    have := t.isLt
    rw [BitVec.toInt_eq_toNat_cond]; simp; omega
  rw [h3] at h2
  simpa using h2

theorem word_mul (q : ℕ) (hq : q < 4) : (IntOp.muli (BitVec.ofNat 32 q) 128#32).toInt = (128 * (q : ℕ) : Int) := by
  interval_cases q <;> decide

/-- The mask at an index of the result: the first row of the row's group of 128 is below the tile's valid rows. -/
theorem held_of_mask (i : (⟨3, ![4, 49152, 1024]⟩ : Shape).Idx) (hi : Cert.On_rows_held.fn e v n h rw w s i = 1#1)
    (t : Fin 96) (r : ℕ) (hr : r < 512) (hp : (i 1).val = 512 * t.val + r) :
    (128 * (r / 128 : ℕ) : Int) < (v (tileIx t)).toInt := by
  have h0 : (i 0).val < 4 := (i 0).isLt
  have h2 : (i 2).val < 1024 := (i 2).isLt
  have ht := t.isLt
  unfold Cert.On_rows_held.fn at hi
  rw [shapeCast_apply _ _ i (ix5 ⟨(i 0).val, h0⟩ t ⟨r / 128, by omega⟩ ⟨r % 128, by omega⟩ ⟨(i 2).val, h2⟩) (by
    rw [Shape.rowMajor_val_five, Shape.rowMajor_val_three]
    show ((((i 0).val * 96 + t.val) * 4 + r / 128) * 128 + r % 128) * 1024 + (i 2).val = ((i 0).val * 49152 + (i 1).val) * 1024 + (i 2).val
    rw [hp]; omega)] at hi
  have h3 : IntOp.cmpi .slt (IntOp.muli (BitVec.ofNat 32 (r / 128)) 128#32) (v (tileIx t)) = 1#1 := by
    refine Eq.trans ?_ hi
    refine congrArg (fun z => IntOp.cmpi .slt (IntOp.muli (BitVec.ofNat 32 (r / 128)) 128#32) (v z)) ?_
    funext a
    obtain rfl : a = (0 : Fin 1) := Subsingleton.elim (α := Fin 1) _ _
    rfl
  rw [IntOp.cmpi_slt] at h3
  have h4 : (IntOp.muli (BitVec.ofNat 32 (r / 128)) 128#32).toInt = (128 * (r / 128 : ℕ) : Int) := by
    exact word_mul (r / 128) (by omega)
  rwa [h4] at h3

end Cert.KernelIdeal.Down

end
-- ==== Proof.KernelFrame.lean ====
/- The frame of the compiled program.

   The idealized program is the compiled one's own text: what `frame` says of it at the machine's floats is what the
   claim says of the compiled program. -/
module

public import proofs.«01_k».proof.Proof.Run
public import proofs.«01_k».proof.Proof.Pre
public import proofs.«01_k».proof.Defs
public import proofs.«01_k».proof.Proof.Gen.Kernel

@[expose] public section

noncomputable section

namespace Cert.KernelIdeal.Down

open Cert.KernelIdeal
open Idealize.ShloMosaic Idealize.ShloMosaic.TcCoe
open Idealize.SL.Sem

variable {F : FTy → Type} [FloatOps F]

/-- The arguments' precondition at any floats. -/
abbrev PreAt (m : (ℓ : Loc nD τ sig) → Buf (Elt F) ℓ) : Prop := ∀ c : Dev nD,
  (Cert.Pre_tables_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).1 = (fun _ => 1#1)
  ∧ (Cert.Pre_tables_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.1 = (fun _ => 1#1)
  ∧ (Cert.Pre_tables_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2 = (fun _ => 1#1)

/-- Under the precondition the tables are good. -/
theorem good_of_pre (m : (ℓ : Loc nD τ sig) → Buf (Elt F) ℓ) (h : PreAt m) : Good (pf m) where
  expert t := expert_of_pre _ _ _ _ _ _ _ (h 0).1 (tileIx t)
  tiles := tiles_of_pre _ _ _ _ _ _ _ (h 0).2.1 oneIx

/-- The frame claim at any floats, under the precondition. -/
def FrameAt (F : FTy → Type) [FloatOps F] : Prop :=
  ∀ (m : (ℓ : Loc nD τ sig) → Buf (Elt F) ℓ) (g : Dev nD → PrngReg), PreAt m →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frameAt : FrameAt F := fun m g h => frame m g (good_of_pre m h)

/-- The idealized program's frame. -/
theorem quiescent_ideal : Cert.quiescent_KernelIdeal := frameAt (F := Ideal)

/-- The two programs are one text: the compiled program's frame claim is the idealized program's at the machine's floats. -/
theorem quiescent_eq : Cert.quiescent_Kernel = FrameAt Bits := by sl_kernel_rfl

/-- The compiled program's frame. -/
theorem quiescent_compiled : Cert.quiescent_Kernel := by rw [quiescent_eq]; exact frameAt

end Cert.KernelIdeal.Down

end
-- ==== Proof.Piece.lean ====
/- The value the body lays into the staged block of the result, over the extended reals.

   `valAt`: one element, as the sum over the 1408 codes of a row of the weights.  `pieceAt_apply`: every branch's every
   piece holds it.  `lay_apply`, `leaves_covered`, `leaves_none`: so the body leaves it in every row it covers, and
   leaves everything as it was at a tile without valid rows. -/
module

public import proofs.«01_k».proof.Proof.BodyRun
public import Idealize.ShloMosaic.Lib.MatmulPlain
public import Idealize.ShloMosaic.Lib.ValueIdx
public import Idealize.ShloMosaic.Lib.IdealHost
public import Idealize.ShloMosaic.Lib.Pipeline.Value
public import Idealize.ShloMosaic.Lib.Affine

@[expose] public section

noncomputable section

namespace Cert.KernelIdeal.Down

open Cert.KernelIdeal
open Idealize.ShloMosaic Idealize.ShloMosaic.ValueIdx Idealize.SL Idealize.SL.Sem
open scoped BigOperators
open Facts₀ Facts

variable [Facts]

/-- Element `(row r, column d)` of the product: the row of activations times the column of scaled weights, times the row's weight. -/
def elemAt (x0 : S512x1408.Idx → EReal) (x1 : S512x128.Idx → EReal) (x2 : S1x1408x4096.Idx → EReal) (x3 : S1x11x32.Idx → EReal)
    (r : Fin 512) (d : Fin 4096) : EReal :=
  (∑ f : Fin 1408, x0 (ix2 r f) * (x2 (ix3 0 f d) * x3 (ix3 0 ⟨f.val / 128, by omega⟩ ⟨d.val / 128, by omega⟩)))
    * x1 (ix2 r ⟨d.val % 128, by omega⟩)

/-- The column of the whole result behind column `y 2` of chunk `y 0` of the staged block. -/
def colOf (y : S4x512x1024.Idx) : Fin 4096 :=
  ⟨1024 * (y 0).val + (y 2).val, by
    have h0 : (y 0).val < 4 := (y 0).isLt
    have h2 : (y 2).val < 1024 := (y 2).isLt
    omega⟩

/-- The element at index `y` of the staged block of the result. -/
def valAt (x0 : S512x1408.Idx → EReal) (x1 : S512x128.Idx → EReal) (x2 : S1x1408x4096.Idx → EReal) (x3 : S1x11x32.Idx → EReal)
    (y : S4x512x1024.Idx) : EReal :=
  elemAt x0 x1 x2 x3 (y 1) (colOf y)

/-- A block column at an index: block `f / 128`, at row `f % 128`. -/
theorem column_apply (v : Fin 11 → FVec Ideal S128x128 .bf16) (f : Fin 1408) (j : Fin 128) :
    column v (ix2 f j) = v ⟨f.val / 128, by omega⟩ (ix2 ⟨f.val % 128, by omega⟩ j) := by
  refine concatenate_ofFn_apply (s₁ := S128x128) (t := S1408x128) 0 (N := 11) v
    concatenates_S128x128_S128x128_S128x128_S128x128_S128x128_S128x128_S128x128_S128x128_S128x128_S128x128_S128x128_S1408x128_d0
    rfl 128 rfl (ix2 f j) ⟨f.val / 128, by omega⟩ rfl _ rfl ?_
  intro b hb
  match b with
  | ⟨0, _⟩ => exact absurd rfl hb
  | ⟨1, _⟩ => rfl

/-- Two block columns at an index: column `c` is column `c % 128` of block column `c / 128`. -/
theorem wide_apply (a b : Fin 11 → FVec Ideal S128x128 .bf16) (f : Fin 1408) (c : Fin 256) :
    wide a b (ix2 f c) = column (if c.val / 128 = 0 then a else b) (ix2 f ⟨c.val % 128, by omega⟩) := by
  have key := concatenate_ofFn_apply (s₁ := S1408x128) (t := S1408x256) 1 (N := 2) (![column a, column b])
    concatenates_S1408x128_S1408x128_S1408x256_d1
    rfl 128 rfl (ix2 f c) ⟨c.val / 128, by omega⟩ rfl (ix2 f ⟨c.val % 128, by omega⟩) rfl (by
      intro b hb
      match b with
      | ⟨0, _⟩ => rfl
      | ⟨1, _⟩ => exact absurd rfl hb)
  refine Eq.trans key ?_
  have hc : c.val / 128 = 0 ∨ c.val / 128 = 1 := by omega
  rcases hc with h | h
  · have e : (⟨c.val / 128, by omega⟩ : Fin 2) = 0 := Fin.ext h
    rw [e, if_pos h]; rfl
  · have e : (⟨c.val / 128, by omega⟩ : Fin 2) = 1 := Fin.ext h
    rw [e, if_neg (by omega)]; rfl

/-- The scaled block `(fb, db)` at an index. -/
theorem blkAt_apply (x2 : S1x1408x4096.Idx → Elt Ideal .fp8e4m3) (x3 : S1x11x32.Idx → Elt Ideal .f32) (db : Fin 32) (fb : Fin 11)
    (p q : Fin 128) (f : Fin 1408) (d : Fin 4096) (hf : f.val = 128 * fb.val + p.val) (hd : d.val = 128 * db.val + q.val) :
    (blkAt x2 x3 db fb (ix2 p q) : EReal) = (x2 (ix3 0 f d) : EReal) * (x3 (ix3 0 fb db) : EReal) := by
  have e2 : (shapeCast S128x128 (fun x : S1x128x128.Idx => x2 ((rW fb db).emb x)) shapeCasts_S1x128x128_S128x128) (ix2 p q) = x2 (ix3 0 f d) := by
    refine (shapeCast_dropUnit_apply ![128, 128] _ _ (ix2 p q)).trans ?_
    refine congrArg x2 (funext fun a => Fin.ext ?_)
    match a with
    | ⟨0, _⟩ => rfl
    | ⟨1, _⟩ => show 128 * fb.val + 1 * p.val = f.val; omega
    | ⟨2, _⟩ => show 128 * db.val + 1 * q.val = d.val; omega
  have e3 : x3 ((rS fb db).emb (Shape.Idx.first (numel1_S1x1x1.symm ▸ Nat.one_pos))) = x3 (ix3 0 fb db) := by
    refine congrArg x3 (funext fun a => Fin.ext ?_)
    have hz : ∀ a : Fin 3, ((Shape.Idx.first (s := S1x1x1) (numel1_S1x1x1.symm ▸ Nat.one_pos)) a).val = 0 := by
      intro a
      have := ((Shape.Idx.first (s := S1x1x1) (numel1_S1x1x1.symm ▸ Nat.one_pos)) a).isLt
      match a with
      | ⟨0, _⟩ => exact Nat.lt_one_iff.mp this
      | ⟨1, _⟩ => exact Nat.lt_one_iff.mp this
      | ⟨2, _⟩ => exact Nat.lt_one_iff.mp this
    match a with
    | ⟨0, _⟩ => show 0 + 1 * _ = 0; rw [hz]
    | ⟨1, _⟩ => show fb.val + 1 * _ = fb.val; rw [hz]; omega
    | ⟨2, _⟩ => show db.val + 1 * _ = db.val; rw [hz]; omega
  exact congrArg₂ (fun a b : EReal => a * b) e2 e3

/-- Piece `j` of a branch holds the element of the product at every index of its place. -/
theorem pieceAt_apply (R : Rows) (x0 : S512x1408.Idx → Elt Ideal .bf16) (x1 : S512x128.Idx → Elt Ideal .f32)
    (x2 : S1x1408x4096.Idx → Elt Ideal .fp8e4m3) (x3 : S1x11x32.Idx → Elt Ideal .f32) (j : Fin 16) (x : R.SY.Idx) :
    pieceAt R x0 x1 x2 x3 j x = valAt x0 x1 x2 x3 ((R.rY j).emb x) := by
  have hx0 : (x 0).val < 1 := (x 0).isLt
  have hx1 : (x 1).val < R.m := (x 1).isLt
  have hx2 : (x 2).val < 256 := (x 2).isLt
  have hle := R.le
  have hj := j.isLt
  unfold pieceAt Rows.val
  refine (shapeCast_addUnit_apply ![R.m, 256] _ R.cast x).trans ?_
  have ex : (fun a : Fin 2 => x a.succ) = (ix2 (⟨(x 1).val, hx1⟩ : Fin R.m) (⟨(x 2).val, hx2⟩ : Fin 256)) := by
    funext a; match a with | ⟨0, _⟩ => rfl | ⟨1, _⟩ => rfl
  rw [show (fun a : Fin 2 => x a.succ) = (ix2 (⟨(x 1).val, hx1⟩ : Fin R.m) (⟨(x 2).val, hx2⟩ : Fin 256)) from ex, mulf_apply]
  unfold valAt elemAt
  refine congrArg₂ (fun a b : EReal => a * b) ?_ ?_
  · refine (Ideal.matmul_plain_apply none _ _ _ (⟨(x 1).val, hx1⟩ : Fin R.m) (⟨(x 2).val, hx2⟩ : Fin 256)).trans ?_
    rw [constant_apply, Ideal.ofBits_zero_f32, zero_add]
    refine Finset.sum_congr rfl fun f _ => ?_
    refine congrArg₂ (fun a b : EReal => a * b) ?_ ?_
    · refine congrArg x0 (funext fun a => Fin.ext ?_)
      match a with
      | ⟨0, _⟩ => rfl
      | ⟨1, _⟩ => show 0 + 1 * f.val = f.val; omega
    · rw [wide_apply, column_apply]
      have hcol : (colOf ((R.rY j).emb x)).val = 256 * j.val + (x 2).val := by
        show 1024 * (j.val / 4 + 1 * (x 0).val) + (256 * (j.val % 4) + 1 * (x 2).val) = _
        omega
      have hf := f.isLt
      by_cases hc : (x 2).val / 128 = 0
      · rw [if_pos hc]
        refine (blkAt_apply x2 x3 _ _ _ _ f (colOf ((R.rY j).emb x)) ?_ ?_).trans ?_
        · show f.val = 128 * (f.val / 128) + f.val % 128
          omega
        · rw [hcol]
          show 256 * j.val + (x 2).val = 128 * (2 * j.val) + (x 2).val % 128
          omega
        · have e : (⟨2 * j.val, by omega⟩ : Fin 32) = ⟨(colOf ((R.rY j).emb x)).val / 128, by omega⟩ := Fin.ext (by
            show 2 * j.val = _ / 128; rw [hcol]; omega)
          rw [e]
      · rw [if_neg hc]
        refine (blkAt_apply x2 x3 _ _ _ _ f (colOf ((R.rY j).emb x)) ?_ ?_).trans ?_
        · show f.val = 128 * (f.val / 128) + f.val % 128
          omega
        · rw [hcol]
          show 256 * j.val + (x 2).val = 128 * (2 * j.val + 1) + (x 2).val % 128
          omega
        · have e : (⟨2 * j.val + 1, by omega⟩ : Fin 32) = ⟨(colOf ((R.rY j).emb x)).val / 128, by omega⟩ := Fin.ext (by
            show 2 * j.val + 1 = _ / 128; rw [hcol]; omega)
          rw [e]
  · have key := concatenate_ofFn_apply (s₁ := R.SR) (t := R.SO) 1 (N := 2) (fun _ => fun y => x1 (R.rR.emb y)) R.cat
      rfl 128 rfl (ix2 (⟨(x 1).val, hx1⟩ : Fin R.m) (⟨(x 2).val, hx2⟩ : Fin 256)) ⟨(x 2).val / 128, by omega⟩ rfl
      (ix2 (⟨(x 1).val, hx1⟩ : Fin R.m) (⟨(x 2).val % 128, by omega⟩ : Fin 128)) rfl (by
        intro b hb
        match b with
        | ⟨0, _⟩ => rfl
        | ⟨1, _⟩ => exact absurd rfl hb)
    refine Eq.trans key ?_
    refine congrArg x1 (funext fun a => Fin.ext ?_)
    match a with
    | ⟨0, _⟩ => rfl
    | ⟨1, _⟩ =>
      show 0 + 1 * ((x 2).val % 128) = (colOf ((R.rY j).emb x)).val % 128
      show 0 + 1 * ((x 2).val % 128) = (1024 * (j.val / 4 + 1 * (x 0).val) + (256 * (j.val % 4) + 1 * (x 2).val)) % 128
      omega

/-- The first `n` pieces of a branch laid over `Y`: the element of the product in a place one of them covers, `Y` in the others. -/
theorem lay_cases (R : Rows) (x0 : S512x1408.Idx → Elt Ideal .bf16) (x1 : S512x128.Idx → Elt Ideal .f32)
    (x2 : S1x1408x4096.Idx → Elt Ideal .fp8e4m3) (x3 : S1x11x32.Idx → Elt Ideal .f32) (Y : S4x512x1024.Idx → Elt Ideal .f32)
    (y : S4x512x1024.Idx) : ∀ (n : ℕ) (hn : n ≤ 16),
    lay R x0 x1 x2 x3 n hn Y y = valAt x0 x1 x2 x3 y
      ∨ (lay R x0 x1 x2 x3 n hn Y y = Y y ∧ ∀ j : Fin 16, j.val < n → y ∉ (R.rY j).set)
  | 0, _ => .inr ⟨rfl, fun j h => absurd h (Nat.not_lt_zero _)⟩
  | n + 1, hn => by
    by_cases hy : y ∈ (R.rY ⟨n, hn⟩).set
    · left
      rw [← (R.rY ⟨n, hn⟩).map_emb_univ] at hy
      obtain ⟨x, -, rfl⟩ := Finset.mem_map.mp hy
      show (R.rY ⟨n, hn⟩).overlay _ _ _ = _
      rw [Rect.overlay_emb]
      exact pieceAt_apply R x0 x1 x2 x3 ⟨n, hn⟩ x
    · have e : lay R x0 x1 x2 x3 (n + 1) hn Y y = lay R x0 x1 x2 x3 n (Nat.le_of_succ_le hn) Y y := by
        show (R.rY ⟨n, hn⟩).overlay _ _ _ = _
        rw [Rect.overlay_of_not_mem _ _ _ hy]
      rw [e]
      rcases lay_cases R x0 x1 x2 x3 Y y n (Nat.le_of_succ_le hn) with h | ⟨h, hj⟩
      · exact .inl h
      · refine .inr ⟨h, fun j hjn => ?_⟩
        rcases Nat.lt_succ_iff_lt_or_eq.mp hjn with h1 | h1
        · exact hj j h1
        · have : j = ⟨n, hn⟩ := Fin.ext h1
          rw [this]; exact hy

/-- All 16 pieces of a branch hold the element of the product in every row of the branch. -/
theorem lay_row (R : Rows) (x0 : S512x1408.Idx → Elt Ideal .bf16) (x1 : S512x128.Idx → Elt Ideal .f32)
    (x2 : S1x1408x4096.Idx → Elt Ideal .fp8e4m3) (x3 : S1x11x32.Idx → Elt Ideal .f32) (Y : S4x512x1024.Idx → Elt Ideal .f32)
    (y : S4x512x1024.Idx) (h0 : R.r0 ≤ (y 1).val) (h1 : (y 1).val < R.r0 + R.m) :
    lay R x0 x1 x2 x3 16 (Nat.le_refl 16) Y y = valAt x0 x1 x2 x3 y := by
  rcases lay_cases R x0 x1 x2 x3 Y y 16 (Nat.le_refl 16) with h | ⟨-, hj⟩
  · exact h
  · exfalso
    have a0 : (y 0).val < 4 := (y 0).isLt
    have a2 : (y 2).val < 1024 := (y 2).isLt
    refine hj ⟨4 * (y 0).val + (y 2).val / 256, by omega⟩ (by show _ < 16; omega) ?_
    rw [Rect.mem_set_unit]
    intro a
    match a with
    | ⟨0, _⟩ => show (4 * (y 0).val + (y 2).val / 256) / 4 ≤ (y 0).val ∧ (y 0).val < (4 * (y 0).val + (y 2).val / 256) / 4 + 1; omega
    | ⟨1, _⟩ => exact ⟨h0, h1⟩
    | ⟨2, _⟩ =>
      show 256 * ((4 * (y 0).val + (y 2).val / 256) % 4) ≤ (y 2).val
        ∧ (y 2).val < 256 * ((4 * (y 0).val + (y 2).val / 256) % 4) + 256
      omega

/-- All 16 pieces of a branch leave the element of the product or what was there. -/
theorem lay_or (R : Rows) (x0 : S512x1408.Idx → Elt Ideal .bf16) (x1 : S512x128.Idx → Elt Ideal .f32)
    (x2 : S1x1408x4096.Idx → Elt Ideal .fp8e4m3) (x3 : S1x11x32.Idx → Elt Ideal .f32) (Y : S4x512x1024.Idx → Elt Ideal .f32)
    (y : S4x512x1024.Idx) :
    lay R x0 x1 x2 x3 16 (Nat.le_refl 16) Y y = valAt x0 x1 x2 x3 y ∨ lay R x0 x1 x2 x3 16 (Nat.le_refl 16) Y y = Y y :=
  (lay_cases R x0 x1 x2 x3 Y y 16 (Nat.le_refl 16)).imp id And.left

/-! ## Which rows the body covers -/

theorem cond1_iff (v : BitVec 32) : k0_cond1 v = 1#1 ↔ 384 < v.toInt := by
  unfold k0_cond1
  exact (Scalar.guard_iff _).trans IntOp.cmpi_sgt

theorem cond2_iff (v : BitVec 32) : k0_cond2 v = 1#1 ↔ 128 < v.toInt ∧ v.toInt ≤ 384 := by
  unfold k0_cond2
  refine (Scalar.guard_iff _).trans (IntOp.andi_eq_one.trans (and_congr ?_ ?_))
  · exact IntOp.cmpi_sgt
  · exact IntOp.cmpi_sle

theorem cond3_iff (v : BitVec 32) : k0_cond3 v = 1#1 ↔ (0 < v.toInt ∧ v.toInt ≤ 128) ∨ (256 < v.toInt ∧ v.toInt ≤ 384) := by
  unfold k0_cond3
  refine (Scalar.guard_iff _).trans (IntOp.ori_eq_one.trans (or_congr ?_ ?_))
  · refine IntOp.andi_eq_one.trans (and_congr ?_ ?_)
    · exact IntOp.cmpi_sgt
    · exact IntOp.cmpi_sle
  · refine IntOp.andi_eq_one.trans (and_congr ?_ ?_)
    · exact IntOp.cmpi_sgt
    · exact IntOp.cmpi_sle

theorem mult1_low (v : BitVec 32) (h : v.toInt ≤ 128) : (k0_mult1 v).toNat = 0 := by
  have hn : ¬ IntOp.cmpi .sgt v 128#32 = 1#1 := fun hc => absurd (IntOp.cmpi_sgt.mp hc) (by
    rw [show (128#32 : BitVec 32).toInt = 128 from by decide]; omega)
  show (Scalar.select (IntOp.cmpi .sgt v 128#32) 256#32 0#32).toNat = 0
  rw [eq_zero_of_ne_one hn, select_zero]; rfl

theorem mult1_high (v : BitVec 32) (h : 128 < v.toInt) : (k0_mult1 v).toNat = 256 := by
  have hy : IntOp.cmpi .sgt v 128#32 = 1#1 := IntOp.cmpi_sgt.mpr (by
    rw [show (128#32 : BitVec 32).toInt = 128 from by decide]; exact h)
  show (Scalar.select (IntOp.cmpi .sgt v 128#32) 256#32 0#32).toNat = 256
  rw [hy, select_one]; rfl

/-- At a tile with `v` valid rows the body leaves the element of the product in every row of every group of 128 rows that
    has a valid row in it. -/
theorem leaves_covered (v : BitVec 32) (hc : k0_chk1 v) (x0 : S512x1408.Idx → Elt Ideal .bf16) (x1 : S512x128.Idx → Elt Ideal .f32)
    (x2 : S1x1408x4096.Idx → Elt Ideal .fp8e4m3) (x3 : S1x11x32.Idx → Elt Ideal .f32) (Y : S4x512x1024.Idx → Elt Ideal .f32)
    (y : S4x512x1024.Idx) (hy : (128 * ((y 1).val / 128 : ℕ) : Int) < v.toInt) :
    leaves v hc x0 x1 x2 x3 Y y = valAt x0 x1 x2 x3 y := by
  have hy1 : (y 1).val < 512 := (y 1).isLt
  unfold leaves
  by_cases h1 : k0_cond1 v = 1#1
  · have hv := (cond1_iff v).mp h1
    have h2 : ¬ k0_cond2 v = 1#1 := fun h => by have := (cond2_iff v).mp h; omega
    have h3 : ¬ k0_cond3 v = 1#1 := fun h => by have := (cond3_iff v).mp h; omega
    rw [dif_neg h3, if_neg h2, if_pos h1]
    exact lay_row rows512 x0 x1 x2 x3 Y y (Nat.zero_le _) (by show _ < 0 + 512; omega)
  · have hv : v.toInt ≤ 384 := by by_contra hh; exact h1 ((cond1_iff v).mpr (by omega))
    rw [if_neg h1]
    by_cases h2 : k0_cond2 v = 1#1
    · have hv2 := (cond2_iff v).mp h2
      rw [if_pos h2]
      by_cases h3 : k0_cond3 v = 1#1
      · rw [dif_pos h3]
        have hv3 := (cond3_iff v).mp h3
        have hr : (rows128 v hc h3).r0 = 256 := mult1_high v hv2.1
        by_cases hlt : (y 1).val < 256
        · rcases lay_or (rows128 v hc h3) x0 x1 x2 x3 (lay rows256 x0 x1 x2 x3 16 (Nat.le_refl 16) Y) y with h | h
          · exact h
          · rw [h]
            exact lay_row rows256 x0 x1 x2 x3 Y y (Nat.zero_le _) (by show _ < 0 + 256; omega)
        · refine lay_row (rows128 v hc h3) x0 x1 x2 x3 _ y (by rw [hr]; omega) ?_
          rw [hr]; show _ < 256 + 128; omega
      · rw [dif_neg h3]
        have : v.toInt ≤ 256 := by by_contra hh; exact h3 ((cond3_iff v).mpr (by omega))
        exact lay_row rows256 x0 x1 x2 x3 Y y (Nat.zero_le _) (by show _ < 0 + 256; omega)
    · rw [if_neg h2]
      have hv2 : v.toInt ≤ 128 := by by_contra hh; exact h2 ((cond2_iff v).mpr (by omega))
      have h3 : k0_cond3 v = 1#1 := (cond3_iff v).mpr (by omega)
      rw [dif_pos h3]
      have hr : (rows128 v hc h3).r0 = 0 := mult1_low v hv2
      refine lay_row (rows128 v hc h3) x0 x1 x2 x3 _ y (by rw [hr]; omega) ?_
      rw [hr]; show _ < 0 + 128; omega

/-- At a tile without valid rows the body leaves everything as it was. -/
theorem leaves_none (v : BitVec 32) (hc : k0_chk1 v) (x0 : S512x1408.Idx → Elt Ideal .bf16) (x1 : S512x128.Idx → Elt Ideal .f32)
    (x2 : S1x1408x4096.Idx → Elt Ideal .fp8e4m3) (x3 : S1x11x32.Idx → Elt Ideal .f32) (Y : S4x512x1024.Idx → Elt Ideal .f32)
    (hv : v.toInt ≤ 0) : leaves v hc x0 x1 x2 x3 Y = Y := by
  unfold leaves
  rw [dif_neg (fun h => by have := (cond3_iff v).mp h; omega), if_neg (fun h => by have := (cond2_iff v).mp h; omega),
    if_neg (fun h => by have := (cond1_iff v).mp h; omega)]

end Cert.KernelIdeal.Down

end
-- ==== Proof.Value.lean ====
/- The kernel's result over the extended reals.

   `left_good`: what the body may leave in the staged block at a point is the product's element in every covered row.
   `arr_good`: so is what the result's array may hold at the end, at every row whose group of 128 rows has a valid row.
   `kernel_elem`: the element read off the arrays as launched. -/
module

public import proofs.«01_k».proof.Proof.Run
public import proofs.«01_k».proof.Proof.Piece

@[expose] public section

noncomputable section

namespace Cert.KernelIdeal.Down

open Cert.KernelIdeal Cert.KernelIdeal.Gen
open Idealize.ShloMosaic Idealize.ShloMosaic.TcCoe Idealize.ShloMosaic.ValueIdx
open Idealize.SL Idealize.SL.Sem
open Idealize.ShloMosaic.Pipeline (RDat)

variable (m : (ℓ : Loc nD τ sig) → Buf (Elt Ideal) ℓ) (g : Good (pf m)) (c : Dev nD)

/-- The point of tile `b`. -/
def pt (b : Fin 96) : Fin (cfgA m g).N := ⟨b.val, by show b.val < grid0.N; rw [N_0]; exact b.isLt⟩

theorem pt_lt (t : Fin (cfgA m g).N) : t.val < 96 := by
  have h : t.val < grid0.N := t.isLt
  rwa [N_0] at h

theorem tile_val (t : Fin (cfgA m g).N) : (tile m g t).val = t.val := by
  have h := pt_lt m g t
  refine (Pipeline.Grid.coords_val (G := grid0) t 0 (S := 1) (B := 96) (by decide) (by decide)).trans ?_
  omega

theorem tile_pt (b : Fin 96) : tile m g (pt m g b) = b := Fin.ext (tile_val m g _)

/-- The result's block index at a point. -/
theorem index4 (t : Fin (cfgA m g).N) : ((cfgA m g).win (4 : Fin 5)).index t = ![0, blockOf (pf m) (tile m g t), 0] :=
  tr4 (pf m) g _

theorem index4_inj (t u : Fin (cfgA m g).N) :
    ((cfgA m g).win (4 : Fin 5)).index t = ((cfgA m g).win (4 : Fin 5)).index u ↔ blockOf (pf m) (tile m g t) = blockOf (pf m) (tile m g u) := by
  rw [index4, index4]
  constructor
  · intro h; exact congrFun h (1 : Fin 3)
  · intro h; rw [h]

theorem flush4 (t : Fin (cfgA m g).N) : ((cfgA m g).win (4 : Fin 5)).flush t = true ↔
    (t.val + 1 = 96 ∨ ∃ h : t.val + 1 < (cfgA m g).N, blockOf (pf m) (tile m g ⟨t.val + 1, h⟩) ≠ blockOf (pf m) (tile m g t)) := by
  have hN : (cfgA m g).grid.N = 96 := N_0
  unfold Pipeline.Window.flush
  rw [show ((cfgA m g).win (4 : Fin 5)).isOut = true from rfl, Bool.true_and, Bool.or_eq_true, decide_eq_true_eq, decide_eq_true_eq]
  refine or_congr (by constructor <;> intro h <;> omega) ⟨?_, ?_⟩
  · rintro ⟨h, hne⟩; exact ⟨h, fun e => hne ((index4_inj m g _ _).mpr e)⟩
  · rintro ⟨h, hne⟩; exact ⟨h, fun e => hne ((index4_inj m g _ _).mp e)⟩

/-- The element of the product at index `y` of tile `b`'s block. -/
def specAt (b : Fin 96) (y : S4x512x1024.Idx) : EReal :=
  valAt (iblk m g c 0 (pt m g b)) (iblk m g c 1 (pt m g b)) (iblk m g c 2 (pt m g b)) (iblk m g c 3 (pt m g b)) y

/-- A tile after the last one has no valid rows. -/
def Used : Prop := ∀ t : Fin 96, (validAt (pf m) t).toInt ≤ 0 ∨ (t.val : Int) < (tiles (pf m)).toInt

include g in
theorem tiles_nat : ((tiles (pf m)).toNat : Int) = (tiles (pf m)).toInt := by
  have := g.tiles
  rw [BitVec.toInt_eq_toNat_cond] at this ⊢
  split at this <;> split <;> omega

/-- What the body may leave at a point whose block is `b` is the product's element in the covered rows. -/
theorem left_good (hu : Used m) (b : Fin 96) (y : S4x512x1024.Idx)
    (hy : (128 * ((y 1).val / 128 : ℕ) : Int) < (validAt (pf m) b).toInt) :
    ∀ (n : ℕ) (t : Fin (cfgA m g).N), t.val = n → blockOf (pf m) (tile m g t) = b.val →
      ∀ X : S4x512x1024.Idx → EReal, (rdat m g c).Leaves (4 : Fin 5) t X → X y = specAt m g c b y := by
  have hn := tiles_nat m g
  have hg := g.tiles
  intro n
  induction n using Nat.strong_induction_on with
  | _ n ih =>
    intro t htn hb X hX
    obtain ⟨Y, hY, hXY⟩ := hX
    have hX' : X = left m g c t Y := hXY
    have htl := pt_lt m g t
    have htv := tile_val m g t
    unfold blockOf at hb
    rw [htv] at hb
    by_cases h : t.val = b.val
    · have et : t = pt m g b := Fin.ext h
      subst et
      rw [hX']
      unfold left
      refine leaves_covered _ _ _ _ _ _ _ y ?_
      rw [tile_pt]; exact hy
    · have hgt : (tiles (pf m)).toNat ≤ t.val := by omega
      have hv : (validAt (pf m) (tile m g t)).toInt ≤ 0 := by
        rcases hu (tile m g t) with h1 | h1
        · exact h1
        · rw [htv] at h1; omega
      have hXe : X = Y := hX'.trans (leaves_none _ _ _ _ _ _ _ hv)
      have ht0 : t.val ≠ 0 := by omega
      have hfet : ((cfgA m g).win (4 : Fin 5)).fetch t = false := rfl
      rcases ((rdat m g c).finds_of_pos hfet ht0 Y).mp hY with hfl | hle
      · exfalso
        rcases (flush4 m g _).mp hfl with h1 | ⟨h1, h2⟩
        · have h3 : t.val - 1 + 1 = 96 := h1
          omega
        · apply h2
          unfold blockOf
          rw [tile_val, tile_val]
          show min (t.val - 1 + 1) _ = min (t.val - 1) _
          omega
      · rw [hXe]
        refine ih (t.val - 1) (by omega) _ rfl ?_ Y hle
        unfold blockOf
        rw [tile_val]
        show min (t.val - 1) _ = b.val
        omega

/-- Where index `y` of block `b` lies in the result's array. -/
def place (b : Fin 96) (y : S4x512x1024.Idx) : S4x49152x1024.Idx :=
  ix3 ⟨(y 0).val, (y 0).isLt⟩ ⟨512 * b.val + (y 1).val, by have := b.isLt; have h : (y 1).val < 512 := (y 1).isLt; omega⟩ ⟨(y 2).val, (y 2).isLt⟩

theorem rect4_val (t : Fin (cfgA m g).N) (y : S4x512x1024.Idx) (a : Fin 3) :
    ((((cfgA m g).win (4 : Fin 5)).rect t).emb y a).val = ((cfgA m g).win (4 : Fin 5)).index t a * S4x512x1024.size a + (y a).val := by
  rw [Rect.emb_apply]
  show ((cfgA m g).win (4 : Fin 5)).index t a * S4x512x1024.size a + 1 * (y a).val = _
  rw [Nat.one_mul]

theorem rect4_emb (t : Fin (cfgA m g).N) (y : S4x512x1024.Idx) (b : Fin 96) (hb : blockOf (pf m) (tile m g t) = b.val) :
    (((cfgA m g).win (4 : Fin 5)).rect t).emb y = place b y := by
  have h0 := rect4_val m g t y 0
  have h1 := rect4_val m g t y 1
  have h2 := rect4_val m g t y 2
  rw [index4] at h0 h1 h2
  funext a; apply Fin.ext
  match a with
  | ⟨0, _⟩ => refine h0.trans ?_; show 0 * 4 + _ = (y 0).val; omega
  | ⟨1, _⟩ => refine h1.trans ?_; show blockOf (pf m) (tile m g t) * 512 + (y 1).val = 512 * b.val + (y 1).val; omega
  | ⟨2, _⟩ => refine h2.trans ?_; show 0 * 1024 + _ = (y 2).val; omega

/-- A write-back of any window, read through its array inside the block, -/
theorem back_in {G : Pipeline.Grid} (w : Pipeline.Window sig G) (t : Fin G.N) (f : w.arr.view.ty.Contents (Elt Ideal))
    (X : (w.xblock (G.coords t)).Idx → Elt Ideal w.elt) (x : (w.xblock (G.coords t)).Idx) :
    w.arr.view.read (Elt Ideal) ((w.blk t).view.write (Elt Ideal) f X Finset.univ) ((w.rect t).emb x) = X x :=
  View.read_slice_write_emb (v := w.arr.view) (w.rect t) f X (Finset.mem_univ x)

/-- and outside it. -/
theorem back_off {G : Pipeline.Grid} (w : Pipeline.Window sig G) (t : Fin G.N) (f : w.arr.view.ty.Contents (Elt Ideal))
    (X : (w.xblock (G.coords t)).Idx → Elt Ideal w.elt) (i : w.shape.Idx) (h : ∀ x, (w.rect t).emb x ≠ i) :
    w.arr.view.read (Elt Ideal) ((w.blk t).view.write (Elt Ideal) f X Finset.univ) i = w.arr.view.read (Elt Ideal) f i :=
  View.read_slice_write_of_not_mem (v := w.arr.view) (w.rect t) f X Finset.univ (fun hm => by
    obtain ⟨x, -, hx⟩ := Finset.mem_map.mp hm
    exact h x hx)

theorem read4 (G : S4x49152x1024.Idx → EReal) (i : S4x49152x1024.Idx) :
    ((cfgA m g).win (4 : Fin 5)).arr.view.read (Elt Ideal) G i = G i := rfl

/-- One write-back, read at an index of block `b`. -/
theorem write_at (t : Fin (cfgA m g).N) (G₀ G : S4x49152x1024.Idx → EReal) (X : S4x512x1024.Idx → EReal)
    (hG : G = (((cfgA m g).win (4 : Fin 5)).blk t).view.write (Elt Ideal) G₀ (((cfgA m g).win (4 : Fin 5)).cut ((cfgA m g).grid.coords t) X) Finset.univ)
    (y : S4x512x1024.Idx) (b : Fin 96) :
    G (place b y) = if blockOf (pf m) (tile m g t) = b.val then X y else G₀ (place b y) := by
  rw [← read4 m g G]
  by_cases hb : blockOf (pf m) (tile m g t) = b.val
  · rw [if_pos hb, ← rect4_emb m g t y b hb, hG]
    exact back_in ((cfgA m g).win (4 : Fin 5)) t G₀ _ y
  · rw [if_neg hb, ← read4 m g G₀, hG]
    refine back_off ((cfgA m g).win (4 : Fin 5)) t G₀ _ (place b y) fun x hx => ?_
    have h1 := rect4_val m g t x 1
    rw [index4, hx] at h1
    have h2 : 512 * b.val + (y 1).val = blockOf (pf m) (tile m g t) * 512 + (x 1).val := h1
    have hy1 : (y 1).val < 512 := (y 1).isLt
    have hx1 : (x 1).val < 512 := (x 1).isLt
    omega

/-- What the array may hold after the points below `t`, at a block written back before `t`. -/
theorem arr_good (hu : Used m) (b : Fin 96) (y : S4x512x1024.Idx)
    (hy : (128 * ((y 1).val / 128 : ℕ) : Int) < (validAt (pf m) b).toInt) :
    ∀ (t : ℕ) (G : S4x49152x1024.Idx → EReal), (rdat m g c).ArrAt (4 : Fin 5) t G →
      (∃ u : Fin (cfgA m g).N, u.val < t ∧ ((cfgA m g).win (4 : Fin 5)).flush u = true ∧ blockOf (pf m) (tile m g u) = b.val) →
      G (place b y) = specAt m g c b y
  | 0, G, _, ⟨u, hu0, _⟩ => absurd hu0 (Nat.not_lt_zero _)
  | t + 1, G, hG, ⟨u, hut, hfl, hub⟩ => by
    unfold RDat.ArrAt at hG
    simp only at hG
    by_cases h : t < (cfgA m g).N
    · rw [dif_pos h] at hG
      by_cases hf : ((cfgA m g).win (4 : Fin 5)).flush ⟨t, h⟩ = true
      · rw [if_pos hf] at hG
        obtain ⟨G₀, X, hG₀, hX, hGe⟩ := hG
        refine (write_at m g ⟨t, h⟩ G₀ G X hGe y b).trans ?_
        by_cases hbt : blockOf (pf m) (tile m g ⟨t, h⟩) = b.val
        · rw [if_pos hbt]
          exact left_good m g c hu b y hy t ⟨t, h⟩ rfl hbt X hX
        · rw [if_neg hbt]
          refine arr_good hu b y hy t G₀ hG₀ ⟨u, ?_, hfl, hub⟩
          rcases Nat.lt_succ_iff_lt_or_eq.mp hut with h1 | h1
          · exact h1
          · exact absurd (by have : u = ⟨t, h⟩ := Fin.ext h1; rw [← this]; exact hub) hbt
      · rw [if_neg hf] at hG
        refine arr_good hu b y hy t G hG ⟨u, ?_, hfl, hub⟩
        rcases Nat.lt_succ_iff_lt_or_eq.mp hut with h1 | h1
        · exact h1
        · exact absurd (by have : u = ⟨t, h⟩ := Fin.ext h1; rw [← this]; exact hfl) hf
    · rw [dif_neg h] at hG
      exact arr_good hu b y hy t G hG ⟨u, lt_of_lt_of_le u.isLt (Nat.not_lt.mp h), hfl, hub⟩

/-- The result's array at the end, at a covered row of a tile. -/
theorem end_good (hu : Used m) (b : Fin 96) (y : S4x512x1024.Idx)
    (hy : (128 * ((y 1).val / 128 : ℕ) : Int) < (validAt (pf m) b).toInt) (G : S4x49152x1024.Idx → EReal)
    (hG : (rdat m g c).ArrAt (4 : Fin 5) (cfgA m g).N G) : G (place b y) = specAt m g c b y := by
  have hn := tiles_nat m g
  have hN : (cfgA m g).N = 96 := N_0
  refine arr_good m g c hu b y hy (cfgA m g).N G hG ?_
  have hb := b.isLt
  have hlt : b.val < (tiles (pf m)).toNat := by
    rcases hu b with h | h
    · omega
    · omega
  by_cases h : min 95 ((tiles (pf m)).toNat - 1) = b.val
  · refine ⟨pt m g 95, (pt m g 95).isLt, (flush4 m g _).mpr (.inl rfl), ?_⟩
    rw [tile_pt]; exact h
  · refine ⟨pt m g b, (pt m g b).isLt, (flush4 m g _).mpr (.inr ⟨?_, ?_⟩), ?_⟩
    · refine lt_of_lt_of_eq ?_ hN.symm; show b.val + 1 < 96; omega
    · unfold blockOf
      rw [tile_val, tile_val]
      show min (b.val + 1) _ ≠ min b.val _
      omega
    · rw [tile_pt]; unfold blockOf; omega

end Cert.KernelIdeal.Down

end
-- ==== Proof.Elem.lean ====
/- The product's elements, read off the arrays as launched.

   `iblk0` … `iblk3`: the entries of the four input blocks staged at tile `b`; `specAt_eq`: the element in those terms. -/
module

public import proofs.«01_k».proof.Proof.Value

@[expose] public section

noncomputable section

namespace Cert.KernelIdeal.Down

open Cert.KernelIdeal Cert.KernelIdeal.Gen
open Idealize.ShloMosaic Idealize.ShloMosaic.TcCoe Idealize.ShloMosaic.ValueIdx
open Idealize.SL Idealize.SL.Sem
open Idealize.ShloMosaic.Pipeline (RDat)

variable (m : (ℓ : Loc nD τ sig) → Buf (Elt Ideal) ℓ) (g : Good (pf m)) (c : Dev nD)

theorem read_in {G : Pipeline.Grid} (w : Pipeline.Window sig G) (t : Fin G.N) (f : w.arr.view.ty.Contents (Elt Ideal))
    (x : (w.xblock (G.coords t)).Idx) :
    (w.blk t).view.read (Elt Ideal) f x = w.arr.view.read (Elt Ideal) f ((w.rect t).emb x) := rfl

theorem read0 (G : S49152x1408.Idx → EReal) (i : S49152x1408.Idx) :
    ((cfgA m g).win (0 : Fin 5)).arr.view.read (Elt Ideal) G i = G i := rfl
theorem read1 (G : S49152x128.Idx → EReal) (i : S49152x128.Idx) :
    ((cfgA m g).win (1 : Fin 5)).arr.view.read (Elt Ideal) G i = G i := rfl
theorem read2 (G : S32x1408x4096.Idx → EReal) (i : S32x1408x4096.Idx) :
    ((cfgA m g).win (2 : Fin 5)).arr.view.read (Elt Ideal) G i = G i := rfl
theorem read3 (G : S32x11x32.Idx → EReal) (i : S32x11x32.Idx) :
    ((cfgA m g).win (3 : Fin 5)).arr.view.read (Elt Ideal) G i = G i := rfl

theorem index0 (t : Fin (cfgA m g).N) : ((cfgA m g).win (0 : Fin 5)).index t = ![blockOf (pf m) (tile m g t), 0] :=
  tr0 (pf m) g _
theorem index1 (t : Fin (cfgA m g).N) : ((cfgA m g).win (1 : Fin 5)).index t = ![blockOf (pf m) (tile m g t), 0] :=
  tr1 (pf m) g _
theorem index2 (t : Fin (cfgA m g).N) : ((cfgA m g).win (2 : Fin 5)).index t = ![(expertAt (pf m) (tile m g t)).toNat, 0, 0] :=
  tr2 (pf m) _
theorem index3 (t : Fin (cfgA m g).N) : ((cfgA m g).win (3 : Fin 5)).index t = ![(expertAt (pf m) (tile m g t)).toNat, 0, 0] :=
  tr3 (pf m) _

theorem rect_val0 (t : Fin (cfgA m g).N) (y : S512x1408.Idx) (a : Fin 2) :
    ((((cfgA m g).win (0 : Fin 5)).rect t).emb y a).val = ((cfgA m g).win (0 : Fin 5)).index t a * S512x1408.size a + (y a).val := by
  rw [Rect.emb_apply]
  show ((cfgA m g).win (0 : Fin 5)).index t a * S512x1408.size a + 1 * (y a).val = _
  rw [Nat.one_mul]
theorem rect_val1 (t : Fin (cfgA m g).N) (y : S512x128.Idx) (a : Fin 2) :
    ((((cfgA m g).win (1 : Fin 5)).rect t).emb y a).val = ((cfgA m g).win (1 : Fin 5)).index t a * S512x128.size a + (y a).val := by
  rw [Rect.emb_apply]
  show ((cfgA m g).win (1 : Fin 5)).index t a * S512x128.size a + 1 * (y a).val = _
  rw [Nat.one_mul]
theorem rect_val2 (t : Fin (cfgA m g).N) (y : S1x1408x4096.Idx) (a : Fin 3) :
    ((((cfgA m g).win (2 : Fin 5)).rect t).emb y a).val = ((cfgA m g).win (2 : Fin 5)).index t a * S1x1408x4096.size a + (y a).val := by
  rw [Rect.emb_apply]
  show ((cfgA m g).win (2 : Fin 5)).index t a * S1x1408x4096.size a + 1 * (y a).val = _
  rw [Nat.one_mul]
theorem rect_val3 (t : Fin (cfgA m g).N) (y : S1x11x32.Idx) (a : Fin 3) :
    ((((cfgA m g).win (3 : Fin 5)).rect t).emb y a).val = ((cfgA m g).win (3 : Fin 5)).index t a * S1x11x32.size a + (y a).val := by
  rw [Rect.emb_apply]
  show ((cfgA m g).win (3 : Fin 5)).index t a * S1x11x32.size a + 1 * (y a).val = _
  rw [Nat.one_mul]

/-- Row `r` of tile `b`. -/
def rowOf (b : Fin 96) (r : Fin 512) : Fin 49152 := ⟨512 * b.val + r.val, by have := b.isLt; have := r.isLt; omega⟩
/-- The expert of tile `b`. -/
def expOf (b : Fin 96) : Fin 32 := ⟨(expertAt (pf m) b).toNat, g.expert b⟩

/-- The rows staged at tile `b` are its rows. -/
theorem iblk0 (b : Fin 96) (hb : blockOf (pf m) b = b.val) (r : Fin 512) (f : Fin 1408) :
    (iblk m g c 0 (pt m g b) : S512x1408.Idx → EReal) (ix2 r f)
      = (m ((c.tc : Thread nD τ).loc main_arg3) : S49152x1408.Idx → EReal) (ix2 (rowOf b r) f) := by
  have h0 := rect_val0 m g (pt m g b) (ix2 r f) 0
  have h1 := rect_val0 m g (pt m g b) (ix2 r f) 1
  rw [index0, tile_pt, hb] at h0 h1
  refine (read_in ((cfgA m g).win (0 : Fin 5)) (pt m g b) _ (ix2 r f)).trans ((read0 m g _ _).trans (congrArg _ ?_))
  funext a; apply Fin.ext
  match a with
  | ⟨0, _⟩ => refine h0.trans ?_; show b.val * 512 + r.val = 512 * b.val + r.val; omega
  | ⟨1, _⟩ => refine h1.trans ?_; show 0 * 1408 + f.val = f.val; omega

/-- So are the row weights. -/
theorem iblk1 (b : Fin 96) (hb : blockOf (pf m) b = b.val) (r : Fin 512) (l : Fin 128) :
    (iblk m g c 1 (pt m g b) : S512x128.Idx → EReal) (ix2 r l)
      = (m ((c.tc : Thread nD τ).loc main_arg4) : S49152x128.Idx → EReal) (ix2 (rowOf b r) l) := by
  have h0 := rect_val1 m g (pt m g b) (ix2 r l) 0
  have h1 := rect_val1 m g (pt m g b) (ix2 r l) 1
  rw [index1, tile_pt, hb] at h0 h1
  refine (read_in ((cfgA m g).win (1 : Fin 5)) (pt m g b) _ (ix2 r l)).trans ((read1 m g _ _).trans (congrArg _ ?_))
  funext a; apply Fin.ext
  match a with
  | ⟨0, _⟩ => refine h0.trans ?_; show b.val * 512 + r.val = 512 * b.val + r.val; omega
  | ⟨1, _⟩ => refine h1.trans ?_; show 0 * 128 + l.val = l.val; omega

/-- The codes staged are the tile's expert's. -/
theorem iblk2 (b : Fin 96) (f : Fin 1408) (d : Fin 4096) :
    (iblk m g c 2 (pt m g b) : S1x1408x4096.Idx → EReal) (ix3 0 f d)
      = (m ((c.tc : Thread nD τ).loc main_arg5) : S32x1408x4096.Idx → EReal) (ix3 (expOf m g b) f d) := by
  have h0 := rect_val2 m g (pt m g b) (ix3 0 f d) 0
  have h1 := rect_val2 m g (pt m g b) (ix3 0 f d) 1
  have h2 := rect_val2 m g (pt m g b) (ix3 0 f d) 2
  rw [index2, tile_pt] at h0 h1 h2
  refine (read_in ((cfgA m g).win (2 : Fin 5)) (pt m g b) _ (ix3 0 f d)).trans ((read2 m g _ _).trans (congrArg _ ?_))
  funext a; apply Fin.ext
  match a with
  | ⟨0, _⟩ => refine h0.trans ?_; show (expertAt (pf m) b).toNat * 1 + 0 = (expertAt (pf m) b).toNat; omega
  | ⟨1, _⟩ => refine h1.trans ?_; show 0 * 1408 + f.val = f.val; omega
  | ⟨2, _⟩ => refine h2.trans ?_; show 0 * 4096 + d.val = d.val; omega

/-- So are the scales. -/
theorem iblk3 (b : Fin 96) (i : Fin 11) (j : Fin 32) :
    (iblk m g c 3 (pt m g b) : S1x11x32.Idx → EReal) (ix3 0 i j)
      = (m ((c.tc : Thread nD τ).loc main_arg6) : S32x11x32.Idx → EReal) (ix3 (expOf m g b) i j) := by
  have h0 := rect_val3 m g (pt m g b) (ix3 0 i j) 0
  have h1 := rect_val3 m g (pt m g b) (ix3 0 i j) 1
  have h2 := rect_val3 m g (pt m g b) (ix3 0 i j) 2
  rw [index3, tile_pt] at h0 h1 h2
  refine (read_in ((cfgA m g).win (3 : Fin 5)) (pt m g b) _ (ix3 0 i j)).trans ((read3 m g _ _).trans (congrArg _ ?_))
  funext a; apply Fin.ext
  match a with
  | ⟨0, _⟩ => refine h0.trans ?_; show (expertAt (pf m) b).toNat * 1 + 0 = (expertAt (pf m) b).toNat; omega
  | ⟨1, _⟩ => refine h1.trans ?_; show 0 * 11 + i.val = i.val; omega
  | ⟨2, _⟩ => refine h2.trans ?_; show 0 * 32 + j.val = j.val; omega

/-- Row `p`, column `d` of the weighted product with expert `e`'s dequantised weights. -/
def elem (h : S49152x1408.Idx → EReal) (rw' : S49152x128.Idx → EReal) (w : S32x1408x4096.Idx → EReal) (s : S32x11x32.Idx → EReal)
    (e : Fin 32) (p : Fin 49152) (d : Fin 4096) : EReal :=
  (∑ f : Fin 1408, h (ix2 p f) * (w (ix3 e f d) * s (ix3 e ⟨f.val / 128, by have := f.isLt; omega⟩ ⟨d.val / 128, by have := d.isLt; omega⟩)))
    * rw' (ix2 p ⟨d.val % 128, Nat.mod_lt _ (by decide)⟩)

theorem specAt_eq (b : Fin 96) (hb : blockOf (pf m) b = b.val) (y : S4x512x1024.Idx) :
    specAt m g c b y = elem (m ((c.tc : Thread nD τ).loc main_arg3)) (m ((c.tc : Thread nD τ).loc main_arg4))
      (m ((c.tc : Thread nD τ).loc main_arg5)) (m ((c.tc : Thread nD τ).loc main_arg6)) (expOf m g b) (rowOf b (y 1)) (colOf y) := by
  unfold specAt valAt elemAt elem
  exact congrArg₂ (· * ·) (Finset.sum_congr rfl fun f _ => congrArg₂ (· * ·) (iblk0 m g c b hb (y 1) f)
    (congrArg₂ (· * ·) (iblk2 m g c b f _) (iblk3 m g c b _ _))) (iblk1 m g c b hb (y 1) _)

end Cert.KernelIdeal.Down

end
-- ==== Proof.RefRun.lean ====
/- The reference's lines of host operations after its one call, as one term. -/
module

public import proofs.«01_k».proof.Proof.Gen.ReferenceIdeal.Frame
public import Idealize.ShloMosaic.Lib.StableHlo.RunRead
public import Idealize.ShloMosaic.Lib.Pipeline.ValueKit
public import Idealize.ShloMosaic.Lib.Claim

@[expose] public section

set_option maxRecDepth 16384

noncomputable section

namespace Cert.ReferenceIdeal.Down

open Cert.ReferenceIdeal Cert.ReferenceIdeal.Gen
open Idealize.ShloMosaic Idealize.ShloMosaic.TcCoe
open Idealize.SL Idealize.SL.Sem

variable {F : FTy → Type} [FloatOps F]

/-- Every row's product with every expert's dequantised weights. -/
def products (W : Vec F S32x1408x4096 .bf16) (S : Vec F S32x11x32 .bf16) (h : Vec F S49152x1408 .bf16) : Vec F S32x49152x4096 .f32 :=
  transpose S32x49152x4096 [0, 2, 1]
    (Host.dotGeneral dot_S32x1408x4096_S49152x1408_S32x4096x49152_1_1_02_0_n_n none
      (mulf W (shapeCast S32x1408x4096 (broadcastInDim S32x11x128x32x128 ![0, 1, 2, 3, 4] bcast_S32x11x1x32x1_S32x11x128x32x128_0_1_2_3_4
        (broadcastInDim S32x11x1x32x1 ![0, 1, 3] bcast_S32x11x32_S32x11x1x32x1_0_1_3 S)) shapeCasts_S32x11x128x32x128_S32x1408x4096)) h)
    transposes_S32x4096x49152_S32x49152x4096_0_2_1

/-- Every row's expert, at every index. -/
def experts (e : S96.Idx → BitVec 32) : S32x49152x4096.Idx → BitVec 32 :=
  broadcastInDim S32x49152x4096 ![0, 1, 2] bcast_S1x49152x1_S32x49152x4096_0_1_2
    (broadcastInDim S1x49152x1 ![1] bcast_S49152_S1x49152x1_1
      (shapeCast S49152 (broadcastInDim S96x512 ![0, 1] bcast_S96x1_S96x512_0_1 (broadcastInDim S96x1 ![0] bcast_S96_S96x1_0 e))
        shapeCasts_S96x512_S49152))

/-- Every row's product with its own expert's. -/
def chosen (e : S96.Idx → BitVec 32) (P : Vec F S32x49152x4096 .f32) : Vec F S49152x4096 .f32 :=
  Host.reduceAdd (select (cmpi .eq (iotaInDim S32x49152x4096 32 0) (experts e)) P
    (broadcastInDim S32x49152x4096 ![] bcast_S_S32x49152x4096 (constant S_ .f32 0x00000000#32 : Vec F S_ .f32)))
    (constant S_ .f32 0x00000000#32 : Vec F S_ .f32) reducesTo_S32x49152x4096_S49152x4096_d0 h_S_

/-- The row weights, at every column. -/
def weights (rw' : Vec F S49152x128 .f32) : Vec F S49152x4096 .f32 :=
  shapeCast S49152x4096 (broadcastInDim S49152x32x128 ![0, 1, 2] bcast_S49152x1x128_S49152x32x128_0_1_2
    (broadcastInDim S49152x1x128 ![0, 2] bcast_S49152x128_S49152x1x128_0_2 rw')) shapeCasts_S49152x32x128_S49152x4096

/-- The reference's result. -/
def tail (e : S96.Idx → BitVec 32) (W : Vec F S32x1408x4096 .bf16) (S : Vec F S32x11x32 .bf16) (h : Vec F S49152x1408 .bf16)
    (rw' : Vec F S49152x128 .f32) : Vec F S4x49152x1024 .f32 :=
  transpose S4x49152x1024 [1, 0, 2]
    (shapeCast S49152x4x1024 (mulf (chosen e (products W S h)) (weights rw')) shapeCasts_S49152x4096_S49152x4x1024)
    transposes_S49152x4x1024_S4x49152x1024_1_0_2

set_option maxHeartbeats 2000000 in
theorem after_tail (V : Valuation τ sig (Elt F)) :
    StableHlo.after hostOps1 V (Proc.devRef .tc main_v23)
      = tail (V (Proc.devRef .tc main_arg0)) (V (Proc.devRef .tc main_v1)) (V (Proc.devRef .tc main_v0)) (V (Proc.devRef .tc main_arg3))
          (V (Proc.devRef .tc main_arg4)) := by
  unfold hostOps1
  after_reads_simp
  rfl

theorem after_head (V : Valuation τ sig (Elt F)) :
    StableHlo.after hostOps0 V (Proc.devRef .tc main_v0) = truncf .bf16 (V (Proc.devRef .tc main_arg6)) bitsLt_bf16_f32 := by
  unfold hostOps0
  after_reads_simp

/-- The call's one grid point. -/
def pt0 : Fin cfg0.N := ⟨0, by decide +kernel⟩

/-- The call's operand block is the codes' array. -/
theorem iblk_codes (m : (ℓ : Loc nD τ sig) → Buf (Elt F) ℓ) (c : Dev nD) : iblk m c 0 pt0 = V m c main_arg5 := by
  have hi : ∀ t : Fin cfg0.N, win0_0.index t = ![0, 0, 0] := (by decide +kernel : ∀ t : Fin grid0.N, _)
  funext j
  blk_ext! [iblk, hi pt0]

/-- Over the extended reals the call copies the codes. -/
theorem codes (m : (ℓ : Loc nD τ sig) → Buf (Elt Ideal) ℓ) (c : Dev nD) :
    (dats m 0 c).arrAt 1 cfg0.N = m ((c : Thread nD τ).loc main_arg5) := by
  refine (dats m 0 c).arrAt_eq_of_after_last 1 pt0 (by decide +kernel) _ fun j => ?_
  blk_simp
  rw [after0_1]
  frame_out
  rw [iblk_codes, V_main_arg5]
  rfl

/-- What the reference's result array ends holding, over the extended reals. -/
theorem result (m : (ℓ : Loc nD τ sig) → Buf (Elt Ideal) ℓ) (c : Dev nD) :
    Pipeline.afterTail₀ cfgs (dats m) 0 (V0 m) [hostOps1] c main_v23
      = tail (m ((c : Thread nD τ).loc main_arg0)) (m ((c : Thread nD τ).loc main_arg5)) (m ((c : Thread nD τ).loc main_arg6))
          (m ((c : Thread nD τ).loc main_arg3)) (m ((c : Thread nD τ).loc main_arg4)) := by
  unfold Pipeline.afterTail₀
  rw [List.flatten_cons, List.flatten_nil, List.append_nil, after_tail]
  have h1 := Pipeline.withArrays_arr spec0 launch0.win.arr_inj c (V0 m c) (fun w => (dats m 0 c).arrAt w cfg0.N) 1
  rw [codes] at h1
  have ha0 := Pipeline.withArrays_of_ne spec0 c (V0 m c) (fun w => (dats m 0 c).arrAt w cfg0.N) main_arg0 (by decide)
  have ha3 := Pipeline.withArrays_of_ne spec0 c (V0 m c) (fun w => (dats m 0 c).arrAt w cfg0.N) main_arg3 (by decide)
  have ha4 := Pipeline.withArrays_of_ne spec0 c (V0 m c) (fun w => (dats m 0 c).arrAt w cfg0.N) main_arg4 (by decide)
  have hv0 := Pipeline.withArrays_of_ne spec0 c (V0 m c) (fun w => (dats m 0 c).arrAt w cfg0.N) main_v0 (by decide)
  have hs : V0 m c (Proc.devRef .tc main_v0) = m ((c : Thread nD τ).loc main_arg6) := after_head (fun b => m (c, b))
  refine congr (congr (congr (congr (congrArg tail (ha0.trans (V_main_arg0 m c))) h1) (hv0.trans hs)) (ha3.trans (V_main_arg3 m c)))
    (ha4.trans (V_main_arg4 m c))

end Cert.ReferenceIdeal.Down

end
-- ==== Proof.RefValue.lean ====
/- The reference's result, element by element, over the extended reals. -/
module

public import proofs.«01_k».proof.Proof.RefRun
public import Idealize.ShloMosaic.Lib.ValueIdx
public import Idealize.ShloMosaic.Lib.IdealHost
public import Idealize.ShloMosaic.Lib.WordCmp
public import Idealize.ShloMosaic.Lib.Pointwise.Reduce
public import Idealize.ShloMosaic.Lib.StackMember

@[expose] public section

noncomputable section

namespace Cert.ReferenceIdeal.Down

open Cert.ReferenceIdeal Cert.ReferenceIdeal.Gen
open Idealize.ShloMosaic hiding ix1 ix2 ix3 ix4 ix5 constant_apply mulf_apply
open Idealize.ShloMosaic.TcCoe Idealize.ShloMosaic.ValueIdx
open Idealize.SL Idealize.SL.Sem

/-- The scales, one per entry of the codes. -/
theorem scales_apply (S : Vec Ideal S32x11x32 .bf16) (e : Fin 32) (f : Fin 1408) (d : Fin 4096) :
    (shapeCast S32x1408x4096 (broadcastInDim S32x11x128x32x128 ![0, 1, 2, 3, 4] bcast_S32x11x1x32x1_S32x11x128x32x128_0_1_2_3_4
        (broadcastInDim S32x11x1x32x1 ![0, 1, 3] bcast_S32x11x32_S32x11x1x32x1_0_1_3 S)) shapeCasts_S32x11x128x32x128_S32x1408x4096) (ix3 e f d)
      = S (ix3 e ⟨f.val / 128, by have := f.isLt; omega⟩ ⟨d.val / 128, by have := d.isLt; omega⟩) := by
  have hf := f.isLt
  have hd := d.isLt
  rw [shapeCast_apply _ _ _ (ix5 e (⟨f.val / 128, by omega⟩ : Fin 11) (⟨f.val % 128, by omega⟩ : Fin 128) (⟨d.val / 128, by omega⟩ : Fin 32) (⟨d.val % 128, by omega⟩ : Fin 128)) (by
      refine (Shape.rowMajor_val_five _).trans (Eq.trans ?_ (Shape.rowMajor_val_three _).symm)
      show (((e.val * 11 + f.val / 128) * 128 + f.val % 128) * 32 + d.val / 128) * 128 + d.val % 128 = (e.val * 1408 + f.val) * 4096 + d.val
      omega)]
  rw [broadcastInDim_apply _ _ _ _ (ix5 e (⟨f.val / 128, by omega⟩ : Fin 11) (0 : Fin 1) (⟨d.val / 128, by omega⟩ : Fin 32) (0 : Fin 1)) (by
      intro a
      match a with
      | ⟨0, _⟩ => rfl
      | ⟨1, _⟩ => rfl
      | ⟨2, _⟩ => rfl
      | ⟨3, _⟩ => rfl
      | ⟨4, _⟩ => rfl)]
  exact broadcastInDim_apply _ _ _ _ (ix3 e (⟨f.val / 128, by omega⟩ : Fin 11) (⟨d.val / 128, by omega⟩ : Fin 32)) (by
      intro a
      match a with
      | ⟨0, _⟩ => rfl
      | ⟨1, _⟩ => rfl
      | ⟨2, _⟩ => rfl)

/-- The contraction of the printed product. -/
theorem dot_apply (A : FVec Ideal S32x1408x4096 .bf16) (B : FVec Ideal S49152x1408 .bf16) (e : Fin 32) (d : Fin 4096) (p : Fin 49152) :
    (Host.dotGeneral dot_S32x1408x4096_S49152x1408_S32x4096x49152_1_1_02_0_n_n none A B : FVec Ideal S32x4096x49152 .f32) (ix3 e d p)
      = ∑ f : Fin 1408, A (ix3 e f d) * B (ix2 p f) := by
  show FloatOps.dotGeneral _ none _ A B (ix3 e d p) = _
  rw [Ideal.dotGeneral_apply, ← Equiv.sum_comp (contrEquiv1 dot_S32x1408x4096_S49152x1408_S32x4096x49152_1_1_02_0_n_n 1408 rfl rfl).symm]
  refine Finset.sum_congr rfl fun f _ => ?_
  have c := contrEquiv1_symm_val dot_S32x1408x4096_S49152x1408_S32x4096x49152_1_1_02_0_n_n 1408 rfl rfl f
  have l : dot_S32x1408x4096_S49152x1408_S32x4096x49152_1_1_02_0_n_n.lhsIdx (ix3 e d p) ((contrEquiv1 _ 1408 rfl rfl).symm f) = ix3 e f d := by
    funext ax; apply Fin.ext
    match ax with
    | ⟨0, _⟩ => simp [DotDims.lhsIdx, dot_S32x1408x4096_S49152x1408_S32x4096x49152_1_1_02_0_n_n]; rfl
    | ⟨1, _⟩ => simp [DotDims.lhsIdx, dot_S32x1408x4096_S49152x1408_S32x4096x49152_1_1_02_0_n_n]; exact c
    | ⟨2, _⟩ => simp [DotDims.lhsIdx, dot_S32x1408x4096_S49152x1408_S32x4096x49152_1_1_02_0_n_n]; rfl
  have r : dot_S32x1408x4096_S49152x1408_S32x4096x49152_1_1_02_0_n_n.rhsIdx (ix3 e d p) ((contrEquiv1 _ 1408 rfl rfl).symm f) = ix2 p f := by
    funext ax; apply Fin.ext
    match ax with
    | ⟨0, _⟩ => simp [DotDims.rhsIdx, dot_S32x1408x4096_S49152x1408_S32x4096x49152_1_1_02_0_n_n]; rfl
    | ⟨1, _⟩ => simp [DotDims.rhsIdx, dot_S32x1408x4096_S49152x1408_S32x4096x49152_1_1_02_0_n_n]; exact c
  rw [l, r]

/-- Row `p`'s product with expert `e`'s weights, at column `d`. -/
theorem products_apply (W : Vec Ideal S32x1408x4096 .bf16) (S : Vec Ideal S32x11x32 .bf16) (h : Vec Ideal S49152x1408 .bf16)
    (e : Fin 32) (p : Fin 49152) (d : Fin 4096) :
    (products W S h : S32x49152x4096.Idx → EReal) (ix3 e p d) = ∑ f : Fin 1408, h (ix2 p f)
      * (W (ix3 e f d) * S (ix3 e ⟨f.val / 128, by have := f.isLt; omega⟩ ⟨d.val / 128, by have := d.isLt; omega⟩)) := by
  unfold products
  refine (transpose_apply _ _ _ _ (ix3 e d p) (by
    intro b
    match b with
    | ⟨0, _⟩ => rfl
    | ⟨1, _⟩ => rfl
    | ⟨2, _⟩ => rfl)).trans ((dot_apply _ _ e d p).trans (Finset.sum_congr rfl fun f _ => ?_))
  rw [mulf_apply, scales_apply]
  exact mul_comm _ _

/-- Row `p`'s expert. -/
theorem experts_apply (e : S96.Idx → BitVec 32) (k : Fin 32) (p : Fin 49152) (d : Fin 4096) :
    experts e (ix3 k p d) = e (ix1 ⟨p.val / 512, by have := p.isLt; omega⟩) := by
  have hp := p.isLt
  unfold experts
  rw [broadcastInDim_apply _ _ _ _ (ix3 (0 : Fin 1) p (0 : Fin 1)) (by
      intro a
      match a with
      | ⟨0, _⟩ => rfl
      | ⟨1, _⟩ => rfl
      | ⟨2, _⟩ => rfl),
    broadcastInDim_apply _ _ _ _ (ix1 p) (by
      intro a
      match a with
      | ⟨0, _⟩ => rfl),
    shapeCast_apply _ _ _ (ix2 (⟨p.val / 512, by omega⟩ : Fin 96) (⟨p.val % 512, by omega⟩ : Fin 512)) (by
      refine (Shape.rowMajor_val_two _).trans (Eq.trans ?_ (Shape.rowMajor_val_one _).symm)
      show p.val / 512 * 512 + p.val % 512 = p.val
      omega),
    broadcastInDim_apply _ _ _ _ (ix2 (⟨p.val / 512, by omega⟩ : Fin 96) (0 : Fin 1)) (by
      intro a
      match a with
      | ⟨0, _⟩ => rfl
      | ⟨1, _⟩ => rfl)]
  exact broadcastInDim_apply _ _ _ _ (ix1 (⟨p.val / 512, by omega⟩ : Fin 96)) (by
      intro a
      match a with
      | ⟨0, _⟩ => rfl)

/-- The sum over the experts keeps row `p`'s own. -/
theorem chosen_apply (e : S96.Idx → BitVec 32) (P : Vec Ideal S32x49152x4096 .f32) (p : Fin 49152) (d : Fin 4096)
    (E : Fin 32) (hE : e (ix1 ⟨p.val / 512, by have := p.isLt; omega⟩) = BitVec.ofNat 32 E.val) :
    (chosen e P : S49152x4096.Idx → EReal) (ix2 p d) = P (ix3 E p d) := by
  unfold chosen
  rw [hostReduceAdd_apply, Ideal.hostReduceAdd_r3_a0, constant_apply, Ideal.ofBits_zero_f32, zero_add]
  refine (Finset.sum_eq_single E ?_ (fun h => absurd (Finset.mem_univ E) h)).trans ?_
  · intro k _ hk
    show Scalar.select (IntOp.cmpi .eq (BitVec.ofNat 32 k.val) (experts e (ix3 k p d))) (P (ix3 k p d)) _ = _
    rw [experts_apply, hE, WordCmp.cmpi_eq_eq, decide_eq_false (fun h => hk (Fin.ext ((WordCmp.ofNat_eq_ofNat_iff
      (lt_trans k.isLt (by decide)) (lt_trans E.isLt (by decide))).mp h)))]
    exact Ideal.ofBits_zero_f32
  · show Scalar.select (IntOp.cmpi .eq (BitVec.ofNat 32 E.val) (experts e (ix3 E p d))) (P (ix3 E p d)) _ = _
    rw [experts_apply, hE, WordCmp.cmpi_eq_eq, decide_eq_true rfl]
    rfl

/-- Row `p`'s weight at column `d`. -/
theorem weights_apply (rw' : Vec Ideal S49152x128 .f32) (p : Fin 49152) (d : Fin 4096) :
    (weights rw' : S49152x4096.Idx → EReal) (ix2 p d) = rw' (ix2 p ⟨d.val % 128, Nat.mod_lt _ (by decide)⟩) := by
  have hd := d.isLt
  unfold weights
  rw [shapeCast_apply _ _ _ (ix3 p (⟨d.val / 128, by omega⟩ : Fin 32) (⟨d.val % 128, by omega⟩ : Fin 128)) (by
      refine (Shape.rowMajor_val_three _).trans (Eq.trans ?_ (Shape.rowMajor_val_two _).symm)
      show (p.val * 32 + d.val / 128) * 128 + d.val % 128 = p.val * 4096 + d.val
      omega),
    broadcastInDim_apply _ _ _ _ (ix3 p (0 : Fin 1) (⟨d.val % 128, by omega⟩ : Fin 128)) (by
      intro a
      match a with
      | ⟨0, _⟩ => rfl
      | ⟨1, _⟩ => rfl
      | ⟨2, _⟩ => rfl)]
  exact broadcastInDim_apply _ _ _ _ (ix2 p (⟨d.val % 128, by omega⟩ : Fin 128)) (by
      intro a
      match a with
      | ⟨0, _⟩ => rfl
      | ⟨1, _⟩ => rfl)

/-- The reference's result at chunk `n`, row `p`, column `k` of the chunk. -/
theorem tail_apply (e : S96.Idx → BitVec 32) (W : Vec Ideal S32x1408x4096 .bf16) (S : Vec Ideal S32x11x32 .bf16)
    (h : Vec Ideal S49152x1408 .bf16) (rw' : Vec Ideal S49152x128 .f32) (n : Fin 4) (p : Fin 49152) (k : Fin 1024)
    (d : Fin 4096) (hd : d.val = 1024 * n.val + k.val)
    (E : Fin 32) (hE : e (ix1 ⟨p.val / 512, by have := p.isLt; omega⟩) = BitVec.ofNat 32 E.val) :
    (tail e W S h rw' : S4x49152x1024.Idx → EReal) (ix3 n p k)
      = (∑ f : Fin 1408, h (ix2 p f)
          * (W (ix3 E f d) * S (ix3 E ⟨f.val / 128, by have := f.isLt; omega⟩ ⟨d.val / 128, by have := d.isLt; omega⟩)))
        * rw' (ix2 p ⟨d.val % 128, Nat.mod_lt _ (by decide)⟩) := by
  unfold tail
  refine (transpose_apply _ _ _ _ (ix3 p n k) (by
    intro b
    match b with
    | ⟨0, _⟩ => rfl
    | ⟨1, _⟩ => rfl
    | ⟨2, _⟩ => rfl)).trans ?_
  rw [shapeCast_apply _ _ _ (ix2 p d) (by
      refine (Shape.rowMajor_val_two _).trans (Eq.trans ?_ (Shape.rowMajor_val_three _).symm)
      show p.val * 4096 + d.val = (p.val * 4 + n.val) * 1024 + k.val
      omega), mulf_apply, chosen_apply e _ p d E hE, products_apply, weights_apply]

end Cert.ReferenceIdeal.Down

end
-- ==== Proof.Equation.lean ====
/- The equation: over the extended reals the idealized kernel and the reference agree at every row that the mask selects. -/
module

public import proofs.«01_k».proof.Proof.KernelFrame
public import proofs.«01_k».proof.Proof.Elem
public import proofs.«01_k».proof.Proof.RefValue

@[expose] public section

noncomputable section

namespace Cert.KernelIdeal.Down

open Cert.KernelIdeal
open Idealize.ShloMosaic hiding ix1 ix2 ix3 ix4 ix5 constant_apply mulf_apply
open Idealize.ShloMosaic.TcCoe Idealize.ShloMosaic.ValueIdx
open Idealize.SL.Sem

/-- The reference's result at the kernel's arguments. -/
def expected (m : (ℓ : Loc nD τ sig) → Buf (Elt Ideal) ℓ) (c : Dev nD) : S4x49152x1024.Idx → EReal :=
  Cert.ReferenceIdeal.Down.tail (F := Ideal) (m ((c.tc : Thread nD τ).loc main_arg0)) (m ((c.tc : Thread nD τ).loc main_arg5))
    (m ((c.tc : Thread nD τ).loc main_arg6)) (m ((c.tc : Thread nD τ).loc main_arg3)) (m ((c.tc : Thread nD τ).loc main_arg4))

theorem used_of (m : (ℓ : Loc nD τ sig) → Buf (Elt Ideal) ℓ) (h : PreAt m) : Used m := fun t =>
  used_of_pre _ _ _ _ _ _ _ (h 0).2.2 t

/-- At row `r` of tile `b`, in a group of 128 rows whose first row is valid, the kernel's result array ends at the reference's. -/
theorem agree_at (m : (ℓ : Loc nD τ sig) → Buf (Elt Ideal) ℓ) (h : PreAt m) (c : Dev nD) (G : S4x49152x1024.Idx → EReal)
    (hG : (rdat m (good_of_pre m h) c).ArrAt (4 : Fin 5) (cfgA m (good_of_pre m h)).N G)
    (b : Fin 96) (y : S4x512x1024.Idx) (hy : (128 * ((y 1).val / 128 : ℕ) : Int) < (validAt (pf m) b).toInt) :
    G (place b y) = expected m c (place b y) := by
  have g := good_of_pre m h
  have hu := used_of m h
  have hn := tiles_nat m g
  have hb : blockOf (pf m) b = b.val := by
    unfold blockOf
    rcases hu b with h' | h' <;> omega
  obtain rfl : c = 0 := Subsingleton.elim (α := Fin 1) _ _
  refine (end_good m g 0 hu b y hy G hG).trans ((specAt_eq m g 0 b hb y).trans ?_)
  have hy1 : (y 1).val < 512 := (y 1).isLt
  have hE : (m (((0 : Dev nD).tc : Thread nD τ).loc main_arg0) : S96.Idx → BitVec 32)
      (ix1 ⟨(rowOf b (y 1)).val / 512, by have := (rowOf b (y 1)).isLt; omega⟩) = BitVec.ofNat 32 (expOf m g b).val := by
    have e1 : (⟨(rowOf b (y 1)).val / 512, by have := (rowOf b (y 1)).isLt; omega⟩ : Fin 96) = b := by
      apply Fin.ext; show (512 * b.val + (y 1).val) / 512 = b.val; omega
    rw [e1]
    show _ = BitVec.ofNat 32 (expertAt (pf m) b).toNat
    rw [BitVec.ofNat_toNat, BitVec.setWidth_eq]
    show m _ _ = m _ _
    have e2 : (ix1 b : S96.Idx) = tileIx b := by
      funext a
      obtain rfl : a = (0 : Fin 1) := Subsingleton.elim (α := Fin 1) _ _
      rfl
    exact congrArg _ e2
  exact (Cert.ReferenceIdeal.Down.tail_apply _ _ _ _ _ (y 0) (rowOf b (y 1)) (y 2) (colOf y) rfl (expOf m g b) hE).symm

/-- So it does wherever the mask selects. -/
theorem agree (m : (ℓ : Loc nD τ sig) → Buf (Elt Ideal) ℓ) (h : PreAt m) (c : Dev nD) (G : S4x49152x1024.Idx → EReal)
    (hG : (rdat m (good_of_pre m h) c).ArrAt (4 : Fin 5) (cfgA m (good_of_pre m h)).N G) (i : (⟨3, ![4, 49152, 1024]⟩ : Shape).Idx)
    (hi : Cert.On_rows_held.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i = 1#1) :
    G i = expected m c i := by
  obtain rfl : c = 0 := Subsingleton.elim (α := Fin 1) _ _
  have h1 : (i 1).val < 49152 := (i 1).isLt
  have hp : (i 1).val = 512 * ((i 1).val / 512) + (i 1).val % 512 := by omega
  have hv := held_of_mask _ _ _ _ _ _ _ i hi ⟨(i 1).val / 512, by omega⟩ ((i 1).val % 512) (Nat.mod_lt _ (by decide)) hp
  have e : i = place ⟨(i 1).val / 512, by omega⟩ (ix3 (i 0) ⟨(i 1).val % 512, Nat.mod_lt _ (by decide)⟩ (i 2)) := by
    funext a; apply Fin.ext
    match a with
    | ⟨0, _⟩ => rfl
    | ⟨1, _⟩ => exact hp
    | ⟨2, _⟩ => rfl
  rw [e]
  exact agree_at m h 0 G hG _ _ hv

/-- The kernel's run. -/
theorem run_agrees (m : (ℓ : Loc nD τ sig) → Buf (Elt Ideal) ℓ) (ρ : Dev nD → PrngReg) (h : PreAt m) :
    θ_run (defs (F := Ideal)) (onTc (τ := τ) (main (F := Ideal))) ⟨m, fun _ => 0, ρ⟩ (fun r => ∀ c : Dev nD,
      ∀ i : (⟨3, ![4, 49152, 1024]⟩ : Shape).Idx,
        Cert.On_rows_held.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i = 1#1 →
          r.2.mem ((c.tc : Thread nD τ).loc main_v0) i = expected m c i) :=
  (θ_run defs _ _).mono (fun r hr c i hi => agree m h c _ ((hr.1 c).1 (4 : Fin 5)) i hi) (run m ρ (good_of_pre m h))

end Cert.KernelIdeal.Down

namespace Cert.ReferenceIdeal.Down

open Cert.ReferenceIdeal Cert.ReferenceIdeal.Gen
open Idealize.ShloMosaic Idealize.ShloMosaic.TcCoe
open Idealize.SL.Sem

/-- The reference's run. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = tail (m ((c.tc : Thread nD τ).loc main_arg0)) (m ((c.tc : Thread nD τ).loc main_arg5)) (m ((c.tc : Thread nD τ).loc main_arg6))
          (m ((c.tc : Thread nD τ).loc main_arg3)) (m ((c.tc : Thread nD τ).loc main_arg4))) :=
  (θ_run defs _ _).mono (fun _ h c => ((h c).2 main_v23 (Pipeline.mem_restRefs_of main_v23 (by decide) (by decide))).trans (result m c))
    (run_main m ρ)

end Cert.ReferenceIdeal.Down

namespace Cert.Proof

open Idealize.ShloMosaic Idealize.SL.Sem

/-- The kernel's result is the reference's wherever the mask selects. -/
theorem algebraic : Cert.algebraic_KernelIdeal_ReferenceIdeal_on_rows_held := by
  intro m g m' g' hpre hargs
  refine ⟨fun c => Cert.KernelIdeal.Down.expected m c, ?_, ?_⟩
  · refine (θ_run _ _ _).mono ?_ (θ_run_and (Cert.KernelIdeal.Down.run_agrees m g hpre) (Cert.KernelIdeal.Down.frameAt (F := Ideal) m g hpre))
    exact fun r hr c => ⟨hr.1 c, hr.2.1 c⟩
  · refine (θ_run _ _ _).mono ?_ (θ_run_and (Cert.ReferenceIdeal.Down.run_result m' g') (Cert.ReferenceIdeal.Gen.unchanged (F := Ideal) m' g'))
    intro r hr c
    refine ⟨fun i _ => ?_, hr.2 c⟩
    obtain ⟨h0, h1, h2, h3, h4, h5, h6⟩ := hargs c
    have e := hr.1 c
    rw [h0, h3, h4, h5, h6] at e
    exact congrFun e i

end Cert.Proof

end
-- ==== Proof.UpBody.lean ====
/- The kernel body of the gate and up projections written once, as a recursion.

   The printed body is some 22000 statements: three branches by the number of valid rows of the tile (512 rows, 256 rows,
   128 rows at a run-time offset), each of which unpacks its rows into the scratch buffer, writes the row weights, and is
   unrolled over 11 pieces of 128 hidden columns and, in a piece, over 2 · 32 blocks of weights.  Here a branch is
   `branchK` at its number of rows `m` and its row offset `r0`; the module `UpBodyEq` says that the printed body is this
   program. -/
module

public import proofs.«01_k».proof.GateUpIdeal
public import Idealize.ShloMosaic.Lib.Tactic

@[expose] public section

noncomputable section

namespace Cert.GateUpIdeal.Up

open Cert.GateUpIdeal
open Idealize.ShloMosaic Idealize.SL.Sem
open Facts₀ Facts

variable {F : FTy → Type} [FloatOps F] [Facts]

/-- Programs of the kernel body. -/
abbrev PR (F : FTy → Type) [FloatOps F] := Prog (TpuEff nD τ sig (Elt F) Λ₀ .tc) PUnit

/-- Column `cb` of 128 of the staged weights. -/
abbrev rW (cb : Fin 22) : Rect S1x4096x2816 :=
  Rect.unit (s := S1x4096x2816) ![0, 0, 128 * cb.val] S1x4096x128.size (by
    have := cb.isLt
    intro a; match a with
    | ⟨0, _⟩ => show 0 + 1 ≤ 1; omega
    | ⟨1, _⟩ => show 0 + 4096 ≤ 4096; omega
    | ⟨2, _⟩ => show 128 * cb.val + 128 ≤ 2816; omega)

/-- The one scale of block `(rb, cb)`. -/
abbrev rS (rb : Fin 32) (cb : Fin 22) : Rect S1x32x22 :=
  Rect.unit (s := S1x32x22) ![0, rb.val, cb.val] S1x1x1.size (by
    have := rb.isLt; have := cb.isLt
    intro a; match a with
    | ⟨0, _⟩ => show 0 + 1 ≤ 1; omega
    | ⟨1, _⟩ => show rb.val + 1 ≤ 32; omega
    | ⟨2, _⟩ => show cb.val + 1 ≤ 22; omega)

/-- Block `rb` of a column. -/
theorem sliceW (rb : Fin 32) : S4096x128.Slices ![128 * rb.val, 0] S128x128 := by
  have h := rb.isLt
  refine ⟨rfl, fun a => ?_⟩
  match a with
  | ⟨0, _⟩ => show 128 * rb.val + 128 ≤ 4096; omega
  | ⟨1, _⟩ => show 0 + 128 ≤ 128; omega

/-- A block of codes widened to bf16 and multiplied by its scale, rounded to bf16. -/
def blk (rb : Fin 32) (w : Vec F S1x4096x128 .fp8e4m3) (s : Elt F .f32) : FVec F S128x128 .bf16 :=
  mulf (extf .bf16 (extractStridedSlice S128x128 ![128 * rb.val, 0]
      (shapeCast S4096x128 w shapeCasts_S1x4096x128_S4096x128 : FVec F S4096x128 .fp8e4m3) (sliceW rb) : FVec F S128x128 .fp8e4m3) bitsLt_fp8e4m3_bf16)
    (truncf .bf16 (broadcast S128x128 s : FVec F S128x128 .f32) bitsLt_bf16_f32)

/-- One more element at the end of a tuple. -/
def snoc {α : Type} {n : ℕ} (v : Fin n → α) (x : α) : Fin (n + 1) → α :=
  fun i => if h : i.val < n then v ⟨i.val, h⟩ else x

/-- Read the first `n` scales of column `cb`, in order, and go on with the scaled blocks of the codes `w`. -/
def scalesK (arg6 : Memref sig .tc .smem S1x32x22 .f32) (cb : Fin 22) (w : Vec F S1x4096x128 .fp8e4m3) :
    (n : ℕ) → n ≤ 32 → ((Fin n → FVec F S128x128 .bf16) → PR F) → PR F
  | 0, _, k => k (fun i => i.elim0)
  | n + 1, h, k => scalesK arg6 cb w n (Nat.le_of_succ_le h) fun v =>
      .op (.load arg6 (rS ⟨n, h⟩ cb) (View.loadsAt_rect (View.loads_smem_one rfl numel1_S1x1x1)))
        fun f => k (snoc v (blk ⟨n, h⟩ w (f (Shape.Idx.first (numel1_S1x1x1.symm ▸ Nat.one_pos)))))

/-- Read column `cb`: its codes, then its scales. -/
def colK (arg5 : Memref sig .tc .vmem S1x4096x2816 .fp8e4m3) (arg6 : Memref sig .tc .smem S1x32x22 .f32) (cb : Fin 22)
    (k : (Fin 32 → FVec F S128x128 .bf16) → PR F) : PR F :=
  .op (.load arg5 (rW cb).toLoadRect (View.loadsAt_vmem h_S1x4096x128)) fun w => scalesK arg6 cb w 32 (Nat.le_refl 32) k

/-- A column: its 32 scaled blocks one under the other. -/
def column (v : Fin 32 → FVec F S128x128 .bf16) : FVec F S4096x128 .bf16 :=
  concatenate S4096x128 0 [⟨S128x128, v 0⟩, ⟨S128x128, v 1⟩, ⟨S128x128, v 2⟩, ⟨S128x128, v 3⟩, ⟨S128x128, v 4⟩, ⟨S128x128, v 5⟩, ⟨S128x128, v 6⟩, ⟨S128x128, v 7⟩, ⟨S128x128, v 8⟩, ⟨S128x128, v 9⟩, ⟨S128x128, v 10⟩, ⟨S128x128, v 11⟩, ⟨S128x128, v 12⟩, ⟨S128x128, v 13⟩, ⟨S128x128, v 14⟩, ⟨S128x128, v 15⟩, ⟨S128x128, v 16⟩, ⟨S128x128, v 17⟩, ⟨S128x128, v 18⟩, ⟨S128x128, v 19⟩, ⟨S128x128, v 20⟩, ⟨S128x128, v 21⟩, ⟨S128x128, v 22⟩, ⟨S128x128, v 23⟩, ⟨S128x128, v 24⟩, ⟨S128x128, v 25⟩, ⟨S128x128, v 26⟩, ⟨S128x128, v 27⟩, ⟨S128x128, v 28⟩, ⟨S128x128, v 29⟩, ⟨S128x128, v 30⟩, ⟨S128x128, v 31⟩]
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0

/-- Two columns side by side: the operand of one product. -/
def wide (a b : Fin 32 → FVec F S128x128 .bf16) : FVec F S4096x256 .bf16 :=
  concatenate S4096x256 1 [⟨S4096x128, column a⟩, ⟨S4096x128, column b⟩] concatenates_S4096x128_S4096x128_S4096x256_d1

/-- The rectangle of `m` rows from `r0` and 128 columns from `128 * j` of the staged hidden block. -/
abbrev rHid (m r0 : ℕ) (le : r0 + m ≤ 512) (j : Fin 11) : Rect S512x1408 :=
  Rect.unit (s := S512x1408) ![r0, 128 * j.val] (⟨2, ![m, 128]⟩ : Shape).size (by
    have := j.isLt
    intro a; match a with
    | ⟨0, _⟩ => show r0 + m ≤ 512; omega
    | ⟨1, _⟩ => show 128 * j.val + 128 ≤ 1408; omega)

/-- The rectangle of `m` rows from `r0` and the 2048 columns from `2048 * k` of the scratch buffer. -/
abbrev rHalf (m r0 : ℕ) (le : r0 + m ≤ 512) (k : Fin 2) : Rect S512x4096 :=
  Rect.unit (s := S512x4096) ![r0, 2048 * k.val] (⟨2, ![m, 2048]⟩ : Shape).size (by
    have := k.isLt
    intro a; match a with
    | ⟨0, _⟩ => show r0 + m ≤ 512; omega
    | ⟨1, _⟩ => show 2048 * k.val + 2048 ≤ 4096; omega)

/-- What a branch of the body takes as its rows: how many, from where, and the shapes' facts. -/
structure Rows where
  /-- the number of rows -/
  m : ℕ
  /-- the first row -/
  r0 : ℕ
  pos : 0 < m
  le : r0 + m ≤ 512
  dot : DotDims.WF ⟨2, ![m, 4096]⟩ S4096x256 ⟨2, ![m, 256]⟩ [1] [0] [0] [1] [] []
  castX : Shape.ShapeCasts ⟨2, ![m, 2048]⟩ ⟨2, ![m, 2048]⟩
  iotaR : Shape.Iotas ⟨2, ![m, 128]⟩ .tc 32 [1]
  redR : Shape.Reduces ⟨2, ![m, 128]⟩ [1] ⟨1, ![m]⟩
  redP : Shape.Reduces ⟨2, ![m, 246]⟩ [1] ⟨1, ![m]⟩
  cast1 : Shape.ShapeCasts ⟨1, ![m]⟩ ⟨2, ![m, 1]⟩
  cast11 : Shape.ShapeCasts ⟨2, ![m, 1]⟩ ⟨2, ![m, 1]⟩
  bcR : Shape.Broadcasts ⟨2, ![m, 1]⟩ ⟨2, ![m, 128]⟩
  bcT : Shape.Broadcasts ⟨2, ![m, 1]⟩ ⟨2, ![m, 246]⟩
  bcP : Shape.Broadcasts S1x246 ⟨2, ![m, 246]⟩
  sliceG : Shape.Slices ⟨2, ![m, 256]⟩ ![0, 0] ⟨2, ![m, 128]⟩
  sliceU : Shape.Slices ⟨2, ![m, 256]⟩ ![0, 128] ⟨2, ![m, 128]⟩
  posX : 0 < Shape.numel ⟨2, ![m, 2048]⟩
  posR : 0 < Shape.numel ⟨2, ![m, 128]⟩
  posZ : 0 < Shape.numel ⟨2, ![m, 4096]⟩
  packA : (rHalf m r0 le 0).PackedRows (EltTy.packing .bf16)
  packB : (rHalf m r0 le 1).PackedRows (EltTy.packing .bf16)
  packH : ∀ j, (rHid m r0 le j).PackedRows (EltTy.packing .bf16)

namespace Rows
variable (R : Rows)

abbrev SX : Shape := ⟨2, ![R.m, 2048]⟩
abbrev SR : Shape := ⟨2, ![R.m, 128]⟩
abbrev SZ : Shape := ⟨2, ![R.m, 4096]⟩
abbrev SO : Shape := ⟨2, ![R.m, 256]⟩
abbrev SP : Shape := ⟨2, ![R.m, 246]⟩
abbrev S1 : Shape := ⟨1, ![R.m]⟩
abbrev S11 : Shape := ⟨2, ![R.m, 1]⟩

/-- The rows' packed activations. -/
abbrev rX : Rect S512x2176 := Rect.unit (s := S512x2176) ![R.r0, 0] R.SX.size (by
  have := R.le
  intro a; match a with
  | ⟨0, _⟩ => show R.r0 + R.m ≤ 512; omega
  | ⟨1, _⟩ => show 0 + 2048 ≤ 2176; omega)

/-- The rows' routing weights, one lane for an expert. -/
abbrev rD : Rect S512x2176 := Rect.unit (s := S512x2176) ![R.r0, 2048] R.SR.size (by
  have := R.le
  intro a; match a with
  | ⟨0, _⟩ => show R.r0 + R.m ≤ 512; omega
  | ⟨1, _⟩ => show 2048 + 128 ≤ 2176; omega)

/-- The rows of the staged row weights. -/
abbrev rR : Rect S512x128 := Rect.unit (s := S512x128) ![R.r0, 0] R.SR.size (by
  have := R.le
  intro a; match a with
  | ⟨0, _⟩ => show R.r0 + R.m ≤ 512; omega
  | ⟨1, _⟩ => show 0 + 128 ≤ 128; omega)

/-- The rows of the scratch buffer. -/
abbrev rZ : Rect S512x4096 := Rect.unit (s := S512x4096) ![R.r0, 0] R.SZ.size (by
  have := R.le
  intro a; match a with
  | ⟨0, _⟩ => show R.r0 + R.m ≤ 512; omega
  | ⟨1, _⟩ => show 0 + 4096 ≤ 4096; omega)

/-- A half of the rows of the scratch buffer. -/
abbrev rA (k : Fin 2) : Rect S512x4096 := rHalf R.m R.r0 R.le k

/-- The place of piece `j` in the staged hidden block. -/
abbrev rH (j : Fin 11) : Rect S512x1408 := rHid R.m R.r0 R.le j

abbrev dims : DotDims R.SZ S4096x256 R.SO where
  lhsContracting := [1]
  rhsContracting := [0]
  lhsNonContracting := [0]
  rhsNonContracting := [1]
  lhsBatch := []
  rhsBatch := []
  wf := R.dot

/-- The low halves of the packed words, as bf16. -/
def low (x : Vec F R.SX .i32) : FVec F R.SX .bf16 :=
  shapeCast R.SX (truncf .bf16 (bitcastToFloat .f32 (shli (x : IVec R.SX 32) (broadcast R.SX 16#32)) : FVec F R.SX .f32) bitsLt_bf16_f32
    : FVec F R.SX .bf16) R.castX

/-- The high halves of the packed words, as bf16. -/
def high (x : Vec F R.SX .i32) : FVec F R.SX .bf16 :=
  shapeCast R.SX (truncf .bf16 (bitcastToFloat .f32 (andi (x : IVec R.SX 32) (broadcast R.SX 4294901760#32)) : FVec F R.SX .f32) bitsLt_bf16_f32
    : FVec F R.SX .bf16) R.castX

/-- The row weights: the lane of expert `e`, on every lane. -/
def weights (x : Vec F R.SR .i32) (e : BitVec 32) : FVec F R.SR .f32 :=
  broadcastTo R.SR (shapeCast R.S11 (shapeCast R.S11 (multiReduction .add [1] R.S1
    (select (cmpi .eq (iota .tc R.SR 32 [1] R.iotaR) (broadcast R.SR e)) (bitcastToFloat .f32 x : FVec F R.SR .f32)
      (broadcast R.SR (Scalar.ofBits .f32 0x00000000#32 : F .f32) : FVec F R.SR .f32) : FVec F R.SR .f32)
    0x00000000#32 R.redR (.inl rfl) rfl : FVec F R.S1 .f32) R.cast1 : FVec F R.S11 .f32) R.cast11 : FVec F R.S11 .f32) R.bcR

/-- The hidden values of a piece: silu of the gate product times the up product. -/
def hid (z : Vec F R.SZ .bf16) (a b : Fin 32 → FVec F S128x128 .bf16) : FVec F R.SR .f32 :=
  let p : FVec F R.SO .f32 := matmul R.dims none z (wide a b) (constant R.SO .f32 0x00000000#32)
  let gate : FVec F R.SR .f32 := extractStridedSlice R.SR ![0, 0] p R.sliceG
  let up : FVec F R.SR .f32 := extractStridedSlice R.SR ![0, 128] p R.sliceU
  mulf (mulf gate (logistic gate)) up

/-- The largest magnitude of a row over 448 (as a product by the constant nearest to 1/448). -/
def peak (v : FVec F R.SR .f32) : FVec F R.S11 .f32 :=
  mulf (shapeCast R.S11 (multiReduction .maximumf [1] R.S1 (absf v) 0xFF800000#32 R.redR (.inl rfl) rfl : FVec F R.S1 .f32) R.cast1 : FVec F R.S11 .f32)
    (broadcast R.S11 (Scalar.ofBits .f32 0x3B124925#32 : F .f32))

/-- The powers of two from the least normal one, by their bits. -/
def powers : FVec F S1x246 .f32 :=
  bitcastToFloat .f32 (shli (addi (iota .tc S1x246 32 [1] iota_S1x246_d1_w32 : IVec S1x246 32) (broadcast S1x246 1#32)) (broadcast S1x246 23#32))

/-- The exponent of a row's scale: the number of powers of two not above its peak, from the least on; 0 for a zero row. -/
def expo (t : FVec F R.S11 .f32) : IVec R.S11 32 :=
  select (cmpf .oeq t (broadcast R.S11 (Scalar.ofBits .f32 0x00000000#32 : F .f32) : FVec F R.S11 .f32)) (broadcast R.S11 0#32)
    (subi (shapeCast R.S11 (multiReductionI .add [1] R.S1
      (extui 32 (cmpf .oge (broadcastTo R.SP t R.bcT : FVec F R.SP .f32) (broadcastTo R.SP (powers (F := F)) R.bcP : FVec F R.SP .f32)) natLt_1_32 : IVec R.SP 32)
      0#32 R.redP rfl : IVec R.S1 32) R.cast1 : IVec R.S11 32) (broadcast R.S11 126#32) : IVec R.S11 32)

/-- A row's scale. -/
def scale (t : FVec F R.S11 .f32) : FVec F R.S11 .f32 :=
  bitcastToFloat .f32 (shli (addi (R.expo t) (broadcast R.S11 127#32)) (broadcast R.S11 23#32))

/-- One over a row's scale. -/
def inv (t : FVec F R.S11 .f32) : FVec F R.S11 .f32 :=
  bitcastToFloat .f32 (shli (subi (broadcast R.S11 127#32) (R.expo t)) (broadcast R.S11 23#32))

/-- The quantised values: scaled, clipped, rounded to fp8, and scaled back. -/
def quant (v : FVec F R.SR .f32) : FVec F R.SR .bf16 :=
  mulf (extf .bf16 (truncf .fp8e4m3
      (minimumf (broadcast R.SR (Scalar.ofBits .f32 0x43E00000#32 : F .f32) : FVec F R.SR .f32)
        (maximumf (broadcast R.SR (Scalar.ofBits .f32 0xC3E00000#32 : F .f32) : FVec F R.SR .f32)
          (mulf v (broadcastTo R.SR (R.inv (R.peak v)) R.bcR : FVec F R.SR .f32) : FVec F R.SR .f32) : FVec F R.SR .f32) : FVec F R.SR .f32)
      bitsLt_fp8e4m3_f32 : FVec F R.SR .fp8e4m3) bitsLt_fp8e4m3_bf16 : FVec F R.SR .bf16)
    (broadcastTo R.SR (truncf .bf16 (R.scale (R.peak v)) bitsLt_bf16_f32 : FVec F R.S11 .bf16) R.bcR : FVec F R.SR .bf16)

/-- What piece of 128 hidden columns the branch stores. -/
def val (a b : Fin 32 → FVec F S128x128 .bf16) (z : Vec F R.SZ .bf16) : FVec F R.SR .bf16 := R.quant (R.hid z a b)

end Rows

/-- Piece `j` of a branch: column `j` of the gate, column `j` of the up projection, the product, the store. -/
def chunkK (R : Rows) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole) (j : Fin 11) (k : PR F) : PR F :=
  colK arg5 arg6 ⟨j.val, by have := j.isLt; omega⟩ fun a =>
  colK arg5 arg6 ⟨11 + j.val, by have := j.isLt; omega⟩ fun b =>
  .op (.load arg9 R.rZ.toLoadRect (View.loadsAt_vmem R.posZ)) fun z =>
  .op (.load arg7 (R.rH j).toLoadRect (View.loadsAt_vmem R.posR)) fun _ =>
  .op (.store arg7 (R.rH j) (R.val a b z) Finset.univ
    (View.stores_vmem R.posR (harg7.storeExact_slice rfl _ (R.packH j)) (fun _ => rfl)) (.inl rfl)) fun _ => k

/-- The first `n` pieces of a branch, in order, then `k`. -/
def chunksK (R : Rows) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole) : (n : ℕ) → n ≤ 11 → PR F → PR F
  | 0, _, k => k
  | n + 1, h, k => chunksK R arg1 arg4 arg5 arg6 arg7 harg7 arg8 arg9 harg9 n (Nat.le_of_succ_le h)
      (chunkK R arg1 arg4 arg5 arg6 arg7 harg7 arg8 arg9 harg9 ⟨n, h⟩ k)

/-- The head of a branch: the rows unpacked into the scratch buffer, the row weights written. -/
def headK (i : grid0.Coords) (R : Rows) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole) (k : PR F) : PR F :=
  .op (.load arg4 R.rX.toLoadRect (View.loadsAt_vmem R.posX)) fun x =>
  .op (.load arg9 (R.rA 0).toLoadRect (View.loadsAt_vmem R.posX)) fun _ =>
  .op (.store arg9 (R.rA 0) (R.low x) Finset.univ (View.stores_vmem R.posX (harg9.storeExact_slice rfl _ R.packA) (fun _ => rfl)) (.inl rfl)) fun _ =>
  .op (.load arg9 (R.rA 1).toLoadRect (View.loadsAt_vmem R.posX)) fun _ =>
  .op (.store arg9 (R.rA 1) (R.high x) Finset.univ (View.stores_vmem R.posX (harg9.storeExact_slice rfl _ R.packB) (fun _ => rfl)) (.inl rfl)) fun _ =>
  .op (.load arg4 R.rD.toLoadRect (View.loadsAt_vmem R.posR)) fun d =>
  .op (.load arg1 (Rect.unit (s := S96) (k0_off1 i) S1.size (k0_off1_inb i)) (View.loadsAt_rect (View.loads_smem_one rfl numel1_S1))) fun e =>
  .op (.load arg8 R.rR.toLoadRect (View.loadsAt_vmem R.posR)) fun _ =>
  .op (.store arg8 R.rR (R.weights d (e (Shape.Idx.first (numel1_S1.symm ▸ Nat.one_pos)))) Finset.univ
    (View.stores_vmem_bits_univ R.posR rfl) (.inl rfl)) fun _ => k

/-- A branch: its head, its 11 pieces, then `k`. -/
def branchK (i : grid0.Coords) (R : Rows) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole) (k : PR F) : PR F :=
  headK i R arg1 arg4 arg5 arg6 arg7 harg7 arg8 arg9 harg9 (chunksK R arg1 arg4 arg5 arg6 arg7 harg7 arg8 arg9 harg9 11 (Nat.le_refl 11) k)

/-- All 512 rows. -/
def rows512 : Rows where
  m := 512
  r0 := 0
  pos := by decide
  le := by decide
  dot := dot_S512x4096_S4096x256_S512x256_1_0_0_1_n_n_wf
  castX := shapeCasts_S512x2048_S512x2048
  iotaR := iota_S512x128_d1_w32
  redR := reduces_S512x128_S512
  redP := reduces_S512x246_S512
  cast1 := shapeCasts_S512_S512x1
  cast11 := shapeCasts_S512x1_S512x1
  bcR := broadcasts_S512x1_S512x128
  bcT := broadcasts_S512x1_S512x246
  bcP := broadcasts_S1x246_S512x246
  sliceG := slices_S512x256_o0_0_S512x128
  sliceU := slices_S512x256_o0_128_S512x128
  posX := h_S512x2048
  posR := h_S512x128
  posZ := h_S512x4096
  packA := packedbf16_S512x4096_S512x2048_0_0
  packB := packedbf16_S512x4096_S512x2048_0_2048
  packH := fun j => match j with
    | ⟨0, _⟩ => packedbf16_S512x1408_S512x128_0_0
    | ⟨1, _⟩ => packedbf16_S512x1408_S512x128_0_128
    | ⟨2, _⟩ => packedbf16_S512x1408_S512x128_0_256
    | ⟨3, _⟩ => packedbf16_S512x1408_S512x128_0_384
    | ⟨4, _⟩ => packedbf16_S512x1408_S512x128_0_512
    | ⟨5, _⟩ => packedbf16_S512x1408_S512x128_0_640
    | ⟨6, _⟩ => packedbf16_S512x1408_S512x128_0_768
    | ⟨7, _⟩ => packedbf16_S512x1408_S512x128_0_896
    | ⟨8, _⟩ => packedbf16_S512x1408_S512x128_0_1024
    | ⟨9, _⟩ => packedbf16_S512x1408_S512x128_0_1152
    | ⟨10, _⟩ => packedbf16_S512x1408_S512x128_0_1280

/-- The first 256 rows. -/
def rows256 : Rows where
  m := 256
  r0 := 0
  pos := by decide
  le := by decide
  dot := dot_S256x4096_S4096x256_S256x256_1_0_0_1_n_n_wf
  castX := shapeCasts_S256x2048_S256x2048
  iotaR := iota_S256x128_d1_w32
  redR := reduces_S256x128_S256
  redP := reduces_S256x246_S256
  cast1 := shapeCasts_S256_S256x1
  cast11 := shapeCasts_S256x1_S256x1
  bcR := broadcasts_S256x1_S256x128
  bcT := broadcasts_S256x1_S256x246
  bcP := broadcasts_S1x246_S256x246
  sliceG := slices_S256x256_o0_0_S256x128
  sliceU := slices_S256x256_o0_128_S256x128
  posX := h_S256x2048
  posR := h_S256x128
  posZ := h_S256x4096
  packA := packedbf16_S512x4096_S256x2048_0_0
  packB := packedbf16_S512x4096_S256x2048_0_2048
  packH := fun j => match j with
    | ⟨0, _⟩ => packedbf16_S512x1408_S256x128_0_0
    | ⟨1, _⟩ => packedbf16_S512x1408_S256x128_0_128
    | ⟨2, _⟩ => packedbf16_S512x1408_S256x128_0_256
    | ⟨3, _⟩ => packedbf16_S512x1408_S256x128_0_384
    | ⟨4, _⟩ => packedbf16_S512x1408_S256x128_0_512
    | ⟨5, _⟩ => packedbf16_S512x1408_S256x128_0_640
    | ⟨6, _⟩ => packedbf16_S512x1408_S256x128_0_768
    | ⟨7, _⟩ => packedbf16_S512x1408_S256x128_0_896
    | ⟨8, _⟩ => packedbf16_S512x1408_S256x128_0_1024
    | ⟨9, _⟩ => packedbf16_S512x1408_S256x128_0_1152
    | ⟨10, _⟩ => packedbf16_S512x1408_S256x128_0_1280

/-- 128 rows, from the row the body computes. -/
def rows128 (v1 : BitVec 32) (hc : k0_chk1 v1) (h3 : k0_cond3 v1 = 1#1) : Rows where
  m := 128
  r0 := (k0_mult1 v1).toNat
  pos := by decide
  le := k0_off9_inb v1 hc h3 0
  dot := dot_S128x4096_S4096x256_S128x256_1_0_0_1_n_n_wf
  castX := shapeCasts_S128x2048_S128x2048
  iotaR := iota_S128x128_d1_w32
  redR := reduces_S128x128_S128
  redP := reduces_S128x246_S128
  cast1 := shapeCasts_S128_S128x1
  cast11 := shapeCasts_S128x1_S128x1
  bcR := broadcasts_S128x1_S128x128
  bcT := broadcasts_S128x1_S128x246
  bcP := broadcasts_S1x246_S128x246
  sliceG := slices_S128x256_o0_0_S128x128
  sliceU := slices_S128x256_o0_128_S128x128
  posX := h_S128x2048
  posR := h_S128x128
  posZ := h_S128x4096
  packA := k0_off5_packedbf16 v1 hc h3
  packB := k0_off6_packedbf16 v1 hc h3
  packH := fun j => match j with
    | ⟨0, _⟩ => k0_off11_packedbf16 v1 hc h3
    | ⟨1, _⟩ => k0_off12_packedbf16 v1 hc h3
    | ⟨2, _⟩ => k0_off13_packedbf16 v1 hc h3
    | ⟨3, _⟩ => k0_off14_packedbf16 v1 hc h3
    | ⟨4, _⟩ => k0_off15_packedbf16 v1 hc h3
    | ⟨5, _⟩ => k0_off16_packedbf16 v1 hc h3
    | ⟨6, _⟩ => k0_off17_packedbf16 v1 hc h3
    | ⟨7, _⟩ => k0_off18_packedbf16 v1 hc h3
    | ⟨8, _⟩ => k0_off19_packedbf16 v1 hc h3
    | ⟨9, _⟩ => k0_off20_packedbf16 v1 hc h3
    | ⟨10, _⟩ => k0_off21_packedbf16 v1 hc h3

/-- The body after it has read the tile's number of valid rows `v`. -/
def branches (i : grid0.Coords) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole)
    (v : BitVec 32) (hc : k0_chk1 v) : PR F :=
  let part3 : PR F :=
    if h : k0_cond3 v = 1#1 then branchK i (rows128 v hc h) arg1 arg4 arg5 arg6 arg7 harg7 arg8 arg9 harg9 (.ret ⟨⟩) else .ret ⟨⟩
  let part2 : PR F :=
    if _h : k0_cond2 v = 1#1 then branchK i rows256 arg1 arg4 arg5 arg6 arg7 harg7 arg8 arg9 harg9 part3 else part3
  if _h : k0_cond1 v = 1#1 then branchK i rows512 arg1 arg4 arg5 arg6 arg7 harg7 arg8 arg9 harg9 part2 else part2

/-- The body at the word `v`: the word's side condition, then the branches. -/
def atWord (i : grid0.Coords) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole) (v : BitVec 32) : PR F :=
  .op (.assume (k0_chk1 v) (k0_chk1.dec v)) fun hc => branches i arg1 arg4 arg5 arg6 arg7 harg7 arg8 arg9 harg9 v hc.down

/-- The body: the tile's number of valid rows, and the branches that number selects. -/
def clean (i : grid0.Coords) (arg2 : Memref sig .tc .smem S96 .i32) (arg1 : Memref sig .tc .smem S96 .i32) (arg4 : Memref sig .tc .vmem S512x2176 .i32) (arg5 : Memref sig .tc .vmem S1x4096x2816 .fp8e4m3)
    (arg6 : Memref sig .tc .smem S1x32x22 .f32) (arg7 : Memref sig .tc .vmem S512x1408 .bf16) (harg7 : arg7.IsWhole)
    (arg8 : Memref sig .tc .vmem S512x128 .f32) (arg9 : Memref sig .tc .vmem S512x4096 .bf16) (harg9 : arg9.IsWhole) : PR F :=
  .op (.load arg2 (Rect.unit (s := S96) (k0_off1 i) S1.size (k0_off1_inb i)) (View.loadsAt_rect (View.loads_smem_one rfl numel1_S1)))
    fun f => atWord i arg1 arg4 arg5 arg6 arg7 harg7 arg8 arg9 harg9 (f (Shape.Idx.first (numel1_S1.symm ▸ Nat.one_pos)))

end Cert.GateUpIdeal.Up

end
-- ==== Proof.UpBodyEq.lean ====
/- The printed kernel body is the recursion of `UpBody`. -/
module

public import proofs.«01_k».proof.Proof.UpBody

@[expose] public section

namespace Cert.GateUpIdeal.Up

open Cert.GateUpIdeal
open Idealize.ShloMosaic Idealize.SL.Sem

variable {F : FTy → Type} [FloatOps F] [Facts]

set_option maxRecDepth 100000 in
set_option maxHeartbeats 0 in
/-- The printed body is the recursion. -/
theorem cc0_gate_up_eq (i : grid0.Coords) (arg1 : Memref sig .tc .smem S96 .i32) (harg1 : arg1.IsWhole) (arg2 : Memref sig .tc .smem S96 .i32)
    (harg2 : arg2.IsWhole) (arg3 : Memref sig .tc .smem S1 .i32) (harg3 : arg3.IsWhole) (arg4 : Memref sig .tc .vmem S512x2176 .i32)
    (harg4 : arg4.IsWhole) (arg5 : Memref sig .tc .vmem S1x4096x2816 .fp8e4m3) (harg5 : arg5.IsWhole)
    (arg6 : Memref sig .tc .smem S1x32x22 .f32) (harg6 : arg6.IsWhole) (arg7 : Memref sig .tc .vmem S512x1408 .bf16)
    (harg7 : arg7.IsWhole) (arg8 : Memref sig .tc .vmem S512x128 .f32) (harg8 : arg8.IsWhole)
    (arg9 : Memref sig .tc .vmem S512x4096 .bf16) (harg9 : arg9.IsWhole) :
    cc0_gate_up (F := F) i arg1 harg1 arg2 harg2 arg3 harg3 arg4 harg4 arg5 harg5 arg6 harg6 arg7 harg7 arg8 harg8 arg9 harg9
      = clean i arg2 arg1 arg4 arg5 arg6 arg7 harg7 arg8 arg9 harg9 := by
  sl_kernel_rfl

end Cert.GateUpIdeal.Up
-- ==== Proof.UpBodyRun.lean ====
/- Running the body of the gate and up projections: what it leaves in the staged blocks of its two results.

   `St`: what the body holds as it runs, the tile's word, the three staged inputs, the two staged results and the scratch
   buffer.  `colK_run`, `chunksK_run`, `headK_run`: the parts of a branch under the weakest precondition; `clean_run`: the
   whole body.  The contents it leaves are `leavesH` and `leavesW`. -/
module

public import proofs.«01_k».proof.Proof.UpBodyEq
public import Idealize.ShloMosaic.Lib.Memref
public import Idealize.ShloMosaic.Lib.Pipeline.Kit
public import Idealize.ShloMosaic.Lib.Exec
public import Idealize.ShloMosaic.Lib.ValueIdx
public import Idealize.ShloMosaic.Rules.Step

@[expose] public section

noncomputable section

namespace Cert.GateUpIdeal.Up

open Cert.GateUpIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Facts]

local notation "𝕄" => MT nD τ sig Unit (Elt F) ℕ (UR sig nD τ) ℕ

/-! ## The values -/

/-- The scaled block `rb` of column `cb` of the staged weights `x5` at the staged scales `x6`. -/
def blkAt (x5 : S1x4096x2816.Idx → Elt F .fp8e4m3) (x6 : S1x32x22.Idx → Elt F .f32) (cb : Fin 22) (rb : Fin 32) : FVec F S128x128 .bf16 :=
  blk rb (fun x => x5 ((rW cb).emb x)) (x6 ((rS rb cb).emb (Shape.Idx.first (numel1_S1x1x1.symm ▸ Nat.one_pos))))

/-- The unpacked rows: column `c` from the low halves, column `c + 2048` from the high halves. -/
def Rows.both (R : Rows) (lo hi : FVec F R.SX .bf16) : FVec F R.SZ .bf16 := fun y =>
  if h : (y 1).val < 2048 then lo (ValueIdx.ix2 (y 0) ⟨(y 1).val, h⟩)
  else hi (ValueIdx.ix2 (y 0) ⟨(y 1).val - 2048, by have : (y 1).val < 4096 := (y 1).isLt; omega⟩)

/-- The rows a branch unpacks from the staged block `x4`. -/
def rowsAt (R : Rows) (x4 : S512x2176.Idx → Elt F .i32) : FVec F R.SZ .bf16 :=
  R.both (R.low fun x => x4 (R.rX.emb x)) (R.high fun x => x4 (R.rX.emb x))

/-- Piece `j` of a branch, from the staged blocks. -/
def pieceAt (R : Rows) (x4 : S512x2176.Idx → Elt F .i32) (x5 : S1x4096x2816.Idx → Elt F .fp8e4m3) (x6 : S1x32x22.Idx → Elt F .f32)
    (j : Fin 11) : FVec F R.SR .bf16 :=
  R.val (blkAt x5 x6 ⟨j.val, by have := j.isLt; omega⟩) (blkAt x5 x6 ⟨11 + j.val, by have := j.isLt; omega⟩) (rowsAt R x4)

/-- The first `n` pieces of a branch laid over `Y`. -/
def layH (R : Rows) (x4 : S512x2176.Idx → Elt F .i32) (x5 : S1x4096x2816.Idx → Elt F .fp8e4m3) (x6 : S1x32x22.Idx → Elt F .f32) :
    (n : ℕ) → n ≤ 11 → (S512x1408.Idx → Elt F .bf16) → S512x1408.Idx → Elt F .bf16
  | 0, _, Y => Y
  | n + 1, h, Y => (R.rH ⟨n, h⟩).overlay (layH R x4 x5 x6 n (Nat.le_of_succ_le h) Y) (pieceAt R x4 x5 x6 ⟨n, h⟩)

/-- The row weights of a branch laid over `W`. -/
def layW (R : Rows) (x4 : S512x2176.Idx → Elt F .i32) (e : BitVec 32) (W : S512x128.Idx → Elt F .f32) : S512x128.Idx → Elt F .f32 :=
  R.rR.overlay W (R.weights (fun x => x4 (R.rD.emb x)) e)

open Classical in
/-- What the body leaves in the staged hidden block, at a tile of `v` valid rows, from the contents `Y` before. -/
def leavesH (v : BitVec 32) (hc : k0_chk1 v) (x4 : S512x2176.Idx → Elt F .i32) (x5 : S1x4096x2816.Idx → Elt F .fp8e4m3)
    (x6 : S1x32x22.Idx → Elt F .f32) (Y : S512x1408.Idx → Elt F .bf16) : S512x1408.Idx → Elt F .bf16 :=
  if h : k0_cond3 v = 1#1 then layH (rows128 v hc h) x4 x5 x6 11 (Nat.le_refl 11)
    (if k0_cond2 v = 1#1 then layH rows256 x4 x5 x6 11 (Nat.le_refl 11) (if k0_cond1 v = 1#1 then layH rows512 x4 x5 x6 11 (Nat.le_refl 11) Y else Y) else (if k0_cond1 v = 1#1 then layH rows512 x4 x5 x6 11 (Nat.le_refl 11) Y else Y))
  else (if k0_cond2 v = 1#1 then layH rows256 x4 x5 x6 11 (Nat.le_refl 11) (if k0_cond1 v = 1#1 then layH rows512 x4 x5 x6 11 (Nat.le_refl 11) Y else Y) else (if k0_cond1 v = 1#1 then layH rows512 x4 x5 x6 11 (Nat.le_refl 11) Y else Y))

open Classical in
/-- What the body leaves in the staged row weights, at a tile of `v` valid rows of expert `e`. -/
def leavesW (v : BitVec 32) (hc : k0_chk1 v) (x4 : S512x2176.Idx → Elt F .i32) (e : BitVec 32) (W : S512x128.Idx → Elt F .f32) :
    S512x128.Idx → Elt F .f32 :=
  if h : k0_cond3 v = 1#1 then layW (rows128 v hc h) x4 e
    (if k0_cond2 v = 1#1 then layW rows256 x4 e (if k0_cond1 v = 1#1 then layW rows512 x4 e W else W) else (if k0_cond1 v = 1#1 then layW rows512 x4 e W else W))
  else (if k0_cond2 v = 1#1 then layW rows256 x4 e (if k0_cond1 v = 1#1 then layW rows512 x4 e W else W) else (if k0_cond1 v = 1#1 then layW rows512 x4 e W else W))

/-- The scratch rows after both halves are laid are the unpacked rows, whatever was there. -/
theorem both_read (R : Rows) (Z : S512x4096.Idx → Elt F .bf16) (lo hi : FVec F R.SX .bf16) :
    (fun y => (R.rA 1).overlay ((R.rA 0).overlay Z lo) hi (R.rZ.emb y)) = R.both lo hi := by
  funext y
  unfold Rows.both
  have hy1 : (y 1).val < 4096 := (y 1).isLt
  split
  · next h =>
    have e : R.rZ.emb y = (R.rA 0).emb (ValueIdx.ix2 (y 0) ⟨(y 1).val, h⟩) := by
      funext a; apply Fin.ext
      match a with
      | ⟨0, _⟩ => rfl
      | ⟨1, _⟩ => show 0 + 1 * (y 1).val = 2048 * 0 + 1 * (y 1).val; omega
    rw [Rect.overlay_of_not_mem, e, Rect.overlay_emb]
    intro hm
    rw [← Rect.map_emb_univ] at hm
    obtain ⟨x, -, hx⟩ := Finset.mem_map.mp hm
    have h1 : 2048 * 1 + 1 * (x 1).val = 0 + 1 * (y 1).val := congrArg Fin.val (congrFun hx 1)
    omega
  · next h =>
    have e : R.rZ.emb y = (R.rA 1).emb (ValueIdx.ix2 (y 0) ⟨(y 1).val - 2048, by omega⟩) := by
      funext a; apply Fin.ext
      match a with
      | ⟨0, _⟩ => rfl
      | ⟨1, _⟩ => show 0 + 1 * (y 1).val = 2048 * 1 + 1 * ((y 1).val - 2048); omega
    rw [e, Rect.overlay_emb]

/-! ## The runs -/

theorem snoc_eq {α : Type} {n N : ℕ} (g : Fin N → α) (h : n + 1 ≤ N) :
    snoc (fun i : Fin n => g ⟨i.val, by have := i.isLt; omega⟩) (g ⟨n, h⟩) = fun i : Fin (n + 1) => g ⟨i.val, by have := i.isLt; omega⟩ := by
  funext i
  unfold snoc
  split
  · rfl
  · next hi => congr 1; apply Fin.ext; have := i.isLt; simp only; omega

section Runs

variable (c : Dev nD)
  (arg4 : Memref sig .tc .vmem S512x2176 .i32) (arg5 : Memref sig .tc .vmem S1x4096x2816 .fp8e4m3)
  (arg6 : Memref sig .tc .smem S1x32x22 .f32) (arg7 : Memref sig .tc .vmem S512x1408 .bf16)
  (arg8 : Memref sig .tc .vmem S512x128 .f32) (arg9 : Memref sig .tc .vmem S512x4096 .bf16)
  (q : PosShare TreeShare) (T : S96.Idx → Elt F .i32)
  (x4 : S512x2176.Idx → Elt F .i32) (x5 : S1x4096x2816.Idx → Elt F .fp8e4m3) (x6 : S1x32x22.Idx → Elt F .f32)
  (Y : S512x1408.Idx → Elt F .bf16) (W : S512x128.Idx → Elt F .f32) (Z : S512x4096.Idx → Elt F .bf16)

/-- A rectangle of a memref's elements lies among the memref's own. -/
theorem acc_sub {sp : Space} {s : Shape} {e : EltTy} (m : Memref sig .tc sp s e) (r : Rect s) : (m.access r).set ⊆ m.view.set :=
  m.view.set_slice_subset r

/-- Loading a rectangle of a memref held at contents `X`. -/
theorem owns_load {cs : CoreSpace} {s : Shape} {e : EltTy} (m : Memref sig .tc cs s e) (r : Rect s) (hl : m.view.LoadsAt r)
    (X : s.Idx → Elt F e) (P : sProp 𝕄) {Q : PUnit.{1} → sProp 𝕄} {k : (r.toLoadRect.shape.Idx → Elt F e) → PR F}
    (h : iprop(owns (c : Thread nD τ) m fullShare X ∗ P) ⊢ wp frame (wpE (defs₀ (F := F)) Variants.none c none) Set.univ (k fun x => X (r.emb x)) Q) :
    iprop(owns (c : Thread nD τ) m fullShare X ∗ P)
      ⊢ wp frame (wpE (defs₀ (F := F)) Variants.none c none) Set.univ (.op (.load m r.toLoadRect hl) k) Q := by
  unfold owns at h ⊢
  iintro ⟨⟨%f, %hf, Hm⟩, HP⟩
  iapply (wp_load_rect (Val := Elt F) Variants.none (c : Thread nD τ) none Set.univ (Q := Q) (m := m) (r := r) (hl := hl) (k := k) (acc_sub m r)) $$ Hm
  iintro Hm
  subst hf
  iapply h
  isplitl [Hm]
  · iexists f
    isplitr
    · ipureintro; rfl
    · iexact Hm
  · iexact HP

/-- Storing a rectangle of a memref held at contents `X`: the rectangle laid over them. -/
theorem owns_store {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1)
    (X : s.Idx → Elt F e) (P : sProp 𝕄) {Q : PUnit.{1} → sProp 𝕄} {k : PUnit → PR F}
    (h : iprop(owns (c : Thread nD τ) m fullShare (r.overlay X w) ∗ P)
      ⊢ wp frame (wpE (defs₀ (F := F)) Variants.none c none) Set.univ (k ⟨⟩) Q) :
    iprop(owns (c : Thread nD τ) m fullShare X ∗ P)
      ⊢ wp frame (wpE (defs₀ (F := F)) Variants.none c none) Set.univ (.op (.store m r w Finset.univ hx hm) k) Q := by
  unfold owns at h ⊢
  iintro ⟨⟨%f, %hf, Hm⟩, HP⟩
  iapply (wp_store (Val := Elt F) Variants.none (c : Thread nD τ) none Set.univ (Q := Q) (m := m) (r := r) (w := w) (hx := hx) (hm := hm) (k := k)
    (by rw [View.setOn_univ]; exact acc_sub m r)) $$ Hm
  iintro Hm
  iapply h
  isplitl [Hm]
  · iexists _
    isplitr
    swap
    · iexact Hm
    · ipureintro
      funext y
      subst hf
      by_cases hy : y ∈ r.set
      · rw [← r.map_emb_univ] at hy
        obtain ⟨x, -, rfl⟩ := Finset.mem_map.mp hy
        rw [Rect.overlay_emb]
        exact View.read_slice_write_emb r f w (Finset.mem_univ x)
      · rw [Rect.overlay_of_not_mem _ _ _ hy]
        exact View.read_slice_write_of_not_mem r f w Finset.univ (by rw [r.map_emb_univ]; exact hy)
  · iexact HP

/-- What the body holds. -/
def St (P : sProp 𝕄) : sProp 𝕄 :=
  iprop((((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P)

/-- Resource T of the state, and the rest. -/
theorem focusT (P : sProp 𝕄) : St c arg4 arg5 arg6 arg7 arg8 arg9 q T x4 x5 x6 Y W Z P
      = iprop((((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P) := by
  have l : St c arg4 arg5 arg6 arg7 arg8 arg9 q T x4 x5 x6 Y W Z P ⊢ iprop((((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P) := by
    unfold St
    iintro ⟨HT, H4, H5, H6, H7, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  have r : iprop((((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P) ⊢ St c arg4 arg5 arg6 arg7 arg8 arg9 q T x4 x5 x6 Y W Z P := by
    unfold St
    iintro ⟨HT, H4, H5, H6, H7, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- Resource 4 of the state, and the rest. -/
theorem focus4 (P : sProp 𝕄) : St c arg4 arg5 arg6 arg7 arg8 arg9 q T x4 x5 x6 Y W Z P
      = iprop(owns (c : Thread nD τ) arg4 fullShare x4 ∗ (((c : Thread nD τ).loc main_arg0) ↦{q} T) ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P) := by
  have l : St c arg4 arg5 arg6 arg7 arg8 arg9 q T x4 x5 x6 Y W Z P ⊢ iprop(owns (c : Thread nD τ) arg4 fullShare x4 ∗ (((c : Thread nD τ).loc main_arg0) ↦{q} T) ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P) := by
    unfold St
    iintro ⟨HT, H4, H5, H6, H7, H8, H9, HP⟩
    isplitl [H4]; · iexact H4
    isplitl [HT]; · iexact HT
    isplitl [H5]; · iexact H5
    isplitl [H6]; · iexact H6
    isplitl [H7]; · iexact H7
    isplitl [H8]; · iexact H8
    isplitl [H9]; · iexact H9
    iexact HP
  have r : iprop(owns (c : Thread nD τ) arg4 fullShare x4 ∗ (((c : Thread nD τ).loc main_arg0) ↦{q} T) ∗ owns (c : Thread nD τ) arg5 fullShare x5 ∗ owns (c : Thread nD τ) arg6 fullShare x6 ∗ owns (c : Thread nD τ) arg7 fullShare Y ∗ owns (c : Thread nD τ) arg8 fullShare W ∗ owns (c : Thread nD τ) arg9 fullShare Z ∗ P) ⊢ St c arg4 arg5 arg6 arg7 arg8 arg9 q T x4 x5 x6 Y W Z P := by
    unfold St
    iintro ⟨H4, HT, H5, H6, H7, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- Resource 5 of the state, and the rest. -/
theorem focus5 (P : sProp 𝕄) : St c arg4 arg5 arg6 arg7 arg8 arg9 q T x4 x5 x6 Y W Z P
      = iprop(owns (c : Thread nD τ) arg5 fullShare x5 ∗ (((c : Thread nD τ).loc main_arg0) ↦{q} T) ∗ owns (c : Thread nD τ) arg4 fullShare x4 ∗ owns (c : Thread nD τ) arg6 fullShare x6 ∗ owns (c : Thread nD τ) arg7 fullShare Y ∗ owns (c : Thread nD τ) arg8 fullShare W ∗ owns (c : Thread nD τ) arg9 fullShare Z ∗ P) := by
  have l : St c arg4 arg5 arg6 arg7 arg8 arg9 q T x4 x5 x6 Y W Z P ⊢ iprop(owns (c : Thread nD τ) arg5 fullShare x5 ∗ (((c : Thread nD τ).loc main_arg0) ↦{q} T) ∗ owns (c : Thread nD τ) arg4 fullShare x4 ∗ owns (c : Thread nD τ) arg6 fullShare x6 ∗ owns (c : Thread nD τ) arg7 fullShare Y ∗ owns (c : Thread nD τ) arg8 fullShare W ∗ owns (c : Thread nD τ) arg9 fullShare Z ∗ P) := by
    unfold St
    iintro ⟨HT, H4, H5, H6, H7, H8, H9, HP⟩
    isplitl [H5]; · iexact H5
    isplitl [HT]; · iexact HT
    isplitl [H4]; · iexact H4
    isplitl [H6]; · iexact H6
    isplitl [H7]; · iexact H7
    isplitl [H8]; · iexact H8
    isplitl [H9]; · iexact H9
    iexact HP
  have r : iprop(owns (c : Thread nD τ) arg5 fullShare x5 ∗ (((c : Thread nD τ).loc main_arg0) ↦{q} T) ∗ owns (c : Thread nD τ) arg4 fullShare x4 ∗ owns (c : Thread nD τ) arg6 fullShare x6 ∗ owns (c : Thread nD τ) arg7 fullShare Y ∗ owns (c : Thread nD τ) arg8 fullShare W ∗ owns (c : Thread nD τ) arg9 fullShare Z ∗ P) ⊢ St c arg4 arg5 arg6 arg7 arg8 arg9 q T x4 x5 x6 Y W Z P := by
    unfold St
    iintro ⟨H5, HT, H4, H6, H7, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- Resource 6 of the state, and the rest. -/
theorem focus6 (P : sProp 𝕄) : St c arg4 arg5 arg6 arg7 arg8 arg9 q T x4 x5 x6 Y W Z P
      = iprop(owns (c : Thread nD τ) arg6 fullShare x6 ∗ (((c : Thread nD τ).loc main_arg0) ↦{q} T) ∗ owns (c : Thread nD τ) arg4 fullShare x4 ∗ owns (c : Thread nD τ) arg5 fullShare x5 ∗ owns (c : Thread nD τ) arg7 fullShare Y ∗ owns (c : Thread nD τ) arg8 fullShare W ∗ owns (c : Thread nD τ) arg9 fullShare Z ∗ P) := by
  have l : St c arg4 arg5 arg6 arg7 arg8 arg9 q T x4 x5 x6 Y W Z P ⊢ iprop(owns (c : Thread nD τ) arg6 fullShare x6 ∗ (((c : Thread nD τ).loc main_arg0) ↦{q} T) ∗ owns (c : Thread nD τ) arg4 fullShare x4 ∗ owns (c : Thread nD τ) arg5 fullShare x5 ∗ owns (c : Thread nD τ) arg7 fullShare Y ∗ owns (c : Thread nD τ) arg8 fullShare W ∗ owns (c : Thread nD τ) arg9 fullShare Z ∗ P) := by
    unfold St
    iintro ⟨HT, H4, H5, H6, H7, H8, H9, HP⟩
    isplitl [H6]; · iexact H6
    isplitl [HT]; · iexact HT
    isplitl [H4]; · iexact H4
    isplitl [H5]; · iexact H5
    isplitl [H7]; · iexact H7
    isplitl [H8]; · iexact H8
    isplitl [H9]; · iexact H9
    iexact HP
  have r : iprop(owns (c : Thread nD τ) arg6 fullShare x6 ∗ (((c : Thread nD τ).loc main_arg0) ↦{q} T) ∗ owns (c : Thread nD τ) arg4 fullShare x4 ∗ owns (c : Thread nD τ) arg5 fullShare x5 ∗ owns (c : Thread nD τ) arg7 fullShare Y ∗ owns (c : Thread nD τ) arg8 fullShare W ∗ owns (c : Thread nD τ) arg9 fullShare Z ∗ P) ⊢ St c arg4 arg5 arg6 arg7 arg8 arg9 q T x4 x5 x6 Y W Z P := by
    unfold St
    iintro ⟨H6, HT, H4, H5, H7, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- Resource 7 of the state, and the rest. -/
theorem focus7 (P : sProp 𝕄) : St c arg4 arg5 arg6 arg7 arg8 arg9 q T x4 x5 x6 Y W Z P
      = iprop(owns (c : Thread nD τ) arg7 fullShare Y ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg8 fullShare W ∗ owns (c : Thread nD τ) arg9 fullShare Z ∗ P) := by
  have l : St c arg4 arg5 arg6 arg7 arg8 arg9 q T x4 x5 x6 Y W Z P ⊢ iprop(owns (c : Thread nD τ) arg7 fullShare Y ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg8 fullShare W ∗ owns (c : Thread nD τ) arg9 fullShare Z ∗ P) := by
    unfold St
    iintro ⟨HT, H4, H5, H6, H7, H8, H9, HP⟩
    isplitl [H7]; · iexact H7
    isplitl [HT]; · iexact HT
    isplitl [H4]; · iexact H4
    isplitl [H5]; · iexact H5
    isplitl [H6]; · iexact H6
    isplitl [H8]; · iexact H8
    isplitl [H9]; · iexact H9
    iexact HP
  have r : iprop(owns (c : Thread nD τ) arg7 fullShare Y ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg8 fullShare W ∗ owns (c : Thread nD τ) arg9 fullShare Z ∗ P) ⊢ St c arg4 arg5 arg6 arg7 arg8 arg9 q T x4 x5 x6 Y W Z P := by
    unfold St
    iintro ⟨H7, HT, H4, H5, H6, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- Resource 8 of the state, and the rest. -/
theorem focus8 (P : sProp 𝕄) : St c arg4 arg5 arg6 arg7 arg8 arg9 q T x4 x5 x6 Y W Z P
      = iprop(owns (c : Thread nD τ) arg8 fullShare W ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg9 fullShare Z ∗ P) := by
  have l : St c arg4 arg5 arg6 arg7 arg8 arg9 q T x4 x5 x6 Y W Z P ⊢ iprop(owns (c : Thread nD τ) arg8 fullShare W ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg9 fullShare Z ∗ P) := by
    unfold St
    iintro ⟨HT, H4, H5, H6, H7, H8, H9, HP⟩
    isplitl [H8]; · iexact H8
    isplitl [HT]; · iexact HT
    isplitl [H4]; · iexact H4
    isplitl [H5]; · iexact H5
    isplitl [H6]; · iexact H6
    isplitl [H7]; · iexact H7
    isplitl [H9]; · iexact H9
    iexact HP
  have r : iprop(owns (c : Thread nD τ) arg8 fullShare W ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg9 fullShare Z ∗ P) ⊢ St c arg4 arg5 arg6 arg7 arg8 arg9 q T x4 x5 x6 Y W Z P := by
    unfold St
    iintro ⟨H8, HT, H4, H5, H6, H7, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- Resource 9 of the state, and the rest. -/
theorem focus9 (P : sProp 𝕄) : St c arg4 arg5 arg6 arg7 arg8 arg9 q T x4 x5 x6 Y W Z P
      = iprop(owns (c : Thread nD τ) arg9 fullShare Z ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ P) := by
  have l : St c arg4 arg5 arg6 arg7 arg8 arg9 q T x4 x5 x6 Y W Z P ⊢ iprop(owns (c : Thread nD τ) arg9 fullShare Z ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ P) := by
    unfold St
    iintro ⟨HT, H4, H5, H6, H7, H8, H9, HP⟩
    isplitl [H9]; · iexact H9
    isplitl [HT]; · iexact HT
    isplitl [H4]; · iexact H4
    isplitl [H5]; · iexact H5
    isplitl [H6]; · iexact H6
    isplitl [H7]; · iexact H7
    isplitl [H8]; · iexact H8
    iexact HP
  have r : iprop(owns (c : Thread nD τ) arg9 fullShare Z ∗ (((c : Thread nD τ).loc main_arg0) ↦{q} T) ∗ owns (c : Thread nD τ) arg4 fullShare x4 ∗ owns (c : Thread nD τ) arg5 fullShare x5 ∗ owns (c : Thread nD τ) arg6 fullShare x6 ∗ owns (c : Thread nD τ) arg7 fullShare Y ∗ owns (c : Thread nD τ) arg8 fullShare W ∗ P) ⊢ St c arg4 arg5 arg6 arg7 arg8 arg9 q T x4 x5 x6 Y W Z P := by
    unfold St
    iintro ⟨H9, HT, H4, H5, H6, H7, H8, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    iexact HP
  exact BI.Entails.antisymm l r

/-- The scales of a column: their reads change nothing, and what they hand on are the scaled blocks. -/
theorem scalesK_run (P : sProp 𝕄) (cb : Fin 22) (w : S1x4096x128.Idx → Elt F .fp8e4m3) {Q : PUnit.{1} → sProp 𝕄} (n : ℕ) (hn : n ≤ 32)
    (k : (Fin n → FVec F S128x128 .bf16) → PR F)
    (h : St c arg4 arg5 arg6 arg7 arg8 arg9 q T x4 x5 x6 Y W Z P ⊢ wp frame (wpE (defs₀ (F := F)) Variants.none c none) Set.univ
      (k fun i => blk ⟨i.val, by have := i.isLt; omega⟩ w (x6 ((rS ⟨i.val, by have := i.isLt; omega⟩ cb).emb (Shape.Idx.first (numel1_S1x1x1.symm ▸ Nat.one_pos))))) Q) :
    St c arg4 arg5 arg6 arg7 arg8 arg9 q T x4 x5 x6 Y W Z P ⊢ wp frame (wpE (defs₀ (F := F)) Variants.none c none) Set.univ (scalesK arg6 cb w n hn k) Q := by
  induction n with
  | zero =>
    have e : (fun i : Fin 0 => i.elim0) = fun i : Fin 0 => blk ⟨i.val, by have := i.isLt; omega⟩ w
        (x6 ((rS ⟨i.val, by have := i.isLt; omega⟩ cb).emb (Shape.Idx.first (numel1_S1x1x1.symm ▸ Nat.one_pos)))) := funext fun i => i.elim0
    unfold scalesK
    rw [e]; exact h
  | succ n ih =>
    unfold scalesK
    refine ih (Nat.le_of_succ_le hn) _ ?_
    rw [focus6]
    refine owns_load c arg6 (rS ⟨n, hn⟩ cb) _ x6 _ ?_
    rw [← focus6]
    rw [← snoc_eq (fun rb : Fin 32 => blk rb w (x6 ((rS rb cb).emb (Shape.Idx.first (numel1_S1x1x1.symm ▸ Nat.one_pos))))) hn] at h
    exact h

/-- A column. -/
theorem colK_run (P : sProp 𝕄) (cb : Fin 22) {Q : PUnit.{1} → sProp 𝕄} (k : (Fin 32 → FVec F S128x128 .bf16) → PR F)
    (h : St c arg4 arg5 arg6 arg7 arg8 arg9 q T x4 x5 x6 Y W Z P ⊢ wp frame (wpE (defs₀ (F := F)) Variants.none c none) Set.univ (k (blkAt x5 x6 cb)) Q) :
    St c arg4 arg5 arg6 arg7 arg8 arg9 q T x4 x5 x6 Y W Z P ⊢ wp frame (wpE (defs₀ (F := F)) Variants.none c none) Set.univ (colK arg5 arg6 cb k) Q := by
  unfold colK
  rw [focus5]
  refine owns_load c arg5 (rW cb) _ x5 _ ?_
  rw [← focus5]
  exact scalesK_run c arg4 arg5 arg6 arg7 arg8 arg9 q T x4 x5 x6 Y W Z P cb _ 32 (Nat.le_refl 32) k h

variable (harg7 : arg7.IsWhole) (harg9 : arg9.IsWhole)

/-- Piece `j` of a branch. -/
theorem chunkK_run (P : sProp 𝕄) (R : Rows) (j : Fin 11) (hZ : (fun y => Z (R.rZ.emb y)) = rowsAt R x4) {Q : PUnit.{1} → sProp 𝕄} (k : PR F)
    (h : St c arg4 arg5 arg6 arg7 arg8 arg9 q T x4 x5 x6 ((R.rH j).overlay Y (pieceAt R x4 x5 x6 j)) W Z P
      ⊢ wp frame (wpE (defs₀ (F := F)) Variants.none c none) Set.univ k Q) :
    St c arg4 arg5 arg6 arg7 arg8 arg9 q T x4 x5 x6 Y W Z P
      ⊢ wp frame (wpE (defs₀ (F := F)) Variants.none c none) Set.univ
        (chunkK R (Memref.whole main_arg0) arg4 arg5 arg6 arg7 harg7 arg8 arg9 harg9 j k) Q := by
  unfold chunkK
  refine colK_run c arg4 arg5 arg6 arg7 arg8 arg9 q T x4 x5 x6 Y W Z P _ _ ?_
  refine colK_run c arg4 arg5 arg6 arg7 arg8 arg9 q T x4 x5 x6 Y W Z P _ _ ?_
  rw [focus9]
  refine owns_load c arg9 R.rZ _ Z _ ?_
  rw [← focus9, focus7]
  refine owns_load c arg7 (R.rH j) _ Y _ ?_
  refine owns_store c arg7 (R.rH j) _ _ _ Y _ ?_
  rw [← focus7, hZ]
  exact h

/-- The pieces of a branch, one after the other. -/
theorem chunksK_run (P : sProp 𝕄) (R : Rows) (hZ : (fun y => Z (R.rZ.emb y)) = rowsAt R x4) {Q : PUnit.{1} → sProp 𝕄} (n : ℕ) (hn : n ≤ 11) (k : PR F)
    (h : St c arg4 arg5 arg6 arg7 arg8 arg9 q T x4 x5 x6 (layH R x4 x5 x6 n hn Y) W Z P
      ⊢ wp frame (wpE (defs₀ (F := F)) Variants.none c none) Set.univ k Q) :
    St c arg4 arg5 arg6 arg7 arg8 arg9 q T x4 x5 x6 Y W Z P
      ⊢ wp frame (wpE (defs₀ (F := F)) Variants.none c none) Set.univ
        (chunksK R (Memref.whole main_arg0) arg4 arg5 arg6 arg7 harg7 arg8 arg9 harg9 n hn k) Q := by
  induction n generalizing k with
  | zero => exact h
  | succ n ih =>
    unfold chunksK
    exact ih (Nat.le_of_succ_le hn) _ (chunkK_run c arg4 arg5 arg6 arg7 arg8 arg9 q T x4 x5 x6 _ W Z harg7 harg9 P R ⟨n, hn⟩ hZ k h)

/-- The words of the tile in a table. -/
theorem word_run0 (P : sProp 𝕄) (i : grid0.Coords) {Q : PUnit.{1} → sProp 𝕄} (e : BitVec 32)
    (he : T ((Rect.unit (s := S96) (k0_off1 i) S1.size (k0_off1_inb i)).emb (Shape.Idx.first (numel1_S1.symm ▸ Nat.one_pos))) = e) (K : BitVec 32 → PR F)
    (hl : (Memref.whole main_arg0).view.LoadsAt (Rect.unit (s := S96) (k0_off1 i) S1.size (k0_off1_inb i)).toLoadRect)
    (h : iprop((((c : Thread nD τ).loc main_arg0) ↦{q} T) ∗ P)
      ⊢ wp frame (wpE (defs₀ (F := F)) Variants.none c none) Set.univ (K e) Q) :
    iprop((((c : Thread nD τ).loc main_arg0) ↦{q} T) ∗ P)
      ⊢ wp frame (wpE (defs₀ (F := F)) Variants.none c none) Set.univ
          (.op (.load (Memref.whole main_arg0) (Rect.unit (s := S96) (k0_off1 i) S1.size (k0_off1_inb i)).toLoadRect hl)
            fun f => K (f (Shape.Idx.first (numel1_S1.symm ▸ Nat.one_pos)))) Q := by
  iintro ⟨HT, HP⟩
  iapply (wp_load_rect (Val := Elt F) Variants.none (c : Thread nD τ) none Set.univ (Q := Q) (m := Memref.whole main_arg0)
    (r := Rect.unit (s := S96) (k0_off1 i) S1.size (k0_off1_inb i)) (q := q) (f := T) (S := Finset.univ) (Finset.subset_univ _)) $$ HT
  iintro HT
  have hread : ((Memref.whole main_arg0).access (Rect.unit (s := S96) (k0_off1 i) S1.size (k0_off1_inb i))).read (Elt F) T
      (Shape.Idx.first (numel1_S1.symm ▸ Nat.one_pos)) = e := he
  generalize ((Memref.whole main_arg0).access (Rect.unit (s := S96) (k0_off1 i) S1.size (k0_off1_inb i))).read (Elt F) T = f at hread ⊢
  subst hread
  iapply h
  isplitl [HT]; · iexact HT
  iexact HP

theorem word_run1 (P : sProp 𝕄) (i : grid0.Coords) {Q : PUnit.{1} → sProp 𝕄} (e : BitVec 32)
    (he : T ((Rect.unit (s := S96) (k0_off1 i) S1.size (k0_off1_inb i)).emb (Shape.Idx.first (numel1_S1.symm ▸ Nat.one_pos))) = e) (K : BitVec 32 → PR F)
    (hl : (Memref.whole main_arg1).view.LoadsAt (Rect.unit (s := S96) (k0_off1 i) S1.size (k0_off1_inb i)).toLoadRect)
    (h : iprop((((c : Thread nD τ).loc main_arg1) ↦{q} T) ∗ P)
      ⊢ wp frame (wpE (defs₀ (F := F)) Variants.none c none) Set.univ (K e) Q) :
    iprop((((c : Thread nD τ).loc main_arg1) ↦{q} T) ∗ P)
      ⊢ wp frame (wpE (defs₀ (F := F)) Variants.none c none) Set.univ
          (.op (.load (Memref.whole main_arg1) (Rect.unit (s := S96) (k0_off1 i) S1.size (k0_off1_inb i)).toLoadRect hl)
            fun f => K (f (Shape.Idx.first (numel1_S1.symm ▸ Nat.one_pos)))) Q := by
  iintro ⟨HT, HP⟩
  iapply (wp_load_rect (Val := Elt F) Variants.none (c : Thread nD τ) none Set.univ (Q := Q) (m := Memref.whole main_arg1)
    (r := Rect.unit (s := S96) (k0_off1 i) S1.size (k0_off1_inb i)) (q := q) (f := T) (S := Finset.univ) (Finset.subset_univ _)) $$ HT
  iintro HT
  have hread : ((Memref.whole main_arg1).access (Rect.unit (s := S96) (k0_off1 i) S1.size (k0_off1_inb i))).read (Elt F) T
      (Shape.Idx.first (numel1_S1.symm ▸ Nat.one_pos)) = e := he
  generalize ((Memref.whole main_arg1).access (Rect.unit (s := S96) (k0_off1 i) S1.size (k0_off1_inb i))).read (Elt F) T = f at hread ⊢
  subst hread
  iapply h
  isplitl [HT]; · iexact HT
  iexact HP

/-- The head of a branch. -/
theorem headK_run (P : sProp 𝕄) (i : grid0.Coords) (R : Rows) {Q : PUnit.{1} → sProp 𝕄} (e : BitVec 32)
    (he : T ((Rect.unit (s := S96) (k0_off1 i) S1.size (k0_off1_inb i)).emb (Shape.Idx.first (numel1_S1.symm ▸ Nat.one_pos))) = e) (k : PR F)
    (h : St c arg4 arg5 arg6 arg7 arg8 arg9 q T x4 x5 x6 Y (layW R x4 e W)
        ((R.rA 1).overlay ((R.rA 0).overlay Z (R.low fun x => x4 (R.rX.emb x))) (R.high fun x => x4 (R.rX.emb x))) P
      ⊢ wp frame (wpE (defs₀ (F := F)) Variants.none c none) Set.univ k Q) :
    St c arg4 arg5 arg6 arg7 arg8 arg9 q T x4 x5 x6 Y W Z P
      ⊢ wp frame (wpE (defs₀ (F := F)) Variants.none c none) Set.univ
        (headK i R (Memref.whole main_arg0) arg4 arg5 arg6 arg7 harg7 arg8 arg9 harg9 k) Q := by
  unfold headK
  rw [focus4]
  refine owns_load c arg4 R.rX _ x4 _ ?_
  rw [← focus4, focus9]
  refine owns_load c arg9 (R.rA 0) _ Z _ ?_
  refine owns_store c arg9 (R.rA 0) _ _ _ Z _ ?_
  refine owns_load c arg9 (R.rA 1) _ _ _ ?_
  refine owns_store c arg9 (R.rA 1) _ _ _ _ _ ?_
  rw [← focus9, focus4]
  refine owns_load c arg4 R.rD _ x4 _ ?_
  rw [← focus4, focusT]
  refine word_run0 c q T _ i e he (fun e => .op (.load arg8 R.rR.toLoadRect (View.loadsAt_vmem R.posR)) fun _ =>
    .op (.store arg8 R.rR (R.weights (fun x => x4 (R.rD.emb x)) e) Finset.univ (View.stores_vmem_bits_univ R.posR rfl) (.inl rfl)) fun _ => k) _ ?_
  rw [← focusT, focus8]
  refine owns_load c arg8 R.rR _ W _ ?_
  refine owns_store c arg8 R.rR _ _ _ W _ ?_
  rw [← focus8]
  exact h

set_option maxRecDepth 8000 in
/-- A branch: its head and its pieces; the scratch buffer is left at some contents. -/
theorem branchK_run (P : sProp 𝕄) (i : grid0.Coords) (R : Rows) {Q : PUnit.{1} → sProp 𝕄} (e : BitVec 32)
    (he : T ((Rect.unit (s := S96) (k0_off1 i) S1.size (k0_off1_inb i)).emb (Shape.Idx.first (numel1_S1.symm ▸ Nat.one_pos))) = e) (k : PR F)
    (h : ∀ Z', St c arg4 arg5 arg6 arg7 arg8 arg9 q T x4 x5 x6 (layH R x4 x5 x6 11 (Nat.le_refl 11) Y) (layW R x4 e W) Z' P
      ⊢ wp frame (wpE (defs₀ (F := F)) Variants.none c none) Set.univ k Q) :
    St c arg4 arg5 arg6 arg7 arg8 arg9 q T x4 x5 x6 Y W Z P
      ⊢ wp frame (wpE (defs₀ (F := F)) Variants.none c none) Set.univ
        (branchK i R (Memref.whole main_arg0) arg4 arg5 arg6 arg7 harg7 arg8 arg9 harg9 k) Q := by
  unfold branchK
  refine headK_run c arg4 arg5 arg6 arg7 arg8 arg9 q T x4 x5 x6 Y W Z harg7 harg9 P i R e he _ ?_
  have hZ : (fun y => ((R.rA 1).overlay ((R.rA 0).overlay Z (R.low fun x => x4 (R.rX.emb x))) (R.high fun x => x4 (R.rX.emb x))) (R.rZ.emb y)) = rowsAt R x4 :=
    both_read R Z (R.low fun x => x4 (R.rX.emb x)) (R.high fun x => x4 (R.rX.emb x))
  generalize (R.rA 1).overlay ((R.rA 0).overlay Z (R.low fun x => x4 (R.rX.emb x))) (R.high fun x => x4 (R.rX.emb x)) = Z1 at hZ ⊢
  have hk := h Z1
  have two := chunksK_run c arg4 arg5 arg6 arg7 arg8 arg9 q T x4 x5 x6 Y _ Z1 harg7 harg9 P R hZ 11 (Nat.le_refl 11) k hk
  refine two.trans ?_
  convert (BIBase.Entails.rfl) using 3

theorem branches_run (P : sProp 𝕄) (i : grid0.Coords) {Q : PUnit.{1} → sProp 𝕄} (e : BitVec 32)
    (he : T ((Rect.unit (s := S96) (k0_off1 i) S1.size (k0_off1_inb i)).emb (Shape.Idx.first (numel1_S1.symm ▸ Nat.one_pos))) = e)
    (v : BitVec 32) (hc : k0_chk1 v)
    (h : ∀ Z', St c arg4 arg5 arg6 arg7 arg8 arg9 q T x4 x5 x6 (leavesH v hc x4 x5 x6 Y) (leavesW v hc x4 e W) Z' P ⊢ Q ⟨⟩) :
    St c arg4 arg5 arg6 arg7 arg8 arg9 q T x4 x5 x6 Y W Z P
      ⊢ wp frame (wpE (defs₀ (F := F)) Variants.none c none) Set.univ
        (branches i (Memref.whole main_arg0) arg4 arg5 arg6 arg7 harg7 arg8 arg9 harg9 v hc) Q := by
  have hret : ∀ Z', St c arg4 arg5 arg6 arg7 arg8 arg9 q T x4 x5 x6 (leavesH v hc x4 x5 x6 Y) (leavesW v hc x4 e W) Z' P
      ⊢ wp frame (wpE (defs₀ (F := F)) Variants.none c none) Set.univ (.ret ⟨⟩ : PR F) Q :=
    fun Z' => (h Z').trans (le_wp_ret _ _ _ _ _)
  have part3 : ∀ (Y2 : S512x1408.Idx → Elt F .bf16) (W2 : S512x128.Idx → Elt F .f32) (Z2 : S512x4096.Idx → Elt F .bf16),
      leavesH v hc x4 x5 x6 Y = (if h : k0_cond3 v = 1#1 then layH (rows128 v hc h) x4 x5 x6 11 (Nat.le_refl 11) Y2 else Y2) →
      leavesW v hc x4 e W = (if h : k0_cond3 v = 1#1 then layW (rows128 v hc h) x4 e W2 else W2) →
      St c arg4 arg5 arg6 arg7 arg8 arg9 q T x4 x5 x6 Y2 W2 Z2 P
        ⊢ wp frame (wpE (defs₀ (F := F)) Variants.none c none) Set.univ
          (if h : k0_cond3 v = 1#1 then branchK i (rows128 v hc h) (Memref.whole main_arg0) arg4 arg5 arg6 arg7 harg7 arg8 arg9 harg9 (.ret ⟨⟩) else .ret ⟨⟩) Q := by
    intro Y2 W2 Z2 eY eW
    by_cases h3 : k0_cond3 v = 1#1
    · rw [dif_pos h3] at eY eW
      rw [dif_pos h3]
      refine branchK_run c arg4 arg5 arg6 arg7 arg8 arg9 q T x4 x5 x6 Y2 W2 Z2 harg7 harg9 P i _ e he _ ?_
      rw [← eY, ← eW]; exact hret
    · rw [dif_neg h3] at eY eW
      rw [dif_neg h3, ← eY, ← eW]
      exact hret Z2
  unfold branches
  by_cases h1 : k0_cond1 v = 1#1 <;> by_cases h2 : k0_cond2 v = 1#1
  · rw [dif_pos h1, dif_pos h2]
    refine branchK_run c arg4 arg5 arg6 arg7 arg8 arg9 q T x4 x5 x6 Y W Z harg7 harg9 P i _ e he _ fun Z1 => ?_
    refine branchK_run c arg4 arg5 arg6 arg7 arg8 arg9 q T x4 x5 x6 _ _ Z1 harg7 harg9 P i _ e he _ fun Z2 => ?_
    exact part3 _ _ Z2 (by unfold leavesH; rw [if_pos h1, if_pos h2]) (by unfold leavesW; rw [if_pos h1, if_pos h2])
  · rw [dif_pos h1, dif_neg h2]
    refine branchK_run c arg4 arg5 arg6 arg7 arg8 arg9 q T x4 x5 x6 Y W Z harg7 harg9 P i _ e he _ fun Z1 => ?_
    exact part3 _ _ Z1 (by unfold leavesH; rw [if_pos h1, if_neg h2]) (by unfold leavesW; rw [if_pos h1, if_neg h2])
  · rw [dif_neg h1, dif_pos h2]
    refine branchK_run c arg4 arg5 arg6 arg7 arg8 arg9 q T x4 x5 x6 Y W Z harg7 harg9 P i _ e he _ fun Z1 => ?_
    exact part3 _ _ Z1 (by unfold leavesH; rw [if_neg h1, if_pos h2]) (by unfold leavesW; rw [if_neg h1, if_pos h2])
  · rw [dif_neg h1, dif_neg h2]
    exact part3 _ _ Z (by unfold leavesH; rw [if_neg h1, if_neg h2]) (by unfold leavesW; rw [if_neg h1, if_neg h2])

/-- THE BODY: from the staged inputs, the tables, and anything in the staged blocks of the results and in the scratch
    buffer, it runs to `leavesH` and `leavesW` there and everything else as it was. -/
theorem clean_run (P : sProp 𝕄) (i : grid0.Coords) (T1 : S96.Idx → Elt F .i32) {Q : PUnit.{1} → sProp 𝕄} (e v : BitVec 32) (hc : k0_chk1 v)
    (he : T ((Rect.unit (s := S96) (k0_off1 i) S1.size (k0_off1_inb i)).emb (Shape.Idx.first (numel1_S1.symm ▸ Nat.one_pos))) = e)
    (hv : T1 ((Rect.unit (s := S96) (k0_off1 i) S1.size (k0_off1_inb i)).emb (Shape.Idx.first (numel1_S1.symm ▸ Nat.one_pos))) = v)
    (h : ∀ Z', St c arg4 arg5 arg6 arg7 arg8 arg9 q T x4 x5 x6 (leavesH v hc x4 x5 x6 Y) (leavesW v hc x4 e W) Z' iprop((((c : Thread nD τ).loc main_arg1) ↦{q} T1) ∗ P) ⊢ Q ⟨⟩) :
    iprop((((c : Thread nD τ).loc main_arg1) ↦{q} T1) ∗ St c arg4 arg5 arg6 arg7 arg8 arg9 q T x4 x5 x6 Y W Z P)
      ⊢ wp frame (wpE (defs₀ (F := F)) Variants.none c none) Set.univ
          (clean (F := F) i (Memref.whole main_arg1) (Memref.whole main_arg0) arg4 arg5 arg6 arg7 harg7 arg8 arg9 harg9) Q := by
  unfold clean
  refine word_run1 c q T1 _ i v hv (fun v => atWord i (Memref.whole main_arg0) arg4 arg5 arg6 arg7 harg7 arg8 arg9 harg9 v) _ ?_
  show _ ⊢ wp frame (wpE (defs₀ (F := F)) Variants.none c none) Set.univ (atWord i (Memref.whole main_arg0) arg4 arg5 arg6 arg7 harg7 arg8 arg9 harg9 v) Q
  unfold atWord
  refine .trans ?_ (wp_assume (Val := Elt F) Variants.none (c : Thread nD τ) none Set.univ (Q := Q) hc)
  have a : iprop((((c : Thread nD τ).loc main_arg1) ↦{q} T1) ∗ St c arg4 arg5 arg6 arg7 arg8 arg9 q T x4 x5 x6 Y W Z P)
      ⊢ St c arg4 arg5 arg6 arg7 arg8 arg9 q T x4 x5 x6 Y W Z iprop((((c : Thread nD τ).loc main_arg1) ↦{q} T1) ∗ P) := by
    unfold St
    iintro ⟨HT1, HT, H4, H5, H6, H7, H8, H9, HP⟩
    isplitl [HT]; · iexact HT
    isplitl [H4]; · iexact H4
    isplitl [H5]; · iexact H5
    isplitl [H6]; · iexact H6
    isplitl [H7]; · iexact H7
    isplitl [H8]; · iexact H8
    isplitl [H9]; · iexact H9
    isplitl [HT1]; · iexact HT1
    iexact HP
  exact a.trans (branches_run c arg4 arg5 arg6 arg7 arg8 arg9 q T x4 x5 x6 Y W Z harg7 harg9 _ i e he v hc h)

end Runs

end Cert.GateUpIdeal.Up

end
-- ==== Proof.UpTables.lean ====
/- The tables of the gate and up projections: which blocks the launch names.

   The index maps read the prefetched tables.  `Good`: every expert is one of the 32, and there is at least one
   tile.  Then each index map is a plain function of the grid point, and every block lies inside its array (`ok0_of_good`). -/
module

public import proofs.«01_k».proof.Proof.UpBodyRun
public import proofs.«01_k».proof.Proof.Gen.GateUpIdeal.Launch
public import Idealize.ShloMosaic.Lib.Affine

@[expose] public section

noncomputable section

namespace Cert.GateUpIdeal.Up

open Cert.GateUpIdeal
open Idealize.ShloMosaic Idealize.ShloMosaic.TcCoe
open Facts₀ Facts

variable {F : FTy → Type} [FloatOps F] [Facts]

/-- Tile `t` as an index of a table. -/
def tileIx (t : Fin 96) : S96.Idx := fun a => ⟨t.val, by
  obtain rfl : a = (0 : Fin 1) := Subsingleton.elim (α := Fin 1) _ _
  exact t.isLt⟩
/-- The index of the one word of the last table. -/
def oneIx : S1.Idx := fun a => ⟨0, by
  obtain rfl : a = (0 : Fin 1) := Subsingleton.elim (α := Fin 1) _ _
  exact Nat.one_pos⟩

/-- The expert of tile `t`. -/
def expertAt (pf : pre0.Contents (Elt F)) (t : Fin 96) : BitVec 32 := (pf 0 : S96.Idx → BitVec 32) (tileIx t)
/-- The number of valid rows of tile `t`. -/
def validAt (pf : pre0.Contents (Elt F)) (t : Fin 96) : BitVec 32 := (pf 1 : S96.Idx → BitVec 32) (tileIx t)
/-- The number of tiles that hold rows. -/
def tiles (pf : pre0.Contents (Elt F)) : BitVec 32 := (pf 2 : S1.Idx → BitVec 32) oneIx

/-- The tables name existing experts and at least one tile. -/
structure Good (pf : pre0.Contents (Elt F)) : Prop where
  expert : ∀ t, (expertAt pf t).toNat < 32
  tiles : (1 : Int) ≤ (tiles pf).toInt

/-- The block of rows tile `t` reads and writes: itself, but the tiles after the last one stay at the last. -/
def blockOf (pf : pre0.Contents (Elt F)) (t : Fin 96) : ℕ := min t.val ((tiles pf).toNat - 1)

theorem blockOf_lt (pf : pre0.Contents (Elt F)) (t : Fin 96) : blockOf pf t < 96 :=
  lt_of_le_of_lt (Nat.min_le_left _ _) t.isLt

theorem emb_tile (i : grid0.Coords) :
    (Rect.unit (s := S96) (k0_off1 i) S1.size (k0_off1_inb i)).emb (Shape.Idx.first (numel1_S1.symm ▸ Nat.one_pos)) = tileIx (i 0) := by
  funext a
  obtain rfl : a = (0 : Fin 1) := Subsingleton.elim (α := Fin 1) _ _
  apply Fin.ext
  have h : (k0_off1 i) 0 = (i 0).val := by rw [Gen.k0_off1_eq]; rfl
  show (k0_off1 i) 0 + 0 * 1 = (i 0).val
  omega

theorem at0 (pf : pre0.Contents (Elt F)) (i : grid0.Coords) :
    pf.at 0 (Rect.unit (s := S96) (k0_off1 i) S1.size (k0_off1_inb i)) numel1_S1 = expertAt pf (i 0) :=
  congrArg (pf 0 : S96.Idx → BitVec 32) (emb_tile i)

theorem at2 (pf : pre0.Contents (Elt F)) :
    pf.at 2 (Rect.unit (s := S1) ![0] S1.size inb_S1_S1_0) numel1_S1 = tiles pf := by
  refine congrArg (pf 2 : S1.Idx → BitVec 32) ?_
  funext a
  obtain rfl : a = (0 : Fin 1) := Subsingleton.elim (α := Fin 1) _ _
  exact Subsingleton.elim (α := Fin 1) _ _

/-- The smaller of the tile and the last tile, as the signed words compute it. -/
theorem minsi_toNat (t : Fin 96) (n : BitVec 32) (hn : (1 : Int) ≤ n.toInt) :
    (Scalar.minsi (BitVec.ofNat 32 t.val) (Scalar.subi n 1#32)).toNat = min t.val (n.toNat - 1) := by
  have ht := t.isLt
  have h1 : n.toNat < 2 ^ 31 := by
    rw [BitVec.toInt_eq_toNat_cond] at hn
    split at hn <;> omega
  have h2 : 1 ≤ n.toNat := by
    rw [BitVec.toInt_eq_toNat_cond] at hn
    split at hn <;> omega
  have h3 : (n - 1#32).toNat = n.toNat - 1 := by
    rw [BitVec.toNat_sub]; simp; omega
  unfold Scalar.minsi Scalar.subi IntOp.minsi IntOp.subi
  have h4 : (BitVec.ofNat 32 t.val).slt (n - 1#32) = decide (t.val < n.toNat - 1) := by
    rw [BitVec.slt_eq_decide]
    congr 1
    rw [BitVec.toInt_eq_toNat_cond, BitVec.toInt_eq_toNat_cond, h3]
    simp only [BitVec.toNat_ofNat]
    rw [if_pos (by omega), if_pos (by omega)]
    apply propext; omega
  rw [h4]
  by_cases h : t.val < n.toNat - 1
  · simp only [h, decide_true, if_true, BitVec.toNat_ofNat]; omega
  · simp only [h, decide_false, Bool.false_eq_true, if_false, h3]; omega

theorem tr0 (pf : pre0.Contents (Elt F)) (g : Good pf) (i : grid0.Coords) :
    cc0_transform_0 inb_S1_S1_0 numel1_S1 pf i = ![blockOf pf (i 0), 0] := by
  show ![(Scalar.minsi (BitVec.ofNat 32 (i 0).val) (Scalar.subi (pf.at 2 (Rect.unit (s := S1) ![0] S1.size inb_S1_S1_0) numel1_S1) 1#32)).toNat, 0] = ![blockOf pf (i 0), 0]
  have e := minsi_toNat (i 0) _ g.tiles
  rw [← at2] at e
  unfold blockOf
  rw [e, at2]

theorem tr1 (pf : pre0.Contents (Elt F)) (i : grid0.Coords) :
    cc0_transform_1 k0_off1_inb numel1_S1 pf i = ![(expertAt pf (i 0)).toNat, 0, 0] := by
  rw [← at0 pf i]; rfl

theorem tr2 (pf : pre0.Contents (Elt F)) (i : grid0.Coords) :
    cc0_transform_2 k0_off1_inb numel1_S1 pf i = ![(expertAt pf (i 0)).toNat, 0, 0] := by
  rw [← at0 pf i]; rfl

theorem tr3 (pf : pre0.Contents (Elt F)) (g : Good pf) (i : grid0.Coords) :
    cc0_transform_3 inb_S1_S1_0 numel1_S1 pf i = ![blockOf pf (i 0), 0] := by
  show ![(Scalar.minsi (BitVec.ofNat 32 (i 0).val) (Scalar.subi (pf.at 2 (Rect.unit (s := S1) ![0] S1.size inb_S1_S1_0) numel1_S1) 1#32)).toNat, 0] = ![blockOf pf (i 0), 0]
  have e := minsi_toNat (i 0) _ g.tiles
  rw [← at2] at e
  unfold blockOf
  rw [e, at2]

theorem tr4 (pf : pre0.Contents (Elt F)) (g : Good pf) (i : grid0.Coords) :
    cc0_transform_4 inb_S1_S1_0 numel1_S1 pf i = ![blockOf pf (i 0), 0] := by
  show ![(Scalar.minsi (BitVec.ofNat 32 (i 0).val) (Scalar.subi (pf.at 2 (Rect.unit (s := S1) ![0] S1.size inb_S1_S1_0) numel1_S1) 1#32)).toNat, 0] = ![blockOf pf (i 0), 0]
  have e := minsi_toNat (i 0) _ g.tiles
  rw [← at2] at e
  unfold blockOf
  rw [e, at2]

/-- The launch's side condition holds of good tables. -/
theorem ok0_of_good (pf : pre0.Contents (Elt F)) (g : Good pf) : ok0 pf := by
  have hb := fun i : grid0.Coords => blockOf_lt pf (i 0)
  have he := fun i : grid0.Coords => g.expert (i 0)
  refine ⟨fun i => ⟨?_, .inl rfl⟩, fun i => ⟨?_, .inr ?_⟩, fun i => ⟨?_, .inl rfl⟩, fun i => ⟨?_, .inr ?_⟩,
    fun i => ⟨?_, .inl rfl⟩⟩
  · rw [tr0 pf g i]; intro a; have := hb i
    fin_cases a
    · show (blockOf pf (i 0) + 1) * 512 ≤ 49152; omega
    · show (0 + 1) * 2176 ≤ 2176; omega
  · rw [tr1 pf i]; intro a; have := he i
    fin_cases a
    · show ((expertAt pf (i 0)).toNat + 1) * 1 ≤ 32; omega
    · show (0 + 1) * 4096 ≤ 4096; omega
    · show (0 + 1) * 2816 ≤ 2816; omega
  · exact Affine.block_words_dvd (s := S32x4096x2816) (p := EltTy.packing .fp8e4m3) (by decide) (by decide)
  · rw [tr2 pf i]; intro a; have := he i
    fin_cases a
    · show ((expertAt pf (i 0)).toNat + 1) * 1 ≤ 32; omega
    · show (0 + 1) * 32 ≤ 32; omega
    · show (0 + 1) * 22 ≤ 22; omega
  · rw [tr3 pf g i]; intro a; have := hb i
    fin_cases a
    · show (blockOf pf (i 0) + 1) * 512 ≤ 49152; omega
    · show (0 + 1) * 1408 ≤ 1408; omega
  · exact Affine.block_words_dvd (s := S49152x1408) (p := EltTy.packing .bf16) (by decide) (by decide)
  · rw [tr4 pf g i]; intro a; have := hb i
    fin_cases a
    · show (blockOf pf (i 0) + 1) * 512 ≤ 49152; omega
    · show (0 + 1) * 128 ≤ 128; omega

end Cert.GateUpIdeal.Up

end
-- ==== Proof.UpRun.lean ====
/- The launch of the gate and up projections: what the buffers may hold when it has ended.

   `rdat`: the pipeline's data, each input block kept, the results' blocks changed from `Y` to `leavesH … Y` and
   `leavesW … Y`; `body_obligation`: the body does that, the scratch buffer left at some contents; `run`: the whole launch. -/
module

public import proofs.«01_k».proof.Proof.UpTables
public import Idealize.ShloMosaic.Lib.Pipeline.Quiescent
public import Idealize.ShloMosaic.Lib.Pipeline.FrameBody
public import Idealize.ShloMosaic.Lib.Claim
public import Idealize.ShloMosaic.Lib.Ring
public import Idealize.ShloMosaic.Lib.Tactic
public import Idealize.ShloMosaic.Adequacy
public import Idealize.ShloMosaic.Init

@[expose] public section

noncomputable section

namespace Cert.GateUpIdeal.Up

open Cert.GateUpIdeal Cert.GateUpIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as launched. -/
def pf : pre0.Contents (Elt F) := fun k => m (((0 : Dev nD).tc : Thread nD τ).loc (pre0.ref k))

variable (g : Good (pf m))

/-- The tables as the launch takes them. -/
abbrev adm : (p : Fin 1) → (pcfgs (F := F) p).Adm := fun _ => ⟨pf m, ok0_of_good _ g⟩
/-- The pipeline at these tables. -/
abbrev cfgA : Pipeline.Cfg sig Λ₀ := Pipeline.pin (pcfgs (F := F)) (adm m g) 0

/-- The tile of point `t`. -/
def tile (t : Fin (cfgA m g).N) : Fin 96 := ((cfgA m g).grid.coords t) 0

/-- Window `w`'s block at point `t`. -/
def iblk (c : Dev nD) (w : Fin 5) (t : Fin (cfgA m g).N) : ((cfgA m g).win w).block.Idx → Elt F ((cfgA m g).win w).elt :=
  (((cfgA m g).win w).blk t).view.read (Elt F) (m (((cfgA m g).win w).arr.view.loc (c : Thread nD τ)))

/-- What the body leaves in the hidden block at point `t`, given what it finds there. -/
def leftH (c : Dev nD) (t : Fin (cfgA m g).N) (Y : S512x1408.Idx → Elt F .bf16) : S512x1408.Idx → Elt F .bf16 :=
  leavesH (validAt (pf m) (tile m g t)) (Gen.k0_chk1_all _) (iblk m g c 0 t) (iblk m g c 1 t) (iblk m g c 2 t) Y
/-- What the body leaves in the row weights' block at point `t`, given what it finds there. -/
def leftW (c : Dev nD) (t : Fin (cfgA m g).N) (W : S512x128.Idx → Elt F .f32) : S512x128.Idx → Elt F .f32 :=
  leavesW (validAt (pf m) (tile m g t)) (Gen.k0_chk1_all _) (iblk m g c 0 t) (expertAt (pf m) (tile m g t)) W

/-- The pipeline's data. -/
def rdat (c : Dev nD) : RDat τ (Elt F) Unit ℕ (UR sig nD τ) ℕ (cfgA m g) c where
  A w := m ((c : Thread nD τ).loc (Pipeline.arrRef spec0 w))
  after w t Y X := match w, Y, X with
    | ⟨0, _⟩, Y, X => X = Y
    | ⟨1, _⟩, Y, X => X = Y
    | ⟨2, _⟩, Y, X => X = Y
    | ⟨3, _⟩, Y, X => X = leftH m g c t Y
    | ⟨4, _⟩, Y, X => X = leftW m g c t Y
  Φ _ := iprop(Pipeline.ΦA spec0 c ∗ Pipeline.ΦT pre0 (pf m) c)
  q _ := fullShare
  owed _ := 0

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- An input's staged block is the array's block. -/
theorem finds_in (c : Dev nD) (t : Fin (cfgA m g).N) (w : Fin 5) (hw : w.val < 3) (Y) (h : (rdat m g c).Finds w t Y) :
    Y = iblk m g c w t := by
  match w, hw, Y, h with
  | ⟨0, _⟩, _, Y, h =>
    obtain ⟨d, hd⟩ := (rdat m g c).finds_in_eq_fetched (0 : Fin 5) rfl (fun _ _ _ => rfl) (fun _ _ _ h => h) t Y h
    exact hd.trans rfl
  | ⟨1, _⟩, _, Y, h =>
    obtain ⟨d, hd⟩ := (rdat m g c).finds_in_eq_fetched (1 : Fin 5) rfl (fun _ _ _ => rfl) (fun _ _ _ h => h) t Y h
    exact hd.trans rfl
  | ⟨2, _⟩, _, Y, h =>
    obtain ⟨d, hd⟩ := (rdat m g c).finds_in_eq_fetched (2 : Fin 5) rfl (fun _ _ _ => rfl) (fun _ _ _ h => h) t Y h
    exact hd.trans rfl
  | ⟨3, _⟩, hw, Y, h => exact absurd hw (by simp)
  | ⟨4, _⟩, hw, Y, h => exact absurd hw (by simp)

/-- The body at point `t`, as the table of bodies names it. -/
def bodyAt (t : Fin (cfgA m g).N) : Prog (TpuEff nD τ sig (Elt F) Λ₀ .tc) PUnit :=
  cc0_gate_up ((cfgA m g).grid.coords t) (Memref.whole main_arg0) (Memref.isWhole_whole _) (Memref.whole main_arg1) (Memref.isWhole_whole _)
    (Memref.whole main_arg2) (Memref.isWhole_whole _)
    (spec0_0.stage ((cfgA m g).slots t (0 : Fin 5))) (hstage0_0 (((cfgA m g).slots t (0 : Fin 5)).cast nbuf0_0))
    (spec0_1.stage ((cfgA m g).slots t (1 : Fin 5))) (hstage0_1 (((cfgA m g).slots t (1 : Fin 5)).cast nbuf0_1))
    (spec0_2.stage ((cfgA m g).slots t (2 : Fin 5))) (hstage0_2 (((cfgA m g).slots t (2 : Fin 5)).cast nbuf0_2))
    (spec0_3.stage ((cfgA m g).slots t (3 : Fin 5))) (hstage0_3 (((cfgA m g).slots t (3 : Fin 5)).cast nbuf0_3))
    (spec0_4.stage ((cfgA m g).slots t (4 : Fin 5))) (hstage0_4 (((cfgA m g).slots t (4 : Fin 5)).cast nbuf0_4))
    (Memref.whole cc0_scratch0) (Memref.isWhole_whole _)

theorem defs₀_row (t : Fin (cfgA m g).N) :
    defs₀ (F := F) .tc (cfgA m g).body ((cfgA m g).bodyArgs t ((cfgA m g).slots t)) = bodyAt m g t := by
  unfold defs₀; rw [Defs.onTc_tc]; rfl

theorem sound_body (c : Dev nD) (t : Fin (cfgA m g).N)
    (Y : (w : Fin 5) → ((cfgA m g).win w).block.Idx → Elt F ((cfgA m g).win w).elt)
    (h0 : Y 0 = iblk m g c 0 t) (h1 : Y 1 = iblk m g c 1 t) (h2 : Y 2 = iblk m g c 2 t) (R : sProp 𝕄) :
    iprop((Pipeline.ΦA spec0 c ∗ Pipeline.ΦT pre0 (pf m) c) ∗ R
        ∗ owns (c : Thread nD τ) (spec0_0.stage ((cfgA m g).slots t (0 : Fin 5))) fullShare (Y 0)
        ∗ owns (c : Thread nD τ) (spec0_1.stage ((cfgA m g).slots t (1 : Fin 5))) fullShare (Y 1)
        ∗ owns (c : Thread nD τ) (spec0_2.stage ((cfgA m g).slots t (2 : Fin 5))) fullShare (Y 2)
        ∗ owns (c : Thread nD τ) (spec0_3.stage ((cfgA m g).slots t (3 : Fin 5))) fullShare (Y 3)
        ∗ owns (c : Thread nD τ) (spec0_4.stage ((cfgA m g).slots t (4 : Fin 5))) fullShare (Y 4))
      ⊢ wp frame (wpE (defs₀ (F := F)) Variants.none c none) Set.univ (bodyAt m g t) (fun _ =>
        iprop((Pipeline.ΦA spec0 c ∗ Pipeline.ΦT pre0 (pf m) c) ∗ R
        ∗ owns (c : Thread nD τ) (spec0_0.stage ((cfgA m g).slots t (0 : Fin 5))) fullShare (Y 0)
        ∗ owns (c : Thread nD τ) (spec0_1.stage ((cfgA m g).slots t (1 : Fin 5))) fullShare (Y 1)
        ∗ owns (c : Thread nD τ) (spec0_2.stage ((cfgA m g).slots t (2 : Fin 5))) fullShare (Y 2)
        ∗ owns (c : Thread nD τ) (spec0_3.stage ((cfgA m g).slots t (3 : Fin 5))) fullShare (leftH m g c t (Y 3))
        ∗ owns (c : Thread nD τ) (spec0_4.stage ((cfgA m g).slots t (4 : Fin 5))) fullShare (leftW m g c t (Y 4)))) := by
  unfold bodyAt leftH leftW Pipeline.ΦT Pipeline.ΦA
  rw [cc0_gate_up_eq, h0, h1, h2, prefHeld_eq, Gen.scopedRest0_eq]
  iintro ⟨⟨⟨⟨%Z, HZ⟩, HG⟩, T0, T1, T2⟩, HR, H0, H1, H2, H3, H4⟩
  have run := fun Q hQ => clean_run (F := F) c (spec0_0.stage ((cfgA m g).slots t (0 : Fin 5))) (spec0_1.stage ((cfgA m g).slots t (1 : Fin 5)))
    (spec0_2.stage ((cfgA m g).slots t (2 : Fin 5))) (spec0_3.stage ((cfgA m g).slots t (3 : Fin 5))) (spec0_4.stage ((cfgA m g).slots t (4 : Fin 5)))
    (Memref.whole cc0_scratch0) fullShare.right (pf m 0) (iblk m g c 0 t) (iblk m g c 1 t) (iblk m g c 2 t) (Y 3) (Y 4) Z
    (hstage0_3 (((cfgA m g).slots t (3 : Fin 5)).cast nbuf0_3)) (Memref.isWhole_whole _)
    (iprop((∃ r, prngReg c r) ∗ R ∗ (((c : Thread nD τ).loc main_arg2) ↦{fullShare.right} pf m 2)))
    ((cfgA m g).grid.coords t) (pf m 1)
    (Q := Q) (expertAt (pf m) (tile m g t)) (validAt (pf m) (tile m g t)) (Gen.k0_chk1_all _)
    (congrArg (pf m 0 : S96.Idx → BitVec 32) (emb_tile ((cfgA m g).grid.coords t)))
    (congrArg (pf m 1 : S96.Idx → BitVec 32) (emb_tile ((cfgA m g).grid.coords t))) hQ
  iapply (run _ ?_)
  rotate_left
  · unfold St
    isplitl [T1]; · iexact T1
    isplitl [T0]; · iexact T0
    isplitl [H0]; · iexact H0
    isplitl [H1]; · iexact H1
    isplitl [H2]; · iexact H2
    isplitl [H3]; · iexact H3
    isplitl [H4]; · iexact H4
    isplitl [HZ]
    · rw [owns_whole]; iexact HZ
    isplitl [HG]; · iexact HG
    isplitl [HR]; · iexact HR
    iexact T2
  · intro Z'
    unfold St
    rw [owns_whole]
    iintro ⟨T0, H0, H1, H2, H3, H4, HZ, T1, HG, HR, T2⟩
    isplitl [HZ HG T0 T1 T2]
    · isplitl [HZ HG]
      · isplitl [HZ]
        · iexists Z'; iexact HZ
        iexact HG
      isplitl [T0]; · iexact T0
      isplitl [T1]; · iexact T1
      iexact T2
    isplitl [HR]; · iexact HR
    isplitl [H0]; · iexact H0
    isplitl [H1]; · iexact H1
    isplitl [H2]; · iexact H2
    isplitl [H3]; · iexact H3
    iexact H4

theorem body_obligation (c : Dev nD) : (rdat m g c).BodyObligation (defs₀ (F := F)) Variants.none () Set.univ := fun t Y hY => by
  rw [bigSep_W0, bigSep_W0, defs₀_row]
  refine triple_restated (sound_body m g c t Y (finds_in m g c t 0 (by decide) _ (hY 0)) (finds_in m g c t 1 (by decide) _ (hY 1))
    (finds_in m g c t 2 (by decide) _ (hY 2)) ((rdat m g c).owesAt () t.castSucc))
    rfl .rfl fun _ => ?_
  rw [show (rdat m g c).Φ t.succ = iprop(Pipeline.ΦA spec0 c ∗ Pipeline.ΦT pre0 (pf m) c) from rfl,
    show (rdat m g c).owesAt () t.succ = (rdat m g c).owesAt () t.castSucc from rfl]
  iintro ⟨HΦ, Ho, H0, H1, H2, H3, H4⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  isplitl [H3]
  · iexists (leftH m g c t (Y 3)); isplitr; · ipureintro; rfl
    iexact H3
  iexists (leftW m g c t (Y 4)); isplitr; · ipureintro; rfl
  iexact H4

/-- The contents at launch. -/
abbrev V0 (c : Dev nD) (b : Ref sig .tc) : Buf (Elt F) ((c : Thread nD τ).loc b) := m ((c : Thread nD τ).loc b)

set_option backward.isDefEq.respectTransparency.types false in
/-- The whole launch: it ends, every semaphore at zero, the arrays at contents the data allow, everything else as launched. -/
theorem run : θ_run defs (onTc (τ := τ) (main (F := F))) (s₀ m ρ)
    (fun r => RDat.FramePost (cfgA m g) (fun c => rdat m g c) (V0 m) r ∧ r.2.sem = fun _ => 0) :=
  RDat.θ_run_frameP (Q' := _) (pcfgs (F := F)) (adm m g) (0 : Fin 1) launch0 defs₀ Variants.none (fun c => rdat m g c) m ρ main
    (hbody := fun c => body_obligation m g c)
    (hshare := fun c w => by unfold RDat.share; split <;> rfl) (howed := fun _ _ => rfl)
    (V := V0 m) (hmain := Pipeline.hmainP_region _ _ _ _ m main fun c => by
      delta main; simp only [Prog.bind_lift, Prog.pure_eq_ret])
    (hA := fun _ _ => rfl) (hpf := fun c k => by obtain rfl : c = 0 := Subsingleton.elim (α := Fin 1) _ _; rfl) (hΦ := fun _ _ => rfl)

include g in
/-- The frame: every argument ends as launched, every semaphore at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
    (h.1 c).2 main_arg0 (Pipeline.mem_restRefs_of main_arg0 (by decide) (by exact (by decide : ∀ w, Pipeline.arrRef spec0 w ≠ main_arg0))),
    (h.1 c).2 main_arg1 (Pipeline.mem_restRefs_of main_arg1 (by decide) (by exact (by decide : ∀ w, Pipeline.arrRef spec0 w ≠ main_arg1))),
    (h.1 c).2 main_arg2 (Pipeline.mem_restRefs_of main_arg2 (by decide) (by exact (by decide : ∀ w, Pipeline.arrRef spec0 w ≠ main_arg2))),
    RDat.FramePost.arr_in h.1 c (0 : Fin 5) rfl, RDat.FramePost.arr_in h.1 c (1 : Fin 5) rfl,
    RDat.FramePost.arr_in h.1 c (2 : Fin 5) rfl⟩, h.2⟩) (run m ρ g)

end Cert.GateUpIdeal.Up

end
-- ==== Proof.UpPre.lean ====
/- The precondition and the masks of the gate and up projections, read.

   The precondition says the tables are good (`good_of_pre`) and that a tile with valid rows is below the count of
   tiles (`used_of_pre`).  The masks at row `p`: the first row of its piece of 128 is below the tile's valid rows (`held_of_maskH`, `held_of_maskW`). -/
module

public import proofs.«01_k».proof.Pre_tables_ok_gate_up
public import proofs.«01_k».proof.On_rows_held_gate_up
public import proofs.«01_k».proof.Proof.UpTables
public import Idealize.ShloMosaic.Lib.ValueIdxCore
public import Idealize.ShloMosaic.Lib.Pipeline.Value

@[expose] public section

noncomputable section

namespace Cert.GateUpIdeal.Up

open Cert.GateUpIdeal
open Idealize.ShloMosaic Idealize.ShloMosaic.TcCoe Idealize.ShloMosaic.ValueIdx

variable {F : FTy → Type} [FloatOps F]

/-- The shape facts of the precondition. -/
instance preFacts : Cert.Pre_tables_ok_gate_up.Facts where
  bcast_S_S96 := by decide
  bcast_S_S1 := by decide
  bcast_S1_S96_0 := by decide

/-- The shape facts of the mask. -/
instance onFacts : Cert.On_rows_held_gate_up.Facts where
  bcast_S_S96x4x128x1408 := by decide
  bcast_S96_S96x4x128x1408_0 := by decide
  bcast_S_S96x4x128x128 := by decide
  bcast_S96_S96x4x128x128_0 := by decide
  shapeCasts_S96x4x128x1408_S49152x1408 := by decide
  shapeCasts_S96x4x128x128_S49152x128 := by decide

variable (e v : IVec S96 32) (n : IVec S1 32) (x : IVec S49152x2176 32)
  (w : FVec F S32x4096x2816 .fp8e4m3) (s : FVec F S32x32x22 .f32)

theorem expert_of_pre (hp : (Cert.Pre_tables_ok_gate_up.fn e v n x w s).1 = fun _ => 1#1) (i : S96.Idx) : (e i).toNat < 32 := by
  have h1 := congrFun hp i
  have h2 : IntOp.andi (IntOp.cmpi .sge (e i) 0#32) (IntOp.cmpi .sle (e i) 31#32) = 1#1 := h1
  rw [IntOp.andi_eq_one, IntOp.cmpi_sge, IntOp.cmpi_sle] at h2
  obtain ⟨a, b⟩ := h2
  rw [BitVec.toInt_eq_toNat_cond, BitVec.toInt_eq_toNat_cond] at a b
  simp at a b
  split at a <;> split at b <;> omega

theorem tiles_of_pre (hp : (Cert.Pre_tables_ok_gate_up.fn e v n x w s).2.1 = fun _ => 1#1) (i : S1.Idx) : (1 : Int) ≤ (n i).toInt := by
  have h1 := congrFun hp i
  have h2 : IntOp.cmpi .sge (n i) 1#32 = 1#1 := h1
  rw [IntOp.cmpi_sge] at h2
  simpa using h2

theorem used_of_pre (hp : (Cert.Pre_tables_ok_gate_up.fn e v n x w s).2.2 = fun _ => 1#1) (t : Fin 96) :
    (v (tileIx t)).toInt ≤ 0 ∨ (t.val : Int) < (n oneIx).toInt := by
  have h1 := congrFun hp (tileIx t)
  have h2 : IntOp.ori (IntOp.cmpi .sle (v (tileIx t)) 0#32) (IntOp.cmpi .slt (BitVec.ofNat 32 t.val) (n oneIx)) = 1#1 := by
    refine Eq.trans ?_ h1
    refine congrArg (fun z => IntOp.ori (IntOp.cmpi .sle (v (tileIx t)) 0#32) (IntOp.cmpi .slt (BitVec.ofNat 32 t.val) (n z))) ?_
    funext a
    obtain rfl : a = (0 : Fin 1) := Subsingleton.elim (α := Fin 1) _ _
    exact Subsingleton.elim (α := Fin 1) _ _
  rw [IntOp.ori_eq_one, IntOp.cmpi_sle, IntOp.cmpi_slt] at h2
  have h3 : (BitVec.ofNat 32 t.val).toInt = t.val := by
    have := t.isLt
    rw [BitVec.toInt_eq_toNat_cond]; simp; omega
  rw [h3] at h2
  simpa using h2

theorem word_mul (q : ℕ) (hq : q < 4) : (IntOp.muli (BitVec.ofNat 32 q) 128#32).toInt = (128 * (q : ℕ) : Int) := by
  interval_cases q <;> decide

/-- The mask of the hidden values: the first row of the row's group of 128 is below the tile's valid rows. -/
theorem held_of_maskH (i : (⟨2, ![49152, 1408]⟩ : Shape).Idx) (hi : (Cert.On_rows_held_gate_up.fn e v n x w s).1 i = 1#1)
    (t : Fin 96) (r : ℕ) (hr : r < 512) (hp : (i 0).val = 512 * t.val + r) :
    (128 * (r / 128 : ℕ) : Int) < (v (tileIx t)).toInt := by
  have h1 : (i 1).val < 1408 := (i 1).isLt
  have ht := t.isLt
  unfold Cert.On_rows_held_gate_up.fn at hi
  dsimp only at hi
  rw [shapeCast_apply _ _ i (ix4 t ⟨r / 128, by omega⟩ ⟨r % 128, by omega⟩ ⟨(i 1).val, h1⟩) (by
    rw [Shape.rowMajor_val_four, Shape.rowMajor_val_two]
    show ((t.val * 4 + r / 128) * 128 + r % 128) * 1408 + (i 1).val = (i 0).val * 1408 + (i 1).val
    rw [hp]; omega)] at hi
  have h3 : IntOp.cmpi .slt (IntOp.muli (BitVec.ofNat 32 (r / 128)) 128#32) (v (tileIx t)) = 1#1 := by
    refine Eq.trans ?_ hi
    refine congrArg (fun z => IntOp.cmpi .slt (IntOp.muli (BitVec.ofNat 32 (r / 128)) 128#32) (v z)) ?_
    funext a
    obtain rfl : a = (0 : Fin 1) := Subsingleton.elim (α := Fin 1) _ _
    rfl
  rw [IntOp.cmpi_slt] at h3
  have h4 : (IntOp.muli (BitVec.ofNat 32 (r / 128)) 128#32).toInt = (128 * (r / 128 : ℕ) : Int) := by
    exact word_mul (r / 128) (by omega)
  rwa [h4] at h3

/-- The mask of the row weights: the first row of the row's group of 128 is below the tile's valid rows. -/
theorem held_of_maskW (i : (⟨2, ![49152, 128]⟩ : Shape).Idx) (hi : (Cert.On_rows_held_gate_up.fn e v n x w s).2 i = 1#1)
    (t : Fin 96) (r : ℕ) (hr : r < 512) (hp : (i 0).val = 512 * t.val + r) :
    (128 * (r / 128 : ℕ) : Int) < (v (tileIx t)).toInt := by
  have h1 : (i 1).val < 128 := (i 1).isLt
  have ht := t.isLt
  unfold Cert.On_rows_held_gate_up.fn at hi
  dsimp only at hi
  rw [shapeCast_apply _ _ i (ix4 t ⟨r / 128, by omega⟩ ⟨r % 128, by omega⟩ ⟨(i 1).val, h1⟩) (by
    rw [Shape.rowMajor_val_four, Shape.rowMajor_val_two]
    show ((t.val * 4 + r / 128) * 128 + r % 128) * 128 + (i 1).val = (i 0).val * 128 + (i 1).val
    rw [hp]; omega)] at hi
  have h3 : IntOp.cmpi .slt (IntOp.muli (BitVec.ofNat 32 (r / 128)) 128#32) (v (tileIx t)) = 1#1 := by
    refine Eq.trans ?_ hi
    refine congrArg (fun z => IntOp.cmpi .slt (IntOp.muli (BitVec.ofNat 32 (r / 128)) 128#32) (v z)) ?_
    funext a
    obtain rfl : a = (0 : Fin 1) := Subsingleton.elim (α := Fin 1) _ _
    rfl
  rw [IntOp.cmpi_slt] at h3
  have h4 : (IntOp.muli (BitVec.ofNat 32 (r / 128)) 128#32).toInt = (128 * (r / 128 : ℕ) : Int) := by
    exact word_mul (r / 128) (by omega)
  rwa [h4] at h3

end Cert.GateUpIdeal.Up

end
-- ==== Proof.UpFrame.lean ====
/- The frame of the compiled gate and up projections.

   The idealized program is the compiled one's own text: what `frame` says of it at the machine's floats is what the
   claim says of the compiled program. -/
module

public import proofs.«01_k».proof.Proof.UpRun
public import proofs.«01_k».proof.Proof.UpPre
public import proofs.«01_k».proof.Defs
public import proofs.«01_k».proof.Proof.Gen.GateUp

@[expose] public section

noncomputable section

namespace Cert.GateUpIdeal.Up

open Cert.GateUpIdeal
open Idealize.ShloMosaic Idealize.ShloMosaic.TcCoe
open Idealize.SL.Sem

variable {F : FTy → Type} [FloatOps F]

/-- The arguments' precondition at any floats. -/
abbrev PreAt (m : (ℓ : Loc nD τ sig) → Buf (Elt F) ℓ) : Prop := ∀ c : Dev nD,
  (Cert.Pre_tables_ok_gate_up.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1)
  ∧ (Cert.Pre_tables_ok_gate_up.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2.1 = (fun _ => 1#1)
  ∧ (Cert.Pre_tables_ok_gate_up.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2.2 = (fun _ => 1#1)

/-- Under the precondition the tables are good. -/
theorem good_of_pre (m : (ℓ : Loc nD τ sig) → Buf (Elt F) ℓ) (h : PreAt m) : Good (pf m) where
  expert t := expert_of_pre _ _ _ _ _ _ (h 0).1 (tileIx t)
  tiles := tiles_of_pre _ _ _ _ _ _ (h 0).2.1 oneIx

/-- The frame claim at any floats, under the precondition. -/
def FrameAt (F : FTy → Type) [FloatOps F] : Prop :=
  ∀ (m : (ℓ : Loc nD τ sig) → Buf (Elt F) ℓ) (g : Dev nD → PrngReg), PreAt m →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frameAt : FrameAt F := fun m g h => frame m g (good_of_pre m h)

/-- The idealized program's frame. -/
theorem quiescent_ideal : Cert.quiescent_GateUpIdeal := frameAt (F := Ideal)

/-- The two programs are one text: the compiled program's frame claim is the idealized program's at the machine's floats. -/
theorem quiescent_eq : Cert.quiescent_GateUp = FrameAt Bits := by sl_kernel_rfl

/-- The compiled program's frame. -/
theorem quiescent_compiled : Cert.quiescent_GateUp := by rw [quiescent_eq]; exact frameAt

end Cert.GateUpIdeal.Up

end
-- ==== Proof.Quant.lean ====
/- The quantiser of the hidden values over the extended reals, apart from any program.

   A group of 128 values has the peak `t` (its largest magnitude times the constant nearest to 1/448) and the scale
   `scaleOf t`: the least power of two above `t` among `2^-126 … 2^120` (1 at `t = 0`).  `count` is how many of
   `2^-126 … 2^119` are not above `t`; `pow_bits` reads a power of two off its bits; `words` are the kernel's words for the
   scale and one over it; `least_above` is the reference's minimum; `div_scale` is one over the scale.  `unpack` reads a
   half of a packed word, put in the high half of a word, as the bf16 number it is. -/
module

public import Idealize.ShloMosaic.Lib.IdealHost
public import Idealize.ShloMosaic.Lib.WordCmp

@[expose] public section

noncomputable section

namespace Cert.Quant

open Idealize.ShloMosaic

/-- The powers of two from `2^-126` on. -/
def pow2 (j : ℕ) : EReal := (((2 : ℝ) ^ ((j : ℤ) - 126) : ℝ) : EReal)

theorem pow2_le {i j : ℕ} (h : i ≤ j) : pow2 i ≤ pow2 j := by
  unfold pow2
  rw [EReal.coe_le_coe_iff]
  exact zpow_le_zpow_right₀ (by norm_num) (by omega)

theorem pow2_one : pow2 126 = 1 := by
  unfold pow2
  norm_num

/-- A normal power of two, by its bits. -/
theorem ofBits_pow (b : BitVec 32) (j : ℕ) (hj : j < 254) (hb : b.toNat = (j + 1) * 2 ^ 23) : Ideal.ofBits .f32 b = pow2 j := by
  have hneg : (b.extractLsb' (8 + 23) 1 == 1#1) = false := by
    rw [beq_eq_false_iff_ne]
    intro h
    have := congrArg BitVec.toNat h
    rw [BitVec.extractLsb'_toNat, Nat.shiftRight_eq_div_pow, hb] at this
    simp at this
    omega
  have hex : (b.extractLsb' 23 8).toNat = j + 1 := by
    rw [BitVec.extractLsb'_toNat, Nat.shiftRight_eq_div_pow, hb]
    omega
  have hfr : (b.extractLsb' 0 23).toNat = 0 := by
    rw [BitVec.extractLsb'_toNat, Nat.shiftRight_eq_div_pow, hb]
    omega
  show Ideal.ieee 8 23 b = pow2 j
  unfold Ideal.ieee pow2
  simp only [hneg, hex, hfr]
  rw [if_neg (by omega), if_neg (by omega)]
  refine congrArg _ ?_
  have e : ((2 ^ 23 + 0 : ℕ) : ℝ) = (2 : ℝ) ^ (23 : ℤ) := by norm_num
  rw [e, if_neg (by decide), one_mul, ← zpow_add₀ (by norm_num)]
  refine congrArg _ ?_
  push_cast
  norm_num
  ring

/-- A number's bits shifted up 23 places. -/
theorem ofBits_shift (n : BitVec 32) (j : ℕ) (hj : j < 254) (hn : n.toNat = j + 1) :
    Ideal.ofBits .f32 (IntOp.shli .vector n 23#32) = pow2 j := by
  refine ofBits_pow _ j hj ?_
  unfold IntOp.shli
  rw [if_pos (by decide), show n <<< (23#32) = n <<< (23 : ℕ) from rfl, BitVec.toNat_shiftLeft, hn, Nat.shiftLeft_eq]
  omega

/-- How many of the powers `2^-126 … 2^119` are not above `t`. -/
def count (t : EReal) : ℕ := (Finset.univ.filter fun j : Fin 246 => pow2 j.val ≤ t).card

theorem count_le (t : EReal) : count t ≤ 246 := by
  have := Finset.card_le_univ (Finset.univ.filter fun j : Fin 246 => pow2 j.val ≤ t)
  rwa [Fintype.card_fin] at this

/-- They are the first `count t` ones. -/
theorem lt_count (t : EReal) (j : Fin 246) : pow2 j.val ≤ t ↔ j.val < count t := by
  constructor
  · intro h
    have hs : Finset.Iic j ⊆ Finset.univ.filter fun i : Fin 246 => pow2 i.val ≤ t := by
      intro i hi
      exact Finset.mem_filter.mpr ⟨Finset.mem_univ _, le_trans (pow2_le (Fin.le_def.mp (Finset.mem_Iic.mp hi))) h⟩
    have := Finset.card_le_card hs
    rw [Fin.card_Iic] at this
    exact this
  · intro h
    by_contra hn
    have hs : (Finset.univ.filter fun i : Fin 246 => pow2 i.val ≤ t) ⊆ Finset.Iio j := by
      intro i hi
      refine Finset.mem_Iio.mpr (lt_of_not_ge fun hji => hn ?_)
      exact le_trans (pow2_le (Fin.le_def.mp hji)) (Finset.mem_filter.mp hi).2
    have := Finset.card_le_card hs
    rw [Fin.card_Iio] at this
    exact absurd h (not_lt.mpr this)

/-- The scale of a group with peak `t`. -/
def scaleOf (t : EReal) : EReal := if t = 0 then 1 else pow2 (count t)
/-- One over the scale. -/
def invOf (t : EReal) : EReal := if t = 0 then 1 else pow2 (252 - count t)

theorem div_pow2 (n : ℕ) (hn : n ≤ 252) : Ideal.div 1 (pow2 n) = pow2 (252 - n) := by
  unfold Ideal.div pow2
  have hpos : (0 : ℝ) < (2 : ℝ) ^ ((n : ℤ) - 126) := zpow_pos (by norm_num) _
  rw [if_neg (by
    intro h
    rw [← EReal.coe_zero, EReal.coe_eq_coe_iff] at h
    exact hpos.ne' h), one_mul, ← EReal.coe_inv, ← zpow_neg]
  refine congrArg (fun z : ℤ => (((2 : ℝ) ^ z : ℝ) : EReal)) ?_
  push_cast [hn]
  ring

theorem div_scale (t : EReal) : Ideal.div 1 (scaleOf t) = invOf t := by
  have h := count_le t
  unfold scaleOf invOf
  by_cases ht : t = 0
  · rw [if_pos ht, if_pos ht]
    have e := div_pow2 126 (by norm_num)
    rwa [pow2_one] at e
  · rw [if_neg ht, if_neg ht, div_pow2 _ (by omega)]

/-- The least power of two above `t` among `2^-126 … 2^120`, `2^120` if none is. -/
theorem least_above (t : EReal) (P : Fin 247 → EReal) (hP : ∀ j, P j = pow2 j.val) :
    (Finset.univ : Finset (Fin 247)).fold min ⊤ (fun j => if t < P j then P j else pow2 246) = pow2 (count t) := by
  have hc := count_le t
  apply le_antisymm
  · rw [Finset.fold_min_le]
    refine .inr ⟨⟨count t, by omega⟩, Finset.mem_univ _, ?_⟩
    rw [hP]
    by_cases h : count t = 246
    · split
      · exact le_refl _
      · show pow2 246 ≤ pow2 (count t); rw [h]
    · have hl : count t < 246 := by omega
      have hn : ¬ pow2 (count t) ≤ t := fun h' => absurd ((lt_count t ⟨count t, hl⟩).mp h') (lt_irrefl _)
      rw [if_pos (lt_of_not_ge hn)]
  · rw [Finset.le_fold_min]
    refine ⟨le_top, fun j _ => ?_⟩
    have hj := j.isLt
    split
    · rename_i h
      rw [hP] at h ⊢
      refine pow2_le ?_
      by_contra hlt
      have h2 : j.val < 246 := by omega
      exact absurd ((lt_count t ⟨j.val, h2⟩).mpr (not_le.mp hlt)) (not_le.mpr h)
    · exact pow2_le hc

/-- The kernel's word for the exponent. -/
def expoWord (t : EReal) : BitVec 32 := if t = 0 then 0#32 else BitVec.ofNat 32 (count t) - 126#32

theorem scale_word (t : EReal) : Ideal.ofBits .f32 (IntOp.shli .vector (expoWord t + 127#32) 23#32) = scaleOf t := by
  have h := count_le t
  unfold expoWord scaleOf
  by_cases ht : t = 0
  · rw [if_pos ht, if_pos ht, ofBits_shift _ 126 (by omega) (by decide), pow2_one]
  · rw [if_neg ht, if_neg ht, ofBits_shift _ (count t) (by omega) (by
      rw [BitVec.toNat_add, BitVec.toNat_sub, BitVec.toNat_ofNat]
      show ((2 ^ 32 - 126 + count t % 2 ^ 32) % 2 ^ 32 + 127) % 2 ^ 32 = _
      omega)]

theorem inv_word (t : EReal) : Ideal.ofBits .f32 (IntOp.shli .vector (127#32 - expoWord t) 23#32) = invOf t := by
  have h := count_le t
  unfold expoWord invOf
  by_cases ht : t = 0
  · rw [if_pos ht, if_pos ht, ofBits_shift _ 126 (by omega) (by decide), pow2_one]
  · rw [if_neg ht, if_neg ht, ofBits_shift _ (252 - count t) (by omega) (by
      rw [BitVec.toNat_sub, BitVec.toNat_sub, BitVec.toNat_ofNat]
      show (2 ^ 32 - (2 ^ 32 - 126 + count t % 2 ^ 32) % 2 ^ 32 + 127) % 2 ^ 32 = _
      omega)]

/-- Counting by words: a sum of ones and zeros over the powers. -/
theorem count_word (t : EReal) (g : Fin 246 → BitVec 32) (hg : ∀ j, g j = if pow2 j.val ≤ t then 1#32 else 0#32) :
    (Finset.univ : Finset (Fin 246)).fold IntOp.addi 0#32 g = BitVec.ofNat 32 (count t) := by
  have key : ∀ s : Finset (Fin 246), s.fold IntOp.addi 0#32 g = BitVec.ofNat 32 (s.filter fun j => pow2 j.val ≤ t).card := by
    intro s
    induction s using Finset.induction_on with
    | empty => rfl
    | insert a s ha ih =>
      rw [Finset.fold_insert ha, ih, hg]
      by_cases h : pow2 a.val ≤ t
      · rw [if_pos h, Finset.filter_insert, if_pos h, Finset.card_insert_of_notMem (fun hm => ha (Finset.mem_filter.mp hm).1)]
        show 1#32 + BitVec.ofNat 32 _ = _
        rw [← BitVec.ofNat_add, Nat.add_comm]
      · rw [if_neg h, Finset.filter_insert, if_neg h]
        show 0#32 + _ = _
        rw [BitVec.zero_add]
  exact key _

/-- The peak of a group: its largest magnitude times the constant nearest to 1/448. -/
def top (h : Fin 128 → EReal) : EReal := (Finset.univ : Finset (Fin 128)).fold max ⊥ fun k => max (h k) (-(h k))
def peakOf (h : Fin 128 → EReal) : EReal := top h * Ideal.ofBits .f32 0x3B124925#32

theorem factor_ne : Ideal.ofBits .f32 0x3B124925#32 ≠ 0 := by
  show Ideal.ieee 8 23 0x3B124925#32 ≠ 0
  unfold Ideal.ieee
  rw [if_neg (by decide), if_neg (by decide), ← EReal.coe_zero, Ne, EReal.coe_eq_coe_iff]
  refine mul_ne_zero (mul_ne_zero ?_ ?_) (zpow_ne_zero _ (by norm_num))
  · split <;> norm_num
  · exact Nat.cast_ne_zero.mpr (by decide)

theorem peak_zero (h : Fin 128 → EReal) : top h = 0 ↔ peakOf h = 0 := by
  unfold peakOf
  rw [mul_eq_zero]
  exact ⟨.inl, fun h' => h'.resolve_right factor_ne⟩

/-- A group's value `k` quantised: scaled, clipped to ±448, and scaled back. -/
def quantOf (h : Fin 128 → EReal) (k : Fin 128) : EReal :=
  min (Ideal.ofBits .f32 0x43E00000#32) (max (Ideal.ofBits .f32 0xC3E00000#32) (h k * invOf (peakOf h))) * scaleOf (peakOf h)

/-- A half of a packed word, in the high half of a word of zeros, is the bf16 number of the half. -/
theorem unpack (w : BitVec 32) (b : BitVec 16) (h : w.toNat = b.toNat * 2 ^ 16) : Ideal.ofBits .f32 w = Ideal.ofBits .bf16 b := by
  have hb := b.isLt
  have hneg : (w.extractLsb' (8 + 23) 1 == 1#1) = (b.extractLsb' (8 + 7) 1 == 1#1) := by
    have e : w.extractLsb' (8 + 23) 1 = b.extractLsb' (8 + 7) 1 := by
      apply BitVec.eq_of_toNat_eq
      rw [BitVec.extractLsb'_toNat, BitVec.extractLsb'_toNat, Nat.shiftRight_eq_div_pow, Nat.shiftRight_eq_div_pow, h]
      omega
    rw [e]
  have hex : (w.extractLsb' 23 8).toNat = (b.extractLsb' 7 8).toNat := by
    rw [BitVec.extractLsb'_toNat, BitVec.extractLsb'_toNat, Nat.shiftRight_eq_div_pow, Nat.shiftRight_eq_div_pow, h]
    omega
  have hfr : (w.extractLsb' 0 23).toNat = (b.extractLsb' 0 7).toNat * 2 ^ 16 := by
    rw [BitVec.extractLsb'_toNat, BitVec.extractLsb'_toNat, Nat.shiftRight_eq_div_pow, Nat.shiftRight_eq_div_pow, h]
    omega
  show Ideal.ieee 8 23 w = Ideal.ieee 8 7 b
  unfold Ideal.ieee
  simp only [hneg, hex, hfr]
  by_cases h1 : (b.extractLsb' 7 8).toNat = 2 ^ 8 - 1
  · rw [if_pos h1, if_pos h1]
    by_cases h2 : (b.extractLsb' 0 7).toNat = 0
    · rw [if_pos (by omega), if_pos h2]
    · rw [if_neg (by omega), if_neg h2]
  · rw [if_neg h1, if_neg h1]
    by_cases h2 : (b.extractLsb' 7 8).toNat = 0
    · rw [if_pos h2, if_pos h2]
      refine congrArg _ ?_
      have e : (2 : ℝ) ^ (1 - (2 ^ (8 - 1) - 1) - (7 : ℕ) : ℤ) = 2 ^ 16 * (2 : ℝ) ^ (1 - (2 ^ (8 - 1) - 1) - (23 : ℕ) : ℤ) := by
        norm_num
      rw [e]
      push_cast
      ring
    · rw [if_neg h2, if_neg h2]
      refine congrArg _ ?_
      generalize (b.extractLsb' 7 8).toNat = x
      have e : (2 : ℝ) ^ ((x : ℤ) - (2 ^ (8 - 1) - 1) - (7 : ℕ) : ℤ) = 2 ^ 16 * (2 : ℝ) ^ ((x : ℤ) - (2 ^ (8 - 1) - 1) - (23 : ℕ) : ℤ) := by
        rw [← zpow_natCast, ← zpow_add₀ (by norm_num)]
        refine congrArg _ ?_
        push_cast
        ring
      rw [e]
      push_cast
      ring

theorem unpack_low (w : BitVec 32) : Ideal.ofBits .f32 (IntOp.shli .vector w 16#32) = Ideal.ofBits .bf16 (w.extractLsb' (0 * 16) 16) := by
  refine unpack _ _ ?_
  have hw := w.isLt
  unfold IntOp.shli
  rw [if_pos (by decide), show w <<< (16#32) = w <<< (16 : ℕ) from rfl, BitVec.toNat_shiftLeft, BitVec.extractLsb'_toNat, Nat.shiftLeft_eq, Nat.shiftRight_eq_div_pow]
  omega

theorem unpack_high (w : BitVec 32) :
    Ideal.ofBits .f32 (IntOp.andi w 4294901760#32) = Ideal.ofBits .bf16 (w.extractLsb' (1 * 16) 16) := by
  refine unpack _ _ ?_
  have hw := w.isLt
  have e : IntOp.andi w 4294901760#32 = (w >>> 16) <<< 16 := by
    show w &&& 4294901760#32 = _
    apply BitVec.eq_of_getLsbD_eq
    intro i hi
    rw [BitVec.getLsbD_and, BitVec.getLsbD_shiftLeft, BitVec.getLsbD_ushiftRight]
    have hm : ∀ i : Fin 32, (4294901760#32 : BitVec 32).getLsbD i.val = decide (16 ≤ i.val) := by decide
    rw [hm ⟨i, hi⟩]
    by_cases h : i < 16
    · rw [decide_eq_false (by show ¬ 16 ≤ i; omega), decide_eq_true h]; simp
    · rw [decide_eq_true (by show 16 ≤ i; omega), decide_eq_false h, decide_eq_true hi, show 16 + (i - 16) = i from by omega]; simp
  rw [e, BitVec.toNat_shiftLeft, BitVec.toNat_ushiftRight, BitVec.extractLsb'_toNat, Nat.shiftLeft_eq, Nat.shiftRight_eq_div_pow]
  omega

end Cert.Quant

end
-- ==== Proof.UpSpec.lean ====
/- One row of the gate and up projections over the extended reals, apart from any program: the packed activations read,
   the two products with one expert's dequantised weights, silu of the gate times the up product, and the quantiser. -/
module

public import proofs.«01_k».proof.Proof.Quant

@[expose] public section

noncomputable section

namespace Cert.UpSpec

open Idealize.ShloMosaic
open scoped BigOperators

variable (x : Fin 2176 → BitVec 32) (w : Fin 4096 → Fin 2816 → EReal) (s : Fin 32 → Fin 22 → EReal)

/-- Activation `d` of a row: word `d % 2048` holds it, activation `d < 2048` in its low half. -/
def act (d : Fin 4096) : EReal :=
  Ideal.ofBits .bf16 ((x ⟨d.val % 2048, by omega⟩).extractLsb' (d.val / 2048 * 16) 16)

/-- The row's product with column `f` of the weights. -/
def prod (f : Fin 2816) : EReal :=
  ∑ d : Fin 4096, act x d * (w d f * s ⟨d.val / 128, by have := d.isLt; omega⟩ ⟨f.val / 128, by have := f.isLt; omega⟩)

/-- The row's hidden value `f`. -/
def hid (f : Fin 1408) : EReal :=
  prod x w s ⟨f.val, by have := f.isLt; omega⟩ * Ideal.logistic (prod x w s ⟨f.val, by have := f.isLt; omega⟩)
    * prod x w s ⟨1408 + f.val, by have := f.isLt; omega⟩

/-- The row's hidden value `f`, quantised with its group of 128. -/
def out (f : Fin 1408) : EReal :=
  Quant.quantOf (fun k : Fin 128 => hid x w s ⟨128 * (f.val / 128) + k.val, by have := f.isLt; have := k.isLt; omega⟩)
    ⟨f.val % 128, Nat.mod_lt _ (by decide)⟩

/-- The row's weight: lane `e` of its routing weights. -/
def weight (e : BitVec 32) : EReal :=
  ∑ k : Fin 128, if BitVec.ofNat 32 k.val = e then Ideal.ofBits .f32 (x ⟨2048 + k.val, by have := k.isLt; omega⟩) else 0

end Cert.UpSpec

end
-- ==== Proof.UpRowQuant.lean ====
/- The quantiser of one piece of the gate and up body, over the extended reals: `quant_apply`, row by row it is the group's
   quantiser. -/
module

public import proofs.«01_k».proof.Proof.UpBodyRun
public import proofs.«01_k».proof.Proof.UpSpec
public import Idealize.ShloMosaic.Lib.MatmulPlain
public import Idealize.ShloMosaic.Lib.ValueIdx
public import Idealize.ShloMosaic.Lib.IdealHost
public import Idealize.ShloMosaic.Lib.Pipeline.Value
public import Idealize.ShloMosaic.Lib.Affine
public import Idealize.ShloMosaic.Lib.Pointwise.Reduce

@[expose] public section

noncomputable section

namespace Cert.GateUpIdeal.Up

open Cert.GateUpIdeal
open Idealize.ShloMosaic hiding ix1 ix2 ix3 ix4 ix5
open Idealize.ShloMosaic.TcCoe Idealize.ShloMosaic.ValueIdx
open Idealize.SL Idealize.SL.Sem
open scoped BigOperators
open Facts₀ Facts

/-! ## Reductions along a row -/

theorem maxRow {m n : ℕ} (x : FVec Ideal (⟨2, ![m, n]⟩ : Shape) .f32) (acc : BitVec 32)
    (h : (⟨2, ![m, n]⟩ : Shape).Reduces [1] ⟨1, ![m]⟩) (hφ : FKind.Formats .f32) (hacc : acc = FKind.maximumf.neutral .f32 hφ) (r : Fin m) :
    (multiReduction .maximumf [1] ⟨1, ![m]⟩ x acc h hφ hacc (ix1 r) : EReal)
      = (Finset.univ : Finset (Fin n)).fold max (Ideal.ofBits .f32 acc) (fun k => (x (ix2 r k) : EReal)) :=
  (multiReduction_maximumf_eq_fold _ _ _ _ _ _).trans (Shape.Reduces.fold_fiber_r2_a1 h _ _ _ _)

theorem countRow {m n : ℕ} (x : IVec (⟨2, ![m, n]⟩ : Shape) 32) (acc : BitVec 32)
    (h : (⟨2, ![m, n]⟩ : Shape).Reduces [1] ⟨1, ![m]⟩) (hacc : acc = IKind.add.neutral) (r : Fin m) :
    multiReductionI .add [1] ⟨1, ![m]⟩ x acc h hacc (ix1 r)
      = (Finset.univ : Finset (Fin n)).fold IntOp.addi acc (fun k => x (ix2 r k)) :=
  (multiReductionI_eq_fold _ _ _ _ _ _).trans (Shape.Reduces.fold_fiber_r2_a1 h _ _ _ _)

theorem sumRow {m n : ℕ} (x : FVec Ideal (⟨2, ![m, n]⟩ : Shape) .f32) (acc : BitVec 32)
    (h : (⟨2, ![m, n]⟩ : Shape).Reduces [1] ⟨1, ![m]⟩) (hφ : FKind.Formats .f32) (hacc : acc = FKind.add.neutral .f32 hφ) (r : Fin m) :
    (multiReduction .add [1] ⟨1, ![m]⟩ x acc h hφ hacc (ix1 r) : EReal) = ∑ k : Fin n, (x (ix2 r k) : EReal) :=
  Ideal.reduceAdd_r2_a1 h x _

variable [Facts]

/-! ## The quantiser -/

/-- The shape cast of a column vector. -/
theorem col_apply {α : Type} (R : Rows) (v : R.S1.Idx → α) (r : Fin R.m) :
    shapeCast R.S11 v R.cast1 (ix2 r (0 : Fin 1)) = v (ix1 r) :=
  shapeCast_apply _ _ _ (ix1 r) (by
    refine (Shape.rowMajor_val_one _).trans (Eq.trans ?_ (Shape.rowMajor_val_two _).symm)
    show r.val = r.val * 1 + 0
    omega)

/-- A column broadcast over 128 lanes. -/
theorem lanes_apply {α : Type} (R : Rows) (v : R.S11.Idx → α) (r : Fin R.m) (k : Fin 128) :
    broadcastTo R.SR v R.bcR (ix2 r k) = v (ix2 r (0 : Fin 1)) :=
  broadcastTo_apply _ _ _ _ (by
    intro a
    match a with
    | ⟨0, _⟩ =>
      show r.val = if R.m = 1 then 0 else r.val
      have := r.isLt
      split <;> omega
    | ⟨1, _⟩ => rfl)

theorem bot_bits : Ideal.ofBits .f32 0xFF800000#32 = ⊥ := by simp [Ideal.ofBits, Ideal.ieee]

/-- A row's peak. -/
theorem peak_apply (R : Rows) (v : FVec Ideal R.SR .f32) (r : Fin R.m) :
    (R.peak v (ix2 r (0 : Fin 1)) : EReal) = Quant.peakOf (fun k => (v (ix2 r k) : EReal)) := by
  unfold Rows.peak
  unfold Quant.peakOf Quant.top
  rw [← bot_bits]
  exact congrArg (fun z : EReal => z * Ideal.ofBits .f32 0x3B124925#32) ((col_apply R _ r).trans (maxRow _ _ _ _ _ r))

/-- The powers of two. -/
theorem powers_apply (j : Fin 246) : ((Rows.powers (F := Ideal)) (ix2 (0 : Fin 1) j) : EReal) = Quant.pow2 j.val := by
  have hj := j.isLt
  have key : (Rows.powers (F := Ideal)) (ix2 (0 : Fin 1) j)
      = Ideal.ofBits .f32 (IntOp.shli .vector (iota .tc S1x246 32 [1] iota_S1x246_d1_w32 (ix2 (0 : Fin 1) j) + 1#32) 23#32) := rfl
  rw [key, iota_single_apply]
  refine Quant.ofBits_shift _ j.val (by omega) ?_
  have e : ((ix2 (0 : Fin 1) j : S1x246.Idx) 1).val = j.val := rfl
  rw [e, BitVec.toNat_add, BitVec.toNat_ofNat, BitVec.toNat_ofNat]
  omega

/-- The count of powers of two not above a row's peak. -/
theorem counted_apply (R : Rows) (t : FVec Ideal R.S11 .f32) (r : Fin R.m) (j : Fin 246) :
    (extui 32 (cmpf .oge (broadcastTo R.SP t R.bcT : FVec Ideal R.SP .f32) (broadcastTo R.SP (Rows.powers (F := Ideal)) R.bcP : FVec Ideal R.SP .f32)) natLt_1_32 : IVec R.SP 32) (ix2 r j)
      = if Quant.pow2 j.val ≤ (t (ix2 r (0 : Fin 1)) : EReal) then 1#32 else 0#32 := by
  have e1 : broadcastTo R.SP t R.bcT (ix2 r j) = t (ix2 r (0 : Fin 1)) :=
    broadcastTo_apply _ _ _ _ (by
      intro a
      match a with
      | ⟨0, _⟩ =>
        show r.val = if R.m = 1 then 0 else r.val
        have := r.isLt
        split <;> omega
      | ⟨1, _⟩ => rfl)
  have e2 : broadcastTo R.SP (Rows.powers (F := Ideal)) R.bcP (ix2 r j) = (Rows.powers (F := Ideal)) (ix2 (0 : Fin 1) j) :=
    broadcastTo_apply _ _ _ _ (by
      intro a
      match a with
      | ⟨0, _⟩ => rfl
      | ⟨1, _⟩ => rfl)
  refine Eq.trans (b := (BitVec.ofBool (decide ((broadcastTo R.SP (Rows.powers (F := Ideal)) R.bcP (ix2 r j) : EReal) ≤ broadcastTo R.SP t R.bcT (ix2 r j)))).setWidth 32) rfl ?_
  rw [e1, e2, powers_apply]
  by_cases h : Quant.pow2 j.val ≤ (t (ix2 r (0 : Fin 1)) : EReal)
  · rw [if_pos h, decide_eq_true h]; rfl
  · rw [if_neg h, decide_eq_false h]; rfl

/-- A row's exponent word. -/
theorem expo_apply (R : Rows) (t : FVec Ideal R.S11 .f32) (r : Fin R.m) :
    R.expo t (ix2 r (0 : Fin 1)) = Quant.expoWord (t (ix2 r (0 : Fin 1)) : EReal) := by
  have hc := (col_apply R _ r).trans ((countRow _ _ R.redP rfl r).trans (Quant.count_word _ _ (counted_apply R t r)))
  have key : R.expo t (ix2 r (0 : Fin 1)) = Scalar.select (BitVec.ofBool (decide ((t (ix2 r (0 : Fin 1)) : EReal) = Ideal.ofBits .f32 0x00000000#32))) 0#32
      (IntOp.subi (BitVec.ofNat 32 (Quant.count (t (ix2 r (0 : Fin 1)) : EReal))) 126#32) := by
    rw [← hc]; rfl
  rw [key, Ideal.ofBits_zero_f32]
  unfold Quant.expoWord
  by_cases h : (t (ix2 r (0 : Fin 1)) : EReal) = 0
  · rw [if_pos h, decide_eq_true h]; rfl
  · rw [if_neg h, decide_eq_false h]; rfl

theorem scale_apply (R : Rows) (t : FVec Ideal R.S11 .f32) (r : Fin R.m) :
    (R.scale t (ix2 r (0 : Fin 1)) : EReal) = Quant.scaleOf (t (ix2 r (0 : Fin 1)) : EReal) := by
  rw [← Quant.scale_word, ← expo_apply]
  rfl

theorem inv_apply (R : Rows) (t : FVec Ideal R.S11 .f32) (r : Fin R.m) :
    (R.inv t (ix2 r (0 : Fin 1)) : EReal) = Quant.invOf (t (ix2 r (0 : Fin 1)) : EReal) := by
  rw [← Quant.inv_word, ← expo_apply]
  rfl

/-- A branch quantises each row's group. -/
theorem quant_apply (R : Rows) (v : FVec Ideal R.SR .f32) (r : Fin R.m) (k : Fin 128) :
    (R.quant v (ix2 r k) : EReal) = Quant.quantOf (fun k => (v (ix2 r k) : EReal)) k := by
  unfold Rows.quant Quant.quantOf
  rw [mulf_apply, lanes_apply]
  refine congrArg₂ (fun a b : EReal => a * b) ?_ ?_
  · refine congrArg (fun z : EReal => min (Ideal.ofBits .f32 0x43E00000#32) (max (Ideal.ofBits .f32 0xC3E00000#32) z)) ?_
    rw [mulf_apply, lanes_apply, inv_apply, peak_apply]
  · refine (scale_apply R _ r).trans ?_
    rw [peak_apply]

end Cert.GateUpIdeal.Up

end
-- ==== Proof.UpPiece.lean ====
/- The value of one piece of the gate and up body, over the extended reals.

   `rowsAt_apply`: a branch's rows are the activations;
   `hid_apply`: its hidden values are the row's; so `pieceAt_apply` and `weights_apply`: what it stores is the row's
   quantised hidden values and weight. -/
module

public import proofs.«01_k».proof.Proof.UpRowQuant
public import proofs.«01_k».proof.Proof.UpSpec
public import Idealize.ShloMosaic.Lib.MatmulPlain
public import Idealize.ShloMosaic.Lib.ValueIdx
public import Idealize.ShloMosaic.Lib.IdealHost
public import Idealize.ShloMosaic.Lib.Pipeline.Value
public import Idealize.ShloMosaic.Lib.Affine
public import Idealize.ShloMosaic.Lib.Pointwise.Reduce

@[expose] public section

noncomputable section

namespace Cert.GateUpIdeal.Up

open Cert.GateUpIdeal
open Idealize.ShloMosaic hiding ix1 ix2 ix3 ix4 ix5
open Idealize.ShloMosaic.TcCoe Idealize.ShloMosaic.ValueIdx
open Idealize.SL Idealize.SL.Sem
open scoped BigOperators
open Facts₀ Facts

variable [Facts]

/-! ## The rows -/

/-- Row `r` of the staged block, as words. -/
def words (x4 : S512x2176.Idx → BitVec 32) (r : Fin 512) : Fin 2176 → BitVec 32 := fun k => x4 (ix2 r k)
/-- The staged codes and scales. -/
def codes (x5 : S1x4096x2816.Idx → EReal) : Fin 4096 → Fin 2816 → EReal := fun d f => x5 (ix3 0 d f)
def scales (x6 : S1x32x22.Idx → EReal) : Fin 32 → Fin 22 → EReal := fun i j => x6 (ix3 0 i j)

theorem rX_emb (R : Rows) (r : Fin R.m) (d : Fin 2048) :
    R.rX.emb (ix2 r d) = ix2 (⟨R.r0 + r.val, by have := R.le; have := r.isLt; omega⟩ : Fin 512) (⟨d.val, by have := d.isLt; omega⟩ : Fin 2176) := by
  funext a; apply Fin.ext
  match a with
  | ⟨0, _⟩ => show R.r0 + 1 * r.val = R.r0 + r.val; omega
  | ⟨1, _⟩ => show 0 + 1 * d.val = d.val; omega

theorem rD_emb (R : Rows) (r : Fin R.m) (d : Fin 128) :
    R.rD.emb (ix2 r d) = ix2 (⟨R.r0 + r.val, by have := R.le; have := r.isLt; omega⟩ : Fin 512) (⟨2048 + d.val, by have := d.isLt; omega⟩ : Fin 2176) := by
  funext a; apply Fin.ext
  match a with
  | ⟨0, _⟩ => show R.r0 + 1 * r.val = R.r0 + r.val; omega
  | ⟨1, _⟩ => show 2048 + 1 * d.val = 2048 + d.val; omega

/-- A branch's rows are the activations. -/
theorem rowsAt_apply (R : Rows) (x4 : S512x2176.Idx → BitVec 32) (r : Fin R.m) (d : Fin 4096) :
    (rowsAt (F := Ideal) R x4 (ix2 r d) : EReal)
      = UpSpec.act (words x4 ⟨R.r0 + r.val, by have := R.le; have := r.isLt; omega⟩) d := by
  have hd := d.isLt
  unfold rowsAt Rows.both UpSpec.act words
  by_cases h : d.val < 2048
  · rw [dif_pos (show ((ix2 r d) 1).val < 2048 from h)]
    unfold Rows.low
    rw [shapeCast_self]
    have e := rX_emb R r ⟨d.val, h⟩
    refine Eq.trans (b := Ideal.ofBits .f32 (IntOp.shli .vector (x4 (R.rX.emb (ix2 r ⟨d.val, h⟩))) 16#32)) rfl ?_
    rw [e, Quant.unpack_low]
    refine congrArg (Ideal.ofBits .bf16) ?_
    have e0 : d.val / 2048 = 0 := by omega
    have e1 : d.val % 2048 = d.val := by omega
    simp only [e0, e1]
  · rw [dif_neg (show ¬ ((ix2 r d) 1).val < 2048 from h)]
    unfold Rows.high
    rw [shapeCast_self]
    have e := rX_emb R r ⟨d.val - 2048, by omega⟩
    refine Eq.trans (b := Ideal.ofBits .f32 (IntOp.andi (x4 (R.rX.emb (ix2 r ⟨d.val - 2048, by omega⟩))) 4294901760#32)) rfl ?_
    rw [e, Quant.unpack_high]
    refine congrArg (Ideal.ofBits .bf16) ?_
    have e0 : d.val / 2048 = 1 := by omega
    have e1 : d.val % 2048 = d.val - 2048 := by omega
    simp only [e0, e1]

/-! ## The products -/

/-- A column of blocks at an index: block `d / 128`, at row `d % 128`. -/
theorem column_apply (v : Fin 32 → FVec Ideal S128x128 .bf16) (d : Fin 4096) (j : Fin 128) :
    column v (ix2 d j) = v ⟨d.val / 128, by omega⟩ (ix2 ⟨d.val % 128, by omega⟩ j) := by
  refine concatenate_ofFn_apply (s₁ := S128x128) (t := S4096x128) 0 (N := 32) v
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0
    rfl 128 rfl (ix2 d j) ⟨d.val / 128, by omega⟩ rfl _ rfl ?_
  intro b hb
  match b with
  | ⟨0, _⟩ => exact absurd rfl hb
  | ⟨1, _⟩ => rfl

/-- Two columns at an index: column `c` is column `c % 128` of block column `c / 128`. -/
theorem wide_apply (a b : Fin 32 → FVec Ideal S128x128 .bf16) (d : Fin 4096) (c : Fin 256) :
    wide a b (ix2 d c) = column (if c.val / 128 = 0 then a else b) (ix2 d ⟨c.val % 128, by omega⟩) := by
  have key := concatenate_ofFn_apply (s₁ := S4096x128) (t := S4096x256) 1 (N := 2) (![column a, column b])
    concatenates_S4096x128_S4096x128_S4096x256_d1
    rfl 128 rfl (ix2 d c) ⟨c.val / 128, by omega⟩ rfl (ix2 d ⟨c.val % 128, by omega⟩) rfl (by
      intro b hb
      match b with
      | ⟨0, _⟩ => rfl
      | ⟨1, _⟩ => exact absurd rfl hb)
  refine Eq.trans key ?_
  have hc : c.val / 128 = 0 ∨ c.val / 128 = 1 := by omega
  rcases hc with h | h
  · have e : (⟨c.val / 128, by omega⟩ : Fin 2) = 0 := Fin.ext h
    rw [e, if_pos h]; rfl
  · have e : (⟨c.val / 128, by omega⟩ : Fin 2) = 1 := Fin.ext h
    rw [e, if_neg (by omega)]; rfl

/-- The scaled block `(rb, cb)` at an index. -/
theorem blkAt_apply (x5 : S1x4096x2816.Idx → Elt Ideal .fp8e4m3) (x6 : S1x32x22.Idx → Elt Ideal .f32) (cb : Fin 22) (rb : Fin 32)
    (p q : Fin 128) (d : Fin 4096) (f : Fin 2816) (hd : d.val = 128 * rb.val + p.val) (hf : f.val = 128 * cb.val + q.val) :
    (blkAt x5 x6 cb rb (ix2 p q) : EReal) = codes x5 d f * scales x6 rb cb := by
  have e2 : (extractStridedSlice S128x128 ![128 * rb.val, 0]
      (shapeCast S4096x128 (fun x : S1x4096x128.Idx => x5 ((rW cb).emb x)) shapeCasts_S1x4096x128_S4096x128) (sliceW rb)) (ix2 p q) = x5 (ix3 0 d f) := by
    refine (extractStridedSlice_apply _ _ _ _ (ix2 d q) (by
      intro a
      match a with
      | ⟨0, _⟩ => exact hd
      | ⟨1, _⟩ => show q.val = 0 + q.val; omega)).trans ?_
    refine (shapeCast_dropUnit_apply ![4096, 128] _ _ (ix2 d q)).trans ?_
    refine congrArg x5 (funext fun a => Fin.ext ?_)
    match a with
    | ⟨0, _⟩ => rfl
    | ⟨1, _⟩ => show 0 + 1 * d.val = d.val; omega
    | ⟨2, _⟩ => show 128 * cb.val + 1 * q.val = f.val; omega
  have e3 : x6 ((rS rb cb).emb (Shape.Idx.first (numel1_S1x1x1.symm ▸ Nat.one_pos))) = x6 (ix3 0 rb cb) := by
    refine congrArg x6 (funext fun a => Fin.ext ?_)
    have hz : ∀ a : Fin 3, ((Shape.Idx.first (s := S1x1x1) (numel1_S1x1x1.symm ▸ Nat.one_pos)) a).val = 0 := by
      intro a
      have := ((Shape.Idx.first (s := S1x1x1) (numel1_S1x1x1.symm ▸ Nat.one_pos)) a).isLt
      match a with
      | ⟨0, _⟩ => exact Nat.lt_one_iff.mp this
      | ⟨1, _⟩ => exact Nat.lt_one_iff.mp this
      | ⟨2, _⟩ => exact Nat.lt_one_iff.mp this
    match a with
    | ⟨0, _⟩ => show 0 + 1 * _ = 0; rw [hz]
    | ⟨1, _⟩ => show rb.val + 1 * _ = rb.val; rw [hz]; omega
    | ⟨2, _⟩ => show cb.val + 1 * _ = cb.val; rw [hz]; omega
  exact congrArg₂ (fun a b : EReal => a * b) e2 e3

/-- The branch's product at row `r`: half `c / 128` of the operand is block column `cb`, its column `c % 128`. -/
theorem dot_apply (R : Rows) (x4 : S512x2176.Idx → BitVec 32) (x5 : S1x4096x2816.Idx → Elt Ideal .fp8e4m3)
    (x6 : S1x32x22.Idx → Elt Ideal .f32) (ca cb : Fin 22) (r : Fin R.m) (c : Fin 256) (f : Fin 2816)
    (hf : f.val = 128 * (if c.val / 128 = 0 then ca else cb).val + c.val % 128) :
    ((matmul R.dims none (rowsAt (F := Ideal) R x4) (wide (blkAt x5 x6 ca) (blkAt x5 x6 cb)) (constant R.SO .f32 0x00000000#32) : FVec Ideal R.SO .f32) (ix2 r c) : EReal)
      = UpSpec.prod (words x4 ⟨R.r0 + r.val, by have := R.le; have := r.isLt; omega⟩) (codes x5) (scales x6) f := by
  unfold UpSpec.prod
  refine (Ideal.matmul_plain_apply none _ _ _ r c).trans ?_
  rw [constant_apply, Ideal.ofBits_zero_f32, zero_add]
  refine Finset.sum_congr rfl fun d _ => ?_
  have hd := d.isLt
  refine congrArg₂ (fun a b : EReal => a * b) (rowsAt_apply R x4 r d) ?_
  rw [wide_apply, column_apply]
  by_cases hc : c.val / 128 = 0
  · rw [if_pos hc] at hf ⊢
    refine (blkAt_apply x5 x6 _ _ _ _ d f ?_ hf).trans ?_
    · show d.val = 128 * (d.val / 128) + d.val % 128
      omega
    · have e : ca = ⟨f.val / 128, by have := f.isLt; omega⟩ := Fin.ext (by show ca.val = f.val / 128; omega)
      rw [e]
  · rw [if_neg hc] at hf ⊢
    refine (blkAt_apply x5 x6 _ _ _ _ d f ?_ hf).trans ?_
    · show d.val = 128 * (d.val / 128) + d.val % 128
      omega
    · have e : cb = ⟨f.val / 128, by have := f.isLt; omega⟩ := Fin.ext (by show cb.val = f.val / 128; omega)
      rw [e]

/-- The left half of a product, -/
theorem gate_at (R : Rows) (p : FVec Ideal R.SO .f32) (r : Fin R.m) (k : Fin 128) :
    extractStridedSlice R.SR ![0, 0] p R.sliceG (ix2 r k) = p (ix2 r (⟨k.val, by have := k.isLt; omega⟩ : Fin 256)) :=
  extractStridedSlice_apply _ _ _ _ _ (by
    intro a
    match a with
    | ⟨0, _⟩ => show r.val = 0 + r.val; omega
    | ⟨1, _⟩ => show k.val = 0 + k.val; omega)

/-- and its right half. -/
theorem up_at (R : Rows) (p : FVec Ideal R.SO .f32) (r : Fin R.m) (k : Fin 128) :
    extractStridedSlice R.SR ![0, 128] p R.sliceU (ix2 r k) = p (ix2 r (⟨128 + k.val, by have := k.isLt; omega⟩ : Fin 256)) :=
  extractStridedSlice_apply _ _ _ _ _ (by
    intro a
    match a with
    | ⟨0, _⟩ => show r.val = 0 + r.val; omega
    | ⟨1, _⟩ => show 128 + k.val = 128 + k.val; omega)

/-- silu of the left half times the right half. -/
theorem silu_at (R : Rows) (p : FVec Ideal R.SO .f32) (r : Fin R.m) (k : Fin 128) (G U : EReal)
    (hG : (p (ix2 r (⟨k.val, by have := k.isLt; omega⟩ : Fin 256)) : EReal) = G)
    (hU : (p (ix2 r (⟨128 + k.val, by have := k.isLt; omega⟩ : Fin 256)) : EReal) = U) :
    ((mulf (mulf (extractStridedSlice R.SR ![0, 0] p R.sliceG : FVec Ideal R.SR .f32) (logistic (extractStridedSlice R.SR ![0, 0] p R.sliceG : FVec Ideal R.SR .f32)) : FVec Ideal R.SR .f32)
      (extractStridedSlice R.SR ![0, 128] p R.sliceU : FVec Ideal R.SR .f32) : FVec Ideal R.SR .f32) (ix2 r k) : EReal) = G * Ideal.logistic G * U := by
  rw [← hG, ← hU]
  have e := gate_at R p r k
  have f := up_at R p r k
  exact congrArg₂ (fun a b : EReal => a * Ideal.logistic a * b) e f

/-- The gate's product, -/
theorem gate_dot (R : Rows) (x4 : S512x2176.Idx → BitVec 32) (x5 : S1x4096x2816.Idx → Elt Ideal .fp8e4m3)
    (x6 : S1x32x22.Idx → Elt Ideal .f32) (ca cb : Fin 22) (r : Fin R.m) (k : Fin 128) (f : Fin 2816) (hf : f.val = 128 * ca.val + k.val) :
    ((matmul R.dims none (rowsAt (F := Ideal) R x4) (wide (blkAt x5 x6 ca) (blkAt x5 x6 cb)) (constant R.SO .f32 0x00000000#32) : FVec Ideal R.SO .f32)
        (ix2 r (⟨k.val, by have := k.isLt; omega⟩ : Fin 256)) : EReal)
      = UpSpec.prod (words x4 ⟨R.r0 + r.val, by have := R.le; have := r.isLt; omega⟩) (codes x5) (scales x6) f := by
  have hk := k.isLt
  refine dot_apply R x4 x5 x6 ca cb r _ f ?_
  have e : k.val / 128 = 0 := by omega
  have e2 : k.val % 128 = k.val := by omega
  simp only [e, if_true, e2]
  exact hf

/-- and the up product. -/
theorem up_dot (R : Rows) (x4 : S512x2176.Idx → BitVec 32) (x5 : S1x4096x2816.Idx → Elt Ideal .fp8e4m3)
    (x6 : S1x32x22.Idx → Elt Ideal .f32) (ca cb : Fin 22) (r : Fin R.m) (k : Fin 128) (f : Fin 2816) (hf : f.val = 128 * cb.val + k.val) :
    ((matmul R.dims none (rowsAt (F := Ideal) R x4) (wide (blkAt x5 x6 ca) (blkAt x5 x6 cb)) (constant R.SO .f32 0x00000000#32) : FVec Ideal R.SO .f32)
        (ix2 r (⟨128 + k.val, by have := k.isLt; omega⟩ : Fin 256)) : EReal)
      = UpSpec.prod (words x4 ⟨R.r0 + r.val, by have := R.le; have := r.isLt; omega⟩) (codes x5) (scales x6) f := by
  have hk := k.isLt
  refine dot_apply R x4 x5 x6 ca cb r _ f ?_
  have e : ¬ (128 + k.val) / 128 = 0 := by omega
  have e2 : (128 + k.val) % 128 = k.val := by omega
  simp only [e, if_false, e2]
  exact hf

/-- A branch's hidden values. -/
theorem hid_apply (R : Rows) (x4 : S512x2176.Idx → BitVec 32) (x5 : S1x4096x2816.Idx → Elt Ideal .fp8e4m3)
    (x6 : S1x32x22.Idx → Elt Ideal .f32) (j : Fin 11) (r : Fin R.m) (k : Fin 128) (ca cb : Fin 22) (hca : ca.val = j.val) (hcb : cb.val = 11 + j.val) :
    (R.hid (rowsAt (F := Ideal) R x4) (blkAt x5 x6 ca) (blkAt x5 x6 cb) (ix2 r k) : EReal)
      = UpSpec.hid (words x4 ⟨R.r0 + r.val, by have := R.le; have := r.isLt; omega⟩) (codes x5) (scales x6)
          ⟨128 * j.val + k.val, by have := j.isLt; have := k.isLt; omega⟩ := by
  unfold UpSpec.hid Rows.hid
  refine silu_at R _ r k _ _ (gate_dot R x4 x5 x6 ca cb r k _ ?_) (up_dot R x4 x5 x6 ca cb r k _ ?_)
  · show 128 * j.val + k.val = _; rw [hca]
  · show 1408 + (128 * j.val + k.val) = _; rw [hcb]; omega

/-- What a branch's piece `j` holds. -/
theorem pieceAt_apply (R : Rows) (x4 : S512x2176.Idx → BitVec 32) (x5 : S1x4096x2816.Idx → Elt Ideal .fp8e4m3)
    (x6 : S1x32x22.Idx → Elt Ideal .f32) (j : Fin 11) (r : Fin R.m) (k : Fin 128) :
    (pieceAt (F := Ideal) R x4 x5 x6 j (ix2 r k) : EReal)
      = UpSpec.out (words x4 ⟨R.r0 + r.val, by have := R.le; have := r.isLt; omega⟩) (codes x5) (scales x6)
          ⟨128 * j.val + k.val, by have := j.isLt; have := k.isLt; omega⟩ := by
  have hk := k.isLt
  unfold pieceAt Rows.val UpSpec.out
  rw [quant_apply]
  refine congr (congrArg Quant.quantOf (funext fun i => (hid_apply R x4 x5 x6 j r i _ _ rfl rfl).trans (congrArg _ (Fin.ext ?_)))) (Fin.ext ?_)
  · show 128 * j.val + i.val = 128 * ((128 * j.val + k.val) / 128) + i.val
    omega
  · show k.val = (128 * j.val + k.val) % 128
    omega

/-- A branch's row weights. -/
theorem weights_apply (R : Rows) (x4 : S512x2176.Idx → BitVec 32) (e : BitVec 32) (r : Fin R.m) (k : Fin 128) :
    (R.weights (F := Ideal) (fun x => x4 (R.rD.emb x)) e (ix2 r k) : EReal)
      = UpSpec.weight (words x4 ⟨R.r0 + r.val, by have := R.le; have := r.isLt; omega⟩) e := by
  unfold Rows.weights UpSpec.weight
  rw [lanes_apply, shapeCast_self, col_apply]
  refine (sumRow _ _ _ _ _ r).trans (Finset.sum_congr rfl fun i _ => ?_)
  refine Eq.trans (b := Scalar.select (IntOp.cmpi .eq (iota .tc R.SR 32 [1] R.iotaR (ix2 r i)) e) (Ideal.ofBits .f32 (x4 (R.rD.emb (ix2 r i)))) (Ideal.ofBits .f32 0x00000000#32)) rfl ?_
  have hi : ((ix2 r i : R.SR.Idx) 1).val = i.val := rfl
  rw [iota_single_apply, hi, rD_emb, WordCmp.cmpi_eq_eq, Ideal.ofBits_zero_f32]
  unfold words
  unfold Scalar.select
  by_cases h : BitVec.ofNat 32 i.val = e
  · rw [if_pos h, decide_eq_true h]; rfl
  · rw [if_neg h, decide_eq_false h]; rfl

end Cert.GateUpIdeal.Up

end
-- ==== Proof.UpLeaves.lean ====
/- What the gate and up body leaves in the staged blocks of its two results, over the extended reals: in every row it
   covers the row's quantised hidden values and its weight; at a tile without valid rows, everything as it was. -/
module

public import proofs.«01_k».proof.Proof.UpPiece

@[expose] public section

noncomputable section

namespace Cert.GateUpIdeal.Up

open Cert.GateUpIdeal
open Idealize.ShloMosaic hiding ix1 ix2 ix3 ix4 ix5
open Idealize.ShloMosaic.TcCoe Idealize.ShloMosaic.ValueIdx
open Idealize.SL Idealize.SL.Sem
open Facts₀ Facts

variable [Facts]

/-! ## Which rows the body covers -/

theorem cond1_iff (v : BitVec 32) : k0_cond1 v = 1#1 ↔ 384 < v.toInt := by
  unfold k0_cond1
  exact (Scalar.guard_iff _).trans IntOp.cmpi_sgt

theorem cond2_iff (v : BitVec 32) : k0_cond2 v = 1#1 ↔ 128 < v.toInt ∧ v.toInt ≤ 384 := by
  unfold k0_cond2
  refine (Scalar.guard_iff _).trans (IntOp.andi_eq_one.trans (and_congr ?_ ?_))
  · exact IntOp.cmpi_sgt
  · exact IntOp.cmpi_sle

theorem cond3_iff (v : BitVec 32) : k0_cond3 v = 1#1 ↔ (0 < v.toInt ∧ v.toInt ≤ 128) ∨ (256 < v.toInt ∧ v.toInt ≤ 384) := by
  unfold k0_cond3
  refine (Scalar.guard_iff _).trans (IntOp.ori_eq_one.trans (or_congr ?_ ?_))
  · refine IntOp.andi_eq_one.trans (and_congr ?_ ?_)
    · exact IntOp.cmpi_sgt
    · exact IntOp.cmpi_sle
  · refine IntOp.andi_eq_one.trans (and_congr ?_ ?_)
    · exact IntOp.cmpi_sgt
    · exact IntOp.cmpi_sle

theorem mult1_low (v : BitVec 32) (h : v.toInt ≤ 128) : (k0_mult1 v).toNat = 0 := by
  have hn : ¬ IntOp.cmpi .sgt v 128#32 = 1#1 := fun hc => absurd (IntOp.cmpi_sgt.mp hc) (by
    rw [show (128#32 : BitVec 32).toInt = 128 from by decide]; omega)
  show (Scalar.select (IntOp.cmpi .sgt v 128#32) 256#32 0#32).toNat = 0
  rw [eq_zero_of_ne_one hn, select_zero]; rfl

theorem mult1_high (v : BitVec 32) (h : 128 < v.toInt) : (k0_mult1 v).toNat = 256 := by
  have hy : IntOp.cmpi .sgt v 128#32 = 1#1 := IntOp.cmpi_sgt.mpr (by
    rw [show (128#32 : BitVec 32).toInt = 128 from by decide]; exact h)
  show (Scalar.select (IntOp.cmpi .sgt v 128#32) 256#32 0#32).toNat = 256
  rw [hy, select_one]; rfl

/-! ## The hidden block -/

/-- The quantised hidden value at an index of the staged block. -/
def outAt (x4 : S512x2176.Idx → BitVec 32) (x5 : S1x4096x2816.Idx → Elt Ideal .fp8e4m3) (x6 : S1x32x22.Idx → Elt Ideal .f32) (y : S512x1408.Idx) : EReal := UpSpec.out (words x4 (y 0)) (codes x5) (scales x6) (y 1)

theorem pieceAt_emb (R : Rows) (x4 : S512x2176.Idx → BitVec 32) (x5 : S1x4096x2816.Idx → Elt Ideal .fp8e4m3) (x6 : S1x32x22.Idx → Elt Ideal .f32) (j : Fin 11) (x : R.SR.Idx) :
    pieceAt (F := Ideal) R x4 x5 x6 j x = outAt x4 x5 x6 ((R.rH j).emb x) := by
  obtain ⟨r, k, rfl⟩ : ∃ (r : Fin R.m) (k : Fin 128), x = ix2 r k := ⟨x 0, x 1, by
    funext a
    match a with
    | ⟨0, _⟩ => rfl
    | ⟨1, _⟩ => rfl⟩
  refine (pieceAt_apply R x4 x5 x6 j r k).trans ?_
  unfold outAt
  refine congrArg₂ (fun i f => UpSpec.out (words x4 i) (codes x5) (scales x6) f) (Fin.ext ?_) (Fin.ext ?_)
  · show R.r0 + r.val = R.r0 + 1 * r.val
    omega
  · show 128 * j.val + k.val = 128 * j.val + 1 * k.val
    omega

/-- The first `n` pieces of a branch laid over `Y`: the quantised hidden value in a place one of them covers, `Y` in the others. -/
theorem layH_cases (R : Rows) (x4 : S512x2176.Idx → BitVec 32) (x5 : S1x4096x2816.Idx → Elt Ideal .fp8e4m3) (x6 : S1x32x22.Idx → Elt Ideal .f32) (Y : S512x1408.Idx → Elt Ideal .bf16)
    (y : S512x1408.Idx) : ∀ (n : ℕ) (hn : n ≤ 11),
    layH R x4 x5 x6 n hn Y y = outAt x4 x5 x6 y
      ∨ (layH R x4 x5 x6 n hn Y y = Y y ∧ ∀ j : Fin 11, j.val < n → y ∉ (R.rH j).set)
  | 0, _ => .inr ⟨rfl, fun j h => absurd h (Nat.not_lt_zero _)⟩
  | n + 1, hn => by
    by_cases hy : y ∈ (R.rH ⟨n, hn⟩).set
    · left
      rw [← (R.rH ⟨n, hn⟩).map_emb_univ] at hy
      obtain ⟨x, -, rfl⟩ := Finset.mem_map.mp hy
      show (R.rH ⟨n, hn⟩).overlay _ _ _ = _
      rw [Rect.overlay_emb]
      exact pieceAt_emb R x4 x5 x6 ⟨n, hn⟩ x
    · have e : layH R x4 x5 x6 (n + 1) hn Y y = layH R x4 x5 x6 n (Nat.le_of_succ_le hn) Y y := by
        show (R.rH ⟨n, hn⟩).overlay _ _ _ = _
        rw [Rect.overlay_of_not_mem _ _ _ hy]
      rw [e]
      rcases layH_cases R x4 x5 x6 Y y n (Nat.le_of_succ_le hn) with h | ⟨h, hj⟩
      · exact .inl h
      · refine .inr ⟨h, fun j hjn => ?_⟩
        rcases Nat.lt_succ_iff_lt_or_eq.mp hjn with h1 | h1
        · exact hj j h1
        · have : j = ⟨n, hn⟩ := Fin.ext h1
          rw [this]; exact hy

/-- All 11 pieces of a branch hold the quantised hidden value in every row of the branch. -/
theorem layH_row (R : Rows) (x4 : S512x2176.Idx → BitVec 32) (x5 : S1x4096x2816.Idx → Elt Ideal .fp8e4m3) (x6 : S1x32x22.Idx → Elt Ideal .f32) (Y : S512x1408.Idx → Elt Ideal .bf16)
    (y : S512x1408.Idx) (h0 : R.r0 ≤ (y 0).val) (h1 : (y 0).val < R.r0 + R.m) :
    layH R x4 x5 x6 11 (Nat.le_refl 11) Y y = outAt x4 x5 x6 y := by
  rcases layH_cases R x4 x5 x6 Y y 11 (Nat.le_refl 11) with h | ⟨-, hj⟩
  · exact h
  · exfalso
    have a1 : (y 1).val < 1408 := (y 1).isLt
    refine hj ⟨(y 1).val / 128, by omega⟩ (by show _ < 11; omega) ?_
    rw [Rect.mem_set_unit]
    intro a
    match a with
    | ⟨0, _⟩ => exact ⟨h0, h1⟩
    | ⟨1, _⟩ =>
      show 128 * ((y 1).val / 128) ≤ (y 1).val ∧ (y 1).val < 128 * ((y 1).val / 128) + 128
      omega

theorem layH_or (R : Rows) (x4 : S512x2176.Idx → BitVec 32) (x5 : S1x4096x2816.Idx → Elt Ideal .fp8e4m3) (x6 : S1x32x22.Idx → Elt Ideal .f32) (Y : S512x1408.Idx → Elt Ideal .bf16) (y : S512x1408.Idx) :
    layH R x4 x5 x6 11 (Nat.le_refl 11) Y y = outAt x4 x5 x6 y ∨ layH R x4 x5 x6 11 (Nat.le_refl 11) Y y = Y y :=
  (layH_cases R x4 x5 x6 Y y 11 (Nat.le_refl 11)).imp id And.left

/-- At a tile with `v` valid rows the body leaves the quantised hidden value in every row of every group of 128 rows that has a valid row in it. -/
theorem leavesH_covered (v : BitVec 32) (hc : k0_chk1 v) (x4 : S512x2176.Idx → BitVec 32) (x5 : S1x4096x2816.Idx → Elt Ideal .fp8e4m3) (x6 : S1x32x22.Idx → Elt Ideal .f32) (Y : S512x1408.Idx → Elt Ideal .bf16)
    (y : S512x1408.Idx) (hy : (128 * ((y 0).val / 128 : ℕ) : Int) < v.toInt) : leavesH v hc x4 x5 x6 Y y = outAt x4 x5 x6 y := by
  have hy1 : (y 0).val < 512 := (y 0).isLt
  unfold leavesH
  by_cases h1 : k0_cond1 v = 1#1
  · have hv := (cond1_iff v).mp h1
    have h2 : ¬ k0_cond2 v = 1#1 := fun h => by have := (cond2_iff v).mp h; omega
    have h3 : ¬ k0_cond3 v = 1#1 := fun h => by have := (cond3_iff v).mp h; omega
    rw [dif_neg h3, if_neg h2, if_pos h1]
    exact layH_row rows512 x4 x5 x6 Y y (Nat.zero_le _) (by show _ < 0 + 512; omega)
  · have hv : v.toInt ≤ 384 := by by_contra hh; exact h1 ((cond1_iff v).mpr (by omega))
    rw [if_neg h1]
    by_cases h2 : k0_cond2 v = 1#1
    · have hv2 := (cond2_iff v).mp h2
      rw [if_pos h2]
      by_cases h3 : k0_cond3 v = 1#1
      · rw [dif_pos h3]
        have hv3 := (cond3_iff v).mp h3
        have hr : (rows128 v hc h3).r0 = 256 := mult1_high v hv2.1
        by_cases hlt : (y 0).val < 256
        · rcases layH_or (rows128 v hc h3) x4 x5 x6 (layH rows256 x4 x5 x6 11 (Nat.le_refl 11) Y) y with h | h
          · exact h
          · rw [h]
            exact layH_row rows256 x4 x5 x6 Y y (Nat.zero_le _) (by show _ < 0 + 256; omega)
        · refine layH_row (rows128 v hc h3) x4 x5 x6 _ y (by rw [hr]; omega) ?_
          rw [hr]; show _ < 256 + 128; omega
      · rw [dif_neg h3]
        have : v.toInt ≤ 256 := by by_contra hh; exact h3 ((cond3_iff v).mpr (by omega))
        exact layH_row rows256 x4 x5 x6 Y y (Nat.zero_le _) (by show _ < 0 + 256; omega)
    · rw [if_neg h2]
      have hv2 : v.toInt ≤ 128 := by by_contra hh; exact h2 ((cond2_iff v).mpr (by omega))
      have h3 : k0_cond3 v = 1#1 := (cond3_iff v).mpr (by omega)
      rw [dif_pos h3]
      have hr : (rows128 v hc h3).r0 = 0 := mult1_low v hv2
      refine layH_row (rows128 v hc h3) x4 x5 x6 _ y (by rw [hr]; omega) ?_
      rw [hr]; show _ < 0 + 128; omega

/-- At a tile without valid rows the body leaves everything as it was. -/
theorem leavesH_none (v : BitVec 32) (hc : k0_chk1 v) (x4 : S512x2176.Idx → BitVec 32) (x5 : S1x4096x2816.Idx → Elt Ideal .fp8e4m3) (x6 : S1x32x22.Idx → Elt Ideal .f32) (Y : S512x1408.Idx → Elt Ideal .bf16)
    (hv : v.toInt ≤ 0) : leavesH v hc x4 x5 x6 Y = Y := by
  unfold leavesH
  rw [dif_neg (fun h => by have := (cond3_iff v).mp h; omega), if_neg (fun h => by have := (cond2_iff v).mp h; omega),
    if_neg (fun h => by have := (cond1_iff v).mp h; omega)]

/-! ## The row weights -/

/-- The weight of a row of the staged block, on every lane. -/
def wtAt (x4 : S512x2176.Idx → BitVec 32) (e : BitVec 32) (y : S512x128.Idx) : EReal := UpSpec.weight (words x4 (y 0)) e

theorem weights_emb (R : Rows) (x4 : S512x2176.Idx → BitVec 32) (e : BitVec 32) (x : R.SR.Idx) :
    R.weights (F := Ideal) (fun x => x4 (R.rD.emb x)) e x = wtAt x4 e (R.rR.emb x) := by
  obtain ⟨r, k, rfl⟩ : ∃ (r : Fin R.m) (k : Fin 128), x = ix2 r k := ⟨x 0, x 1, by
    funext a
    match a with
    | ⟨0, _⟩ => rfl
    | ⟨1, _⟩ => rfl⟩
  refine (weights_apply R x4 e r k).trans ?_
  unfold wtAt
  refine congrArg (fun i => UpSpec.weight (words x4 i) e) (Fin.ext ?_)
  show R.r0 + r.val = R.r0 + 1 * r.val
  omega

theorem layW_row (R : Rows) (x4 : S512x2176.Idx → BitVec 32) (e : BitVec 32) (Y : S512x128.Idx → Elt Ideal .f32)
    (y : S512x128.Idx) (h0 : R.r0 ≤ (y 0).val) (h1 : (y 0).val < R.r0 + R.m) : layW R x4 e Y y = wtAt x4 e y := by
  have hy : y ∈ R.rR.set := by
    rw [Rect.mem_set_unit]
    intro a
    match a with
    | ⟨0, _⟩ => exact ⟨h0, h1⟩
    | ⟨1, _⟩ => exact ⟨Nat.zero_le _, by have h : (y 1).val < 128 := (y 1).isLt; show (y 1).val < 0 + 128; omega⟩
  rw [← R.rR.map_emb_univ] at hy
  obtain ⟨x, -, rfl⟩ := Finset.mem_map.mp hy
  unfold layW
  rw [Rect.overlay_emb]
  exact weights_emb R x4 e x

theorem layW_or (R : Rows) (x4 : S512x2176.Idx → BitVec 32) (e : BitVec 32) (Y : S512x128.Idx → Elt Ideal .f32) (y : S512x128.Idx) :
    layW R x4 e Y y = wtAt x4 e y ∨ layW R x4 e Y y = Y y := by
  by_cases hy : y ∈ R.rR.set
  · left
    rw [← R.rR.map_emb_univ] at hy
    obtain ⟨x, -, rfl⟩ := Finset.mem_map.mp hy
    unfold layW
    rw [Rect.overlay_emb]
    exact weights_emb R x4 e x
  · right
    unfold layW
    rw [Rect.overlay_of_not_mem _ _ _ hy]

/-- At a tile with `v` valid rows the body leaves the weight in every row of every group of 128 rows that has a valid row in it. -/
theorem leavesW_covered (v : BitVec 32) (hc : k0_chk1 v) (x4 : S512x2176.Idx → BitVec 32) (e : BitVec 32) (Y : S512x128.Idx → Elt Ideal .f32)
    (y : S512x128.Idx) (hy : (128 * ((y 0).val / 128 : ℕ) : Int) < v.toInt) : leavesW v hc x4 e Y y = wtAt x4 e y := by
  have hy1 : (y 0).val < 512 := (y 0).isLt
  unfold leavesW
  by_cases h1 : k0_cond1 v = 1#1
  · have hv := (cond1_iff v).mp h1
    have h2 : ¬ k0_cond2 v = 1#1 := fun h => by have := (cond2_iff v).mp h; omega
    have h3 : ¬ k0_cond3 v = 1#1 := fun h => by have := (cond3_iff v).mp h; omega
    rw [dif_neg h3, if_neg h2, if_pos h1]
    exact layW_row rows512 x4 e Y y (Nat.zero_le _) (by show _ < 0 + 512; omega)
  · have hv : v.toInt ≤ 384 := by by_contra hh; exact h1 ((cond1_iff v).mpr (by omega))
    rw [if_neg h1]
    by_cases h2 : k0_cond2 v = 1#1
    · have hv2 := (cond2_iff v).mp h2
      rw [if_pos h2]
      by_cases h3 : k0_cond3 v = 1#1
      · rw [dif_pos h3]
        have hv3 := (cond3_iff v).mp h3
        have hr : (rows128 v hc h3).r0 = 256 := mult1_high v hv2.1
        by_cases hlt : (y 0).val < 256
        · rcases layW_or (rows128 v hc h3) x4 e (layW rows256 x4 e Y) y with h | h
          · exact h
          · rw [h]
            exact layW_row rows256 x4 e Y y (Nat.zero_le _) (by show _ < 0 + 256; omega)
        · refine layW_row (rows128 v hc h3) x4 e _ y (by rw [hr]; omega) ?_
          rw [hr]; show _ < 256 + 128; omega
      · rw [dif_neg h3]
        have : v.toInt ≤ 256 := by by_contra hh; exact h3 ((cond3_iff v).mpr (by omega))
        exact layW_row rows256 x4 e Y y (Nat.zero_le _) (by show _ < 0 + 256; omega)
    · rw [if_neg h2]
      have hv2 : v.toInt ≤ 128 := by by_contra hh; exact h2 ((cond2_iff v).mpr (by omega))
      have h3 : k0_cond3 v = 1#1 := (cond3_iff v).mpr (by omega)
      rw [dif_pos h3]
      have hr : (rows128 v hc h3).r0 = 0 := mult1_low v hv2
      refine layW_row (rows128 v hc h3) x4 e _ y (by rw [hr]; omega) ?_
      rw [hr]; show _ < 0 + 128; omega

/-- At a tile without valid rows the body leaves everything as it was. -/
theorem leavesW_none (v : BitVec 32) (hc : k0_chk1 v) (x4 : S512x2176.Idx → BitVec 32) (e : BitVec 32) (Y : S512x128.Idx → Elt Ideal .f32)
    (hv : v.toInt ≤ 0) : leavesW v hc x4 e Y = Y := by
  unfold leavesW
  rw [dif_neg (fun h => by have := (cond3_iff v).mp h; omega), if_neg (fun h => by have := (cond2_iff v).mp h; omega),
    if_neg (fun h => by have := (cond1_iff v).mp h; omega)]

end Cert.GateUpIdeal.Up

end
-- ==== Proof.UpPoint.lean ====
/- The points of the gate and up launch: point `b` is tile `b`; how a window's write-back reads. -/
module

public import proofs.«01_k».proof.Proof.UpRun
public import proofs.«01_k».proof.Proof.UpLeaves

@[expose] public section

noncomputable section

namespace Cert.GateUpIdeal.Up

open Cert.GateUpIdeal Cert.GateUpIdeal.Gen
open Idealize.ShloMosaic hiding ix1 ix2 ix3 ix4 ix5
open Idealize.ShloMosaic.TcCoe Idealize.ShloMosaic.ValueIdx
open Idealize.SL Idealize.SL.Sem
open Idealize.ShloMosaic.Pipeline (RDat)

variable (m : (ℓ : Loc nD τ sig) → Buf (Elt Ideal) ℓ) (g : Good (pf m)) (c : Dev nD)

/-- The point of tile `b`. -/
def pt (b : Fin 96) : Fin (cfgA m g).N := ⟨b.val, by show b.val < grid0.N; rw [N_0]; exact b.isLt⟩

theorem pt_lt (t : Fin (cfgA m g).N) : t.val < 96 := by
  have h : t.val < grid0.N := t.isLt
  rwa [N_0] at h

theorem tile_val (t : Fin (cfgA m g).N) : (tile m g t).val = t.val := by
  have h := pt_lt m g t
  refine (Pipeline.Grid.coords_val (G := grid0) t 0 (S := 1) (B := 96) (by decide) (by decide)).trans ?_
  omega

theorem tile_pt (b : Fin 96) : tile m g (pt m g b) = b := Fin.ext (tile_val m g _)

/-- A tile after the last one has no valid rows. -/
def Used : Prop := ∀ t : Fin 96, (validAt (pf m) t).toInt ≤ 0 ∨ (t.val : Int) < (tiles (pf m)).toInt

include g in
theorem tiles_nat : ((tiles (pf m)).toNat : Int) = (tiles (pf m)).toInt := by
  have := g.tiles
  rw [BitVec.toInt_eq_toNat_cond] at this ⊢
  split at this <;> split <;> omega

/-- A write-back of any window, read through its array inside the block, -/
theorem back_in {G : Pipeline.Grid} (w : Pipeline.Window sig G) (t : Fin G.N) (f : w.arr.view.ty.Contents (Elt Ideal))
    (X : (w.xblock (G.coords t)).Idx → Elt Ideal w.elt) (x : (w.xblock (G.coords t)).Idx) :
    w.arr.view.read (Elt Ideal) ((w.blk t).view.write (Elt Ideal) f X Finset.univ) ((w.rect t).emb x) = X x :=
  View.read_slice_write_emb (v := w.arr.view) (w.rect t) f X (Finset.mem_univ x)

/-- and outside it. -/
theorem back_off {G : Pipeline.Grid} (w : Pipeline.Window sig G) (t : Fin G.N) (f : w.arr.view.ty.Contents (Elt Ideal))
    (X : (w.xblock (G.coords t)).Idx → Elt Ideal w.elt) (i : w.shape.Idx) (h : ∀ x, (w.rect t).emb x ≠ i) :
    w.arr.view.read (Elt Ideal) ((w.blk t).view.write (Elt Ideal) f X Finset.univ) i = w.arr.view.read (Elt Ideal) f i :=
  View.read_slice_write_of_not_mem (v := w.arr.view) (w.rect t) f X Finset.univ (fun hm => by
    obtain ⟨x, -, hx⟩ := Finset.mem_map.mp hm
    exact h x hx)

end Cert.GateUpIdeal.Up

end
-- ==== Proof.UpValueH.lean ====
/- What the array of the hidden values may hold when the gate and up launch has ended, over the extended reals: at every row whose
   group of 128 rows has a valid row, the specified value of the staged blocks. -/
module

public import proofs.«01_k».proof.Proof.UpPoint

@[expose] public section

noncomputable section

namespace Cert.GateUpIdeal.Up

open Cert.GateUpIdeal Cert.GateUpIdeal.Gen
open Idealize.ShloMosaic hiding ix1 ix2 ix3 ix4 ix5
open Idealize.ShloMosaic.TcCoe Idealize.ShloMosaic.ValueIdx
open Idealize.SL Idealize.SL.Sem
open Idealize.ShloMosaic.Pipeline (RDat)

variable (m : (ℓ : Loc nD τ sig) → Buf (Elt Ideal) ℓ) (g : Good (pf m)) (c : Dev nD)

/-- The result's block index at a point. -/
theorem index3 (t : Fin (cfgA m g).N) : ((cfgA m g).win (3 : Fin 5)).index t = ![blockOf (pf m) (tile m g t), 0] :=
  tr3 (pf m) g _

theorem index3_inj (t u : Fin (cfgA m g).N) :
    ((cfgA m g).win (3 : Fin 5)).index t = ((cfgA m g).win (3 : Fin 5)).index u ↔ blockOf (pf m) (tile m g t) = blockOf (pf m) (tile m g u) := by
  rw [index3, index3]
  constructor
  · intro h; exact congrFun h (0 : Fin 2)
  · intro h; rw [h]

theorem flush3 (t : Fin (cfgA m g).N) : ((cfgA m g).win (3 : Fin 5)).flush t = true ↔
    (t.val + 1 = 96 ∨ ∃ h : t.val + 1 < (cfgA m g).N, blockOf (pf m) (tile m g ⟨t.val + 1, h⟩) ≠ blockOf (pf m) (tile m g t)) := by
  have hN : (cfgA m g).grid.N = 96 := N_0
  unfold Pipeline.Window.flush
  rw [show ((cfgA m g).win (3 : Fin 5)).isOut = true from rfl, Bool.true_and, Bool.or_eq_true, decide_eq_true_eq, decide_eq_true_eq]
  refine or_congr (by constructor <;> intro h <;> omega) ⟨?_, ?_⟩
  · rintro ⟨h, hne⟩; exact ⟨h, fun e => hne ((index3_inj m g _ _).mpr e)⟩
  · rintro ⟨h, hne⟩; exact ⟨h, fun e => hne ((index3_inj m g _ _).mp e)⟩

/-- The quantised hidden value at index `y` of tile `b`'s block. -/
def specAtH (b : Fin 96) (y : S512x1408.Idx) : EReal :=
  outAt (iblk m g c 0 (pt m g b)) (iblk m g c 1 (pt m g b)) (iblk m g c 2 (pt m g b)) y

/-- What the body may leave at a point whose block is `b` is the specified value in the covered rows. -/
theorem left_goodH (hu : Used m) (b : Fin 96) (y : S512x1408.Idx)
    (hy : (128 * ((y 0).val / 128 : ℕ) : Int) < (validAt (pf m) b).toInt) :
    ∀ (n : ℕ) (t : Fin (cfgA m g).N), t.val = n → blockOf (pf m) (tile m g t) = b.val →
      ∀ X : S512x1408.Idx → EReal, (rdat m g c).Leaves (3 : Fin 5) t X → X y = specAtH m g c b y := by
  have hn := tiles_nat m g
  have hg := g.tiles
  intro n
  induction n using Nat.strong_induction_on with
  | _ n ih =>
    intro t htn hb X hX
    obtain ⟨Y, hY, hXY⟩ := hX
    have hX' : X = leftH m g c t Y := hXY
    have htl := pt_lt m g t
    have htv := tile_val m g t
    unfold blockOf at hb
    rw [htv] at hb
    by_cases h : t.val = b.val
    · have et : t = pt m g b := Fin.ext h
      subst et
      rw [hX']
      unfold leftH
      refine leavesH_covered _ _ _ _ _ _ y ?_
      rw [tile_pt]; exact hy
    · have hgt : (tiles (pf m)).toNat ≤ t.val := by omega
      have hv : (validAt (pf m) (tile m g t)).toInt ≤ 0 := by
        rcases hu (tile m g t) with h1 | h1
        · exact h1
        · rw [htv] at h1; omega
      have hXe : X = Y := hX'.trans (leavesH_none _ _ _ _ _ _ hv)
      have ht0 : t.val ≠ 0 := by omega
      have hfet : ((cfgA m g).win (3 : Fin 5)).fetch t = false := rfl
      rcases ((rdat m g c).finds_of_pos hfet ht0 Y).mp hY with hfl | hle
      · exfalso
        rcases (flush3 m g _).mp hfl with h1 | ⟨h1, h2⟩
        · have h3 : t.val - 1 + 1 = 96 := h1
          omega
        · apply h2
          unfold blockOf
          rw [tile_val, tile_val]
          show min (t.val - 1 + 1) _ = min (t.val - 1) _
          omega
      · rw [hXe]
        refine ih (t.val - 1) (by omega) _ rfl ?_ Y hle
        unfold blockOf
        rw [tile_val]
        show min (t.val - 1) _ = b.val
        omega

/-- Where index `y` of block `b` lies in the result's array. -/
def placeH (b : Fin 96) (y : S512x1408.Idx) : S49152x1408.Idx :=
  ix2 ⟨512 * b.val + (y 0).val, by have := b.isLt; have h : (y 0).val < 512 := (y 0).isLt; omega⟩ ⟨(y 1).val, (y 1).isLt⟩

theorem rect3_val (t : Fin (cfgA m g).N) (y : S512x1408.Idx) (a : Fin 2) :
    ((((cfgA m g).win (3 : Fin 5)).rect t).emb y a).val = ((cfgA m g).win (3 : Fin 5)).index t a * S512x1408.size a + (y a).val := by
  rw [Rect.emb_apply]
  show ((cfgA m g).win (3 : Fin 5)).index t a * S512x1408.size a + 1 * (y a).val = _
  rw [Nat.one_mul]

theorem rect3_emb (t : Fin (cfgA m g).N) (y : S512x1408.Idx) (b : Fin 96) (hb : blockOf (pf m) (tile m g t) = b.val) :
    (((cfgA m g).win (3 : Fin 5)).rect t).emb y = placeH b y := by
  have h0 := rect3_val m g t y 0
  have h1 := rect3_val m g t y 1
  rw [index3] at h0 h1
  funext a; apply Fin.ext
  match a with
  | ⟨0, _⟩ => refine h0.trans ?_; show blockOf (pf m) (tile m g t) * 512 + (y 0).val = 512 * b.val + (y 0).val; omega
  | ⟨1, _⟩ => refine h1.trans ?_; show 0 * 1408 + _ = (y 1).val; omega

theorem read3 (G : S49152x1408.Idx → EReal) (i : S49152x1408.Idx) :
    ((cfgA m g).win (3 : Fin 5)).arr.view.read (Elt Ideal) G i = G i := rfl

/-- One write-back, read at an index of block `b`. -/
theorem write_atH (t : Fin (cfgA m g).N) (G₀ G : S49152x1408.Idx → EReal) (X : S512x1408.Idx → EReal)
    (hG : G = (((cfgA m g).win (3 : Fin 5)).blk t).view.write (Elt Ideal) G₀ (((cfgA m g).win (3 : Fin 5)).cut ((cfgA m g).grid.coords t) X) Finset.univ)
    (y : S512x1408.Idx) (b : Fin 96) :
    G (placeH b y) = if blockOf (pf m) (tile m g t) = b.val then X y else G₀ (placeH b y) := by
  rw [← read3 m g G]
  by_cases hb : blockOf (pf m) (tile m g t) = b.val
  · rw [if_pos hb, ← rect3_emb m g t y b hb, hG]
    exact back_in ((cfgA m g).win (3 : Fin 5)) t G₀ _ y
  · rw [if_neg hb, ← read3 m g G₀, hG]
    refine back_off ((cfgA m g).win (3 : Fin 5)) t G₀ _ (placeH b y) fun x hx => ?_
    have h1 := rect3_val m g t x 0
    rw [index3, hx] at h1
    have h2 : 512 * b.val + (y 0).val = blockOf (pf m) (tile m g t) * 512 + (x 0).val := h1
    have hy1 : (y 0).val < 512 := (y 0).isLt
    have hx1 : (x 0).val < 512 := (x 0).isLt
    omega

/-- What the array may hold after the points below `t`, at a block written back before `t`. -/
theorem arr_goodH (hu : Used m) (b : Fin 96) (y : S512x1408.Idx)
    (hy : (128 * ((y 0).val / 128 : ℕ) : Int) < (validAt (pf m) b).toInt) :
    ∀ (t : ℕ) (G : S49152x1408.Idx → EReal), (rdat m g c).ArrAt (3 : Fin 5) t G →
      (∃ u : Fin (cfgA m g).N, u.val < t ∧ ((cfgA m g).win (3 : Fin 5)).flush u = true ∧ blockOf (pf m) (tile m g u) = b.val) →
      G (placeH b y) = specAtH m g c b y
  | 0, G, _, ⟨u, hu0, _⟩ => absurd hu0 (Nat.not_lt_zero _)
  | t + 1, G, hG, ⟨u, hut, hfl, hub⟩ => by
    unfold RDat.ArrAt at hG
    simp only at hG
    by_cases h : t < (cfgA m g).N
    · rw [dif_pos h] at hG
      by_cases hf : ((cfgA m g).win (3 : Fin 5)).flush ⟨t, h⟩ = true
      · rw [if_pos hf] at hG
        obtain ⟨G₀, X, hG₀, hX, hGe⟩ := hG
        refine (write_atH m g ⟨t, h⟩ G₀ G X hGe y b).trans ?_
        by_cases hbt : blockOf (pf m) (tile m g ⟨t, h⟩) = b.val
        · rw [if_pos hbt]
          exact left_goodH m g c hu b y hy t ⟨t, h⟩ rfl hbt X hX
        · rw [if_neg hbt]
          refine arr_goodH hu b y hy t G₀ hG₀ ⟨u, ?_, hfl, hub⟩
          rcases Nat.lt_succ_iff_lt_or_eq.mp hut with h1 | h1
          · exact h1
          · exact absurd (by have : u = ⟨t, h⟩ := Fin.ext h1; rw [← this]; exact hub) hbt
      · rw [if_neg hf] at hG
        refine arr_goodH hu b y hy t G hG ⟨u, ?_, hfl, hub⟩
        rcases Nat.lt_succ_iff_lt_or_eq.mp hut with h1 | h1
        · exact h1
        · exact absurd (by have : u = ⟨t, h⟩ := Fin.ext h1; rw [← this]; exact hfl) hf
    · rw [dif_neg h] at hG
      exact arr_goodH hu b y hy t G hG ⟨u, lt_of_lt_of_le u.isLt (Nat.not_lt.mp h), hfl, hub⟩

/-- The result's array at the end, at a covered row of a tile. -/
theorem end_goodH (hu : Used m) (b : Fin 96) (y : S512x1408.Idx)
    (hy : (128 * ((y 0).val / 128 : ℕ) : Int) < (validAt (pf m) b).toInt) (G : S49152x1408.Idx → EReal)
    (hG : (rdat m g c).ArrAt (3 : Fin 5) (cfgA m g).N G) : G (placeH b y) = specAtH m g c b y := by
  have hn := tiles_nat m g
  have hN : (cfgA m g).N = 96 := N_0
  refine arr_goodH m g c hu b y hy (cfgA m g).N G hG ?_
  have hb := b.isLt
  have hlt : b.val < (tiles (pf m)).toNat := by
    rcases hu b with h | h
    · omega
    · omega
  by_cases h : min 95 ((tiles (pf m)).toNat - 1) = b.val
  · refine ⟨pt m g 95, (pt m g 95).isLt, (flush3 m g _).mpr (.inl rfl), ?_⟩
    rw [tile_pt]; exact h
  · refine ⟨pt m g b, (pt m g b).isLt, (flush3 m g _).mpr (.inr ⟨?_, ?_⟩), ?_⟩
    · refine lt_of_lt_of_eq ?_ hN.symm; show b.val + 1 < 96; omega
    · unfold blockOf
      rw [tile_val, tile_val]
      show min (b.val + 1) _ ≠ min b.val _
      omega
    · rw [tile_pt]; unfold blockOf; omega

end Cert.GateUpIdeal.Up

end
-- ==== Proof.UpValueW.lean ====
/- What the array of the row weights may hold when the gate and up launch has ended, over the extended reals: at every row whose
   group of 128 rows has a valid row, the specified value of the staged blocks. -/
module

public import proofs.«01_k».proof.Proof.UpPoint

@[expose] public section

noncomputable section

namespace Cert.GateUpIdeal.Up

open Cert.GateUpIdeal Cert.GateUpIdeal.Gen
open Idealize.ShloMosaic hiding ix1 ix2 ix3 ix4 ix5
open Idealize.ShloMosaic.TcCoe Idealize.ShloMosaic.ValueIdx
open Idealize.SL Idealize.SL.Sem
open Idealize.ShloMosaic.Pipeline (RDat)

variable (m : (ℓ : Loc nD τ sig) → Buf (Elt Ideal) ℓ) (g : Good (pf m)) (c : Dev nD)

/-- The result's block index at a point. -/
theorem index4 (t : Fin (cfgA m g).N) : ((cfgA m g).win (4 : Fin 5)).index t = ![blockOf (pf m) (tile m g t), 0] :=
  tr4 (pf m) g _

theorem index4_inj (t u : Fin (cfgA m g).N) :
    ((cfgA m g).win (4 : Fin 5)).index t = ((cfgA m g).win (4 : Fin 5)).index u ↔ blockOf (pf m) (tile m g t) = blockOf (pf m) (tile m g u) := by
  rw [index4, index4]
  constructor
  · intro h; exact congrFun h (0 : Fin 2)
  · intro h; rw [h]

theorem flush4 (t : Fin (cfgA m g).N) : ((cfgA m g).win (4 : Fin 5)).flush t = true ↔
    (t.val + 1 = 96 ∨ ∃ h : t.val + 1 < (cfgA m g).N, blockOf (pf m) (tile m g ⟨t.val + 1, h⟩) ≠ blockOf (pf m) (tile m g t)) := by
  have hN : (cfgA m g).grid.N = 96 := N_0
  unfold Pipeline.Window.flush
  rw [show ((cfgA m g).win (4 : Fin 5)).isOut = true from rfl, Bool.true_and, Bool.or_eq_true, decide_eq_true_eq, decide_eq_true_eq]
  refine or_congr (by constructor <;> intro h <;> omega) ⟨?_, ?_⟩
  · rintro ⟨h, hne⟩; exact ⟨h, fun e => hne ((index4_inj m g _ _).mpr e)⟩
  · rintro ⟨h, hne⟩; exact ⟨h, fun e => hne ((index4_inj m g _ _).mp e)⟩

/-- The weight at index `y` of tile `b`'s block. -/
def specAtW (b : Fin 96) (y : S512x128.Idx) : EReal :=
  wtAt (iblk m g c 0 (pt m g b)) (expertAt (pf m) b) y

/-- What the body may leave at a point whose block is `b` is the specified value in the covered rows. -/
theorem left_goodW (hu : Used m) (b : Fin 96) (y : S512x128.Idx)
    (hy : (128 * ((y 0).val / 128 : ℕ) : Int) < (validAt (pf m) b).toInt) :
    ∀ (n : ℕ) (t : Fin (cfgA m g).N), t.val = n → blockOf (pf m) (tile m g t) = b.val →
      ∀ X : S512x128.Idx → EReal, (rdat m g c).Leaves (4 : Fin 5) t X → X y = specAtW m g c b y := by
  have hn := tiles_nat m g
  have hg := g.tiles
  intro n
  induction n using Nat.strong_induction_on with
  | _ n ih =>
    intro t htn hb X hX
    obtain ⟨Y, hY, hXY⟩ := hX
    have hX' : X = leftW m g c t Y := hXY
    have htl := pt_lt m g t
    have htv := tile_val m g t
    unfold blockOf at hb
    rw [htv] at hb
    by_cases h : t.val = b.val
    · have et : t = pt m g b := Fin.ext h
      subst et
      rw [hX']
      unfold leftW
      refine (leavesW_covered _ _ _ _ _ y (by rw [tile_pt]; exact hy)).trans ?_
      unfold specAtW
      rw [tile_pt]
    · have hgt : (tiles (pf m)).toNat ≤ t.val := by omega
      have hv : (validAt (pf m) (tile m g t)).toInt ≤ 0 := by
        rcases hu (tile m g t) with h1 | h1
        · exact h1
        · rw [htv] at h1; omega
      have hXe : X = Y := hX'.trans (leavesW_none _ _ _ _ _ hv)
      have ht0 : t.val ≠ 0 := by omega
      have hfet : ((cfgA m g).win (4 : Fin 5)).fetch t = false := rfl
      rcases ((rdat m g c).finds_of_pos hfet ht0 Y).mp hY with hfl | hle
      · exfalso
        rcases (flush4 m g _).mp hfl with h1 | ⟨h1, h2⟩
        · have h3 : t.val - 1 + 1 = 96 := h1
          omega
        · apply h2
          unfold blockOf
          rw [tile_val, tile_val]
          show min (t.val - 1 + 1) _ = min (t.val - 1) _
          omega
      · rw [hXe]
        refine ih (t.val - 1) (by omega) _ rfl ?_ Y hle
        unfold blockOf
        rw [tile_val]
        show min (t.val - 1) _ = b.val
        omega

/-- Where index `y` of block `b` lies in the result's array. -/
def placeW (b : Fin 96) (y : S512x128.Idx) : S49152x128.Idx :=
  ix2 ⟨512 * b.val + (y 0).val, by have := b.isLt; have h : (y 0).val < 512 := (y 0).isLt; omega⟩ ⟨(y 1).val, (y 1).isLt⟩

theorem rect4_val (t : Fin (cfgA m g).N) (y : S512x128.Idx) (a : Fin 2) :
    ((((cfgA m g).win (4 : Fin 5)).rect t).emb y a).val = ((cfgA m g).win (4 : Fin 5)).index t a * S512x128.size a + (y a).val := by
  rw [Rect.emb_apply]
  show ((cfgA m g).win (4 : Fin 5)).index t a * S512x128.size a + 1 * (y a).val = _
  rw [Nat.one_mul]

theorem rect4_emb (t : Fin (cfgA m g).N) (y : S512x128.Idx) (b : Fin 96) (hb : blockOf (pf m) (tile m g t) = b.val) :
    (((cfgA m g).win (4 : Fin 5)).rect t).emb y = placeW b y := by
  have h0 := rect4_val m g t y 0
  have h1 := rect4_val m g t y 1
  rw [index4] at h0 h1
  funext a; apply Fin.ext
  match a with
  | ⟨0, _⟩ => refine h0.trans ?_; show blockOf (pf m) (tile m g t) * 512 + (y 0).val = 512 * b.val + (y 0).val; omega
  | ⟨1, _⟩ => refine h1.trans ?_; show 0 * 128 + _ = (y 1).val; omega

theorem read4 (G : S49152x128.Idx → EReal) (i : S49152x128.Idx) :
    ((cfgA m g).win (4 : Fin 5)).arr.view.read (Elt Ideal) G i = G i := rfl

/-- One write-back, read at an index of block `b`. -/
theorem write_atW (t : Fin (cfgA m g).N) (G₀ G : S49152x128.Idx → EReal) (X : S512x128.Idx → EReal)
    (hG : G = (((cfgA m g).win (4 : Fin 5)).blk t).view.write (Elt Ideal) G₀ (((cfgA m g).win (4 : Fin 5)).cut ((cfgA m g).grid.coords t) X) Finset.univ)
    (y : S512x128.Idx) (b : Fin 96) :
    G (placeW b y) = if blockOf (pf m) (tile m g t) = b.val then X y else G₀ (placeW b y) := by
  rw [← read4 m g G]
  by_cases hb : blockOf (pf m) (tile m g t) = b.val
  · rw [if_pos hb, ← rect4_emb m g t y b hb, hG]
    exact back_in ((cfgA m g).win (4 : Fin 5)) t G₀ _ y
  · rw [if_neg hb, ← read4 m g G₀, hG]
    refine back_off ((cfgA m g).win (4 : Fin 5)) t G₀ _ (placeW b y) fun x hx => ?_
    have h1 := rect4_val m g t x 0
    rw [index4, hx] at h1
    have h2 : 512 * b.val + (y 0).val = blockOf (pf m) (tile m g t) * 512 + (x 0).val := h1
    have hy1 : (y 0).val < 512 := (y 0).isLt
    have hx1 : (x 0).val < 512 := (x 0).isLt
    omega

/-- What the array may hold after the points below `t`, at a block written back before `t`. -/
theorem arr_goodW (hu : Used m) (b : Fin 96) (y : S512x128.Idx)
    (hy : (128 * ((y 0).val / 128 : ℕ) : Int) < (validAt (pf m) b).toInt) :
    ∀ (t : ℕ) (G : S49152x128.Idx → EReal), (rdat m g c).ArrAt (4 : Fin 5) t G →
      (∃ u : Fin (cfgA m g).N, u.val < t ∧ ((cfgA m g).win (4 : Fin 5)).flush u = true ∧ blockOf (pf m) (tile m g u) = b.val) →
      G (placeW b y) = specAtW m g c b y
  | 0, G, _, ⟨u, hu0, _⟩ => absurd hu0 (Nat.not_lt_zero _)
  | t + 1, G, hG, ⟨u, hut, hfl, hub⟩ => by
    unfold RDat.ArrAt at hG
    simp only at hG
    by_cases h : t < (cfgA m g).N
    · rw [dif_pos h] at hG
      by_cases hf : ((cfgA m g).win (4 : Fin 5)).flush ⟨t, h⟩ = true
      · rw [if_pos hf] at hG
        obtain ⟨G₀, X, hG₀, hX, hGe⟩ := hG
        refine (write_atW m g ⟨t, h⟩ G₀ G X hGe y b).trans ?_
        by_cases hbt : blockOf (pf m) (tile m g ⟨t, h⟩) = b.val
        · rw [if_pos hbt]
          exact left_goodW m g c hu b y hy t ⟨t, h⟩ rfl hbt X hX
        · rw [if_neg hbt]
          refine arr_goodW hu b y hy t G₀ hG₀ ⟨u, ?_, hfl, hub⟩
          rcases Nat.lt_succ_iff_lt_or_eq.mp hut with h1 | h1
          · exact h1
          · exact absurd (by have : u = ⟨t, h⟩ := Fin.ext h1; rw [← this]; exact hub) hbt
      · rw [if_neg hf] at hG
        refine arr_goodW hu b y hy t G hG ⟨u, ?_, hfl, hub⟩
        rcases Nat.lt_succ_iff_lt_or_eq.mp hut with h1 | h1
        · exact h1
        · exact absurd (by have : u = ⟨t, h⟩ := Fin.ext h1; rw [← this]; exact hfl) hf
    · rw [dif_neg h] at hG
      exact arr_goodW hu b y hy t G hG ⟨u, lt_of_lt_of_le u.isLt (Nat.not_lt.mp h), hfl, hub⟩

/-- The result's array at the end, at a covered row of a tile. -/
theorem end_goodW (hu : Used m) (b : Fin 96) (y : S512x128.Idx)
    (hy : (128 * ((y 0).val / 128 : ℕ) : Int) < (validAt (pf m) b).toInt) (G : S49152x128.Idx → EReal)
    (hG : (rdat m g c).ArrAt (4 : Fin 5) (cfgA m g).N G) : G (placeW b y) = specAtW m g c b y := by
  have hn := tiles_nat m g
  have hN : (cfgA m g).N = 96 := N_0
  refine arr_goodW m g c hu b y hy (cfgA m g).N G hG ?_
  have hb := b.isLt
  have hlt : b.val < (tiles (pf m)).toNat := by
    rcases hu b with h | h
    · omega
    · omega
  by_cases h : min 95 ((tiles (pf m)).toNat - 1) = b.val
  · refine ⟨pt m g 95, (pt m g 95).isLt, (flush4 m g _).mpr (.inl rfl), ?_⟩
    rw [tile_pt]; exact h
  · refine ⟨pt m g b, (pt m g b).isLt, (flush4 m g _).mpr (.inr ⟨?_, ?_⟩), ?_⟩
    · refine lt_of_lt_of_eq ?_ hN.symm; show b.val + 1 < 96; omega
    · unfold blockOf
      rw [tile_val, tile_val]
      show min (b.val + 1) _ ≠ min b.val _
      omega
    · rw [tile_pt]; unfold blockOf; omega

end Cert.GateUpIdeal.Up

end
-- ==== Proof.UpElem.lean ====
/- The specified values of the gate and up projections, read off the arrays as launched.

   `iblk0`, `iblk1`, `iblk2`: the entries of the three input blocks staged at tile `b`; `specAtH_eq`, `specAtW_eq`: the
   values in those terms. -/
module

public import proofs.«01_k».proof.Proof.UpValueH
public import proofs.«01_k».proof.Proof.UpValueW

@[expose] public section

noncomputable section

namespace Cert.GateUpIdeal.Up

open Cert.GateUpIdeal Cert.GateUpIdeal.Gen
open Idealize.ShloMosaic hiding ix1 ix2 ix3 ix4 ix5
open Idealize.ShloMosaic.TcCoe Idealize.ShloMosaic.ValueIdx
open Idealize.SL Idealize.SL.Sem
open Idealize.ShloMosaic.Pipeline (RDat)

variable (m : (ℓ : Loc nD τ sig) → Buf (Elt Ideal) ℓ) (g : Good (pf m)) (c : Dev nD)

theorem read_in {G : Pipeline.Grid} (w : Pipeline.Window sig G) (t : Fin G.N) (f : w.arr.view.ty.Contents (Elt Ideal))
    (x : (w.xblock (G.coords t)).Idx) :
    (w.blk t).view.read (Elt Ideal) f x = w.arr.view.read (Elt Ideal) f ((w.rect t).emb x) := rfl

theorem read0 (G : S49152x2176.Idx → BitVec 32) (i : S49152x2176.Idx) :
    ((cfgA m g).win (0 : Fin 5)).arr.view.read (Elt Ideal) G i = G i := rfl
theorem read1 (G : S32x4096x2816.Idx → EReal) (i : S32x4096x2816.Idx) :
    ((cfgA m g).win (1 : Fin 5)).arr.view.read (Elt Ideal) G i = G i := rfl
theorem read2 (G : S32x32x22.Idx → EReal) (i : S32x32x22.Idx) :
    ((cfgA m g).win (2 : Fin 5)).arr.view.read (Elt Ideal) G i = G i := rfl

theorem index0 (t : Fin (cfgA m g).N) : ((cfgA m g).win (0 : Fin 5)).index t = ![blockOf (pf m) (tile m g t), 0] :=
  tr0 (pf m) g _
theorem index1 (t : Fin (cfgA m g).N) : ((cfgA m g).win (1 : Fin 5)).index t = ![(expertAt (pf m) (tile m g t)).toNat, 0, 0] :=
  tr1 (pf m) _
theorem index2 (t : Fin (cfgA m g).N) : ((cfgA m g).win (2 : Fin 5)).index t = ![(expertAt (pf m) (tile m g t)).toNat, 0, 0] :=
  tr2 (pf m) _

theorem rect_val0 (t : Fin (cfgA m g).N) (y : S512x2176.Idx) (a : Fin 2) :
    ((((cfgA m g).win (0 : Fin 5)).rect t).emb y a).val = ((cfgA m g).win (0 : Fin 5)).index t a * S512x2176.size a + (y a).val := by
  rw [Rect.emb_apply]
  show ((cfgA m g).win (0 : Fin 5)).index t a * S512x2176.size a + 1 * (y a).val = _
  rw [Nat.one_mul]
theorem rect_val1 (t : Fin (cfgA m g).N) (y : S1x4096x2816.Idx) (a : Fin 3) :
    ((((cfgA m g).win (1 : Fin 5)).rect t).emb y a).val = ((cfgA m g).win (1 : Fin 5)).index t a * S1x4096x2816.size a + (y a).val := by
  rw [Rect.emb_apply]
  show ((cfgA m g).win (1 : Fin 5)).index t a * S1x4096x2816.size a + 1 * (y a).val = _
  rw [Nat.one_mul]
theorem rect_val2 (t : Fin (cfgA m g).N) (y : S1x32x22.Idx) (a : Fin 3) :
    ((((cfgA m g).win (2 : Fin 5)).rect t).emb y a).val = ((cfgA m g).win (2 : Fin 5)).index t a * S1x32x22.size a + (y a).val := by
  rw [Rect.emb_apply]
  show ((cfgA m g).win (2 : Fin 5)).index t a * S1x32x22.size a + 1 * (y a).val = _
  rw [Nat.one_mul]

/-- Row `r` of tile `b`. -/
def rowOf (b : Fin 96) (r : Fin 512) : Fin 49152 := ⟨512 * b.val + r.val, by have := b.isLt; have := r.isLt; omega⟩
/-- The expert of tile `b`. -/
def expOf (b : Fin 96) : Fin 32 := ⟨(expertAt (pf m) b).toNat, g.expert b⟩

/-- The rows staged at tile `b` are its rows. -/
theorem iblk0 (b : Fin 96) (hb : blockOf (pf m) b = b.val) (r : Fin 512) (f : Fin 2176) :
    (iblk m g c 0 (pt m g b) : S512x2176.Idx → BitVec 32) (ix2 r f)
      = (m ((c.tc : Thread nD τ).loc main_arg3) : S49152x2176.Idx → BitVec 32) (ix2 (rowOf b r) f) := by
  have h0 := rect_val0 m g (pt m g b) (ix2 r f) 0
  have h1 := rect_val0 m g (pt m g b) (ix2 r f) 1
  rw [index0, tile_pt, hb] at h0 h1
  refine (read_in ((cfgA m g).win (0 : Fin 5)) (pt m g b) _ (ix2 r f)).trans ((read0 m g _ _).trans (congrArg _ ?_))
  funext a; apply Fin.ext
  match a with
  | ⟨0, _⟩ => refine h0.trans ?_; show b.val * 512 + r.val = 512 * b.val + r.val; omega
  | ⟨1, _⟩ => refine h1.trans ?_; show 0 * 2176 + f.val = f.val; omega

/-- The codes staged are the tile's expert's. -/
theorem iblk1 (b : Fin 96) (i : Fin 4096) (j : Fin 2816) :
    (iblk m g c 1 (pt m g b) : S1x4096x2816.Idx → EReal) (ix3 0 i j)
      = (m ((c.tc : Thread nD τ).loc main_arg4) : S32x4096x2816.Idx → EReal) (ix3 (expOf m g b) i j) := by
  have h0 := rect_val1 m g (pt m g b) (ix3 0 i j) 0
  have h1 := rect_val1 m g (pt m g b) (ix3 0 i j) 1
  have h2 := rect_val1 m g (pt m g b) (ix3 0 i j) 2
  rw [index1, tile_pt] at h0 h1 h2
  refine (read_in ((cfgA m g).win (1 : Fin 5)) (pt m g b) _ (ix3 0 i j)).trans ((read1 m g _ _).trans (congrArg _ ?_))
  funext a; apply Fin.ext
  match a with
  | ⟨0, _⟩ => refine h0.trans ?_; show (expertAt (pf m) b).toNat * 1 + 0 = (expertAt (pf m) b).toNat; omega
  | ⟨1, _⟩ => refine h1.trans ?_; show 0 * 4096 + i.val = i.val; omega
  | ⟨2, _⟩ => refine h2.trans ?_; show 0 * 2816 + j.val = j.val; omega

/-- So are the scales. -/
theorem iblk2 (b : Fin 96) (i : Fin 32) (j : Fin 22) :
    (iblk m g c 2 (pt m g b) : S1x32x22.Idx → EReal) (ix3 0 i j)
      = (m ((c.tc : Thread nD τ).loc main_arg5) : S32x32x22.Idx → EReal) (ix3 (expOf m g b) i j) := by
  have h0 := rect_val2 m g (pt m g b) (ix3 0 i j) 0
  have h1 := rect_val2 m g (pt m g b) (ix3 0 i j) 1
  have h2 := rect_val2 m g (pt m g b) (ix3 0 i j) 2
  rw [index2, tile_pt] at h0 h1 h2
  refine (read_in ((cfgA m g).win (2 : Fin 5)) (pt m g b) _ (ix3 0 i j)).trans ((read2 m g _ _).trans (congrArg _ ?_))
  funext a; apply Fin.ext
  match a with
  | ⟨0, _⟩ => refine h0.trans ?_; show (expertAt (pf m) b).toNat * 1 + 0 = (expertAt (pf m) b).toNat; omega
  | ⟨1, _⟩ => refine h1.trans ?_; show 0 * 32 + i.val = i.val; omega
  | ⟨2, _⟩ => refine h2.trans ?_; show 0 * 22 + j.val = j.val; omega

/-- Row `p` of the packed rows, and the codes and scales of expert `e`. -/
def rowW (x : S49152x2176.Idx → BitVec 32) (p : Fin 49152) : Fin 2176 → BitVec 32 := fun k => x (ix2 p k)
def codesOf (w : S32x4096x2816.Idx → EReal) (e : Fin 32) : Fin 4096 → Fin 2816 → EReal := fun d f => w (ix3 e d f)
def scalesAt (s : S32x32x22.Idx → EReal) (e : Fin 32) : Fin 32 → Fin 22 → EReal := fun i j => s (ix3 e i j)

theorem specAtH_eq (b : Fin 96) (hb : blockOf (pf m) b = b.val) (y : S512x1408.Idx) :
    specAtH m g c b y = UpSpec.out (rowW (m ((c.tc : Thread nD τ).loc main_arg3)) (rowOf b (y 0)))
      (codesOf (m ((c.tc : Thread nD τ).loc main_arg4)) (expOf m g b)) (scalesAt (m ((c.tc : Thread nD τ).loc main_arg5)) (expOf m g b)) (y 1) := by
  unfold specAtH outAt
  have hx : words (iblk m g c 0 (pt m g b)) (y 0) = rowW (m ((c.tc : Thread nD τ).loc main_arg3)) (rowOf b (y 0)) :=
    funext fun k => iblk0 m g c b hb (y 0) k
  have hw : codes (iblk m g c 1 (pt m g b)) = codesOf (m ((c.tc : Thread nD τ).loc main_arg4)) (expOf m g b) :=
    funext fun d => funext fun f => iblk1 m g c b d f
  have hs : scales (iblk m g c 2 (pt m g b)) = scalesAt (m ((c.tc : Thread nD τ).loc main_arg5)) (expOf m g b) :=
    funext fun d => funext fun f => iblk2 m g c b d f
  rw [hx, hw, hs]

theorem specAtW_eq (b : Fin 96) (hb : blockOf (pf m) b = b.val) (y : S512x128.Idx) :
    specAtW m g c b y = UpSpec.weight (rowW (m ((c.tc : Thread nD τ).loc main_arg3)) (rowOf b (y 0))) (expertAt (pf m) b) := by
  unfold specAtW wtAt
  have hx : words (iblk m g c 0 (pt m g b)) (y 0) = rowW (m ((c.tc : Thread nD τ).loc main_arg3)) (rowOf b (y 0)) :=
    funext fun k => iblk0 m g c b hb (y 0) k
  rw [hx]

end Cert.GateUpIdeal.Up

end
-- ==== Proof.UpRefRun.lean ====
/- The gate and up reference's host operations before, between and after its two calls, as terms, and what its two result
   arrays end holding over the extended reals. -/
module

public import proofs.«01_k».proof.Proof.Gen.GateUpReferenceIdeal.Frame
public import Idealize.ShloMosaic.Lib.StableHlo.RunRead
public import Idealize.ShloMosaic.Lib.Pipeline.ValueKit
public import Idealize.ShloMosaic.Lib.Claim

@[expose] public section

set_option maxRecDepth 16384

noncomputable section

namespace Cert.GateUpReferenceIdeal.Up

open Cert.GateUpReferenceIdeal Cert.GateUpReferenceIdeal.Gen
open Idealize.ShloMosaic Idealize.ShloMosaic.TcCoe
open Idealize.SL Idealize.SL.Sem

variable {F : FTy → Type} [FloatOps F]

/-! ## The terms -/

/-- Every row's expert. -/
def experts (e : S96.Idx → BitVec 32) : S49152.Idx → BitVec 32 :=
  shapeCast S49152 (broadcastInDim S96x512 ![0, 1] bcast_S96x1_S96x512_0_1 (broadcastInDim S96x1 ![0] bcast_S96_S96x1_0 e))
    shapeCasts_S96x512_S49152

/-- Every row's weight: its expert's lane. -/
def weights (e : S96.Idx → BitVec 32) (x : S49152x2176.Idx → BitVec 32) : Vec F S49152 .f32 :=
  Host.reduceAdd (select (cmpi .eq (iotaInDim S49152x128 32 1)
      (broadcastInDim S49152x128 ![0, 1] bcast_S49152x1_S49152x128_0_1 (broadcastInDim S49152x1 ![0] bcast_S49152_S49152x1_0 (experts e))))
      (bitcastToFloat .f32 (extractStridedSlice S49152x128 ![0, 2048] x slices_S49152x2176_S49152x128_0_2048) : FVec F S49152x128 .f32)
      (broadcastInDim S49152x128 ![] bcast_S_S49152x128 (constant S_ .f32 0x00000000#32 : FVec F S_ .f32)))
    (constant S_ .f32 0x00000000#32) reducesTo_S49152x128_S49152_d1 h_S_

/-- Every row's activations, unpacked. -/
def acts (x : S49152x2176.Idx → BitVec 32) : Vec F S49152x4096 .bf16 :=
  shapeCast S49152x4096 (transpose S49152x2x2048 [0, 2, 1]
    (bitcastToFloat .bf16 (Host.bitcastConvertNarrow S49152x2048x2 16 (extractStridedSlice S49152x2048 ![0, 0] x slices_S49152x2176_S49152x2048_0_0)
      splits_S49152x2048_w32_S49152x2048x2_w16) : FVec F S49152x2048x2 .bf16) transposes_S49152x2048x2_S49152x2x2048_0_2_1)
    shapeCasts_S49152x2x2048_S49152x4096

/-- Every row's product with every expert's dequantised weights. -/
def products (W : Vec F S32x4096x2816 .bf16) (S : Vec F S32x32x22 .bf16) (h : Vec F S49152x4096 .bf16) : Vec F S32x49152x2816 .f32 :=
  transpose S32x49152x2816 [0, 2, 1]
    (Host.dotGeneral dot_S32x4096x2816_S49152x4096_S32x2816x49152_1_1_02_0_n_n none
      (mulf W (shapeCast S32x4096x2816 (broadcastInDim S32x32x128x22x128 ![0, 1, 2, 3, 4] bcast_S32x32x1x22x1_S32x32x128x22x128_0_1_2_3_4
        (broadcastInDim S32x32x1x22x1 ![0, 1, 3] bcast_S32x32x22_S32x32x1x22x1_0_1_3 S)) shapeCasts_S32x32x128x22x128_S32x4096x2816)) h)
    transposes_S32x2816x49152_S32x49152x2816_0_2_1

/-- Every row's product with its own expert's. -/
def chosen (r : S49152.Idx → BitVec 32) (P : Vec F S32x49152x2816 .f32) : Vec F S49152x2816 .f32 :=
  Host.reduceAdd (select (cmpi .eq (iotaInDim S32x49152x2816 32 0)
      (broadcastInDim S32x49152x2816 ![0, 1, 2] bcast_S1x49152x1_S32x49152x2816_0_1_2 (broadcastInDim S1x49152x1 ![1] bcast_S49152_S1x49152x1_1 r))) P
      (broadcastInDim S32x49152x2816 ![] bcast_S_S32x49152x2816 (constant S_ .f32 0x00000000#32 : FVec F S_ .f32)))
    (constant S_ .f32 0x00000000#32) reducesTo_S32x49152x2816_S49152x2816_d0 h_S_

/-- silu of the left half times the right half, in groups of 128. -/
def hidden (g : Vec F S49152x2816 .f32) : Vec F S49152x11x128 .f32 :=
  shapeCast S49152x11x128 (mulf (mulf (extractStridedSlice S49152x1408 ![0, 0] g slices_S49152x2816_S49152x1408_0_0 : FVec F S49152x1408 .f32)
      (Host.divf (broadcastInDim S49152x1408 ![] bcast_S_S49152x1408 (constant S_ .f32 0x3F800000#32 : FVec F S_ .f32))
        (addf (broadcastInDim S49152x1408 ![] bcast_S_S49152x1408 (constant S_ .f32 0x3F800000#32 : FVec F S_ .f32))
          (Host.exp (Host.negf (extractStridedSlice S49152x1408 ![0, 0] g slices_S49152x2816_S49152x1408_0_0 : FVec F S49152x1408 .f32))))))
    (extractStridedSlice S49152x1408 ![0, 1408] g slices_S49152x2816_S49152x1408_0_1408 : FVec F S49152x1408 .f32))
    shapeCasts_S49152x1408_S49152x11x128

/-- Every group's largest magnitude. -/
def tops (h : Vec F S49152x11x128 .f32) : Vec F S49152x11 .f32 :=
  Host.reduce FloatOps.maximumf (Host.absf h : FVec F S49152x11x128 .f32) (constant S_ .f32 0xFF800000#32 : FVec F S_ .f32)
    reducesTo_S49152x11x128_S49152x11_d2 h_S_

/-- Every group's scale: the least power of two of the table `C` above its peak. -/
def scales (C : Vec F S247 .f32) (a : Vec F S49152x11 .f32) : Vec F S49152x11 .f32 :=
  select (cmpf .oeq a (broadcastInDim S49152x11 ![] bcast_S_S49152x11 (constant S_ .f32 0x00000000#32 : FVec F S_ .f32)))
    (broadcastInDim S49152x11 ![] bcast_S_S49152x11 (constant S_ .f32 0x3F800000#32 : FVec F S_ .f32))
    (Host.reduce FloatOps.minimumf (select (cmpf .ogt (broadcastInDim S49152x11x247 ![2] bcast_S247_S49152x11x247_2 C : FVec F S49152x11x247 .f32)
        (broadcastInDim S49152x11x247 ![0, 1, 2] bcast_S49152x11x1_S49152x11x247_0_1_2 (broadcastInDim S49152x11x1 ![0, 1] bcast_S49152x11_S49152x11x1_0_1
          (mulf a (broadcastInDim S49152x11 ![] bcast_S_S49152x11 (constant S_ .f32 0x3B124925#32 : FVec F S_ .f32)))) : FVec F S49152x11x247 .f32))
        (broadcastInDim S49152x11x247 ![2] bcast_S247_S49152x11x247_2 C : FVec F S49152x11x247 .f32)
        (broadcastInDim S49152x11x247 ![] bcast_S_S49152x11x247 (constant S_ .f32 0x7B800000#32 : FVec F S_ .f32)))
      (constant S_ .f32 0x7F800000#32 : FVec F S_ .f32) reducesTo_S49152x11x247_S49152x11_d2 h_S_)

/-- Every value over its group's scale, clipped. -/
def clipped (h : Vec F S49152x11x128 .f32) (s : Vec F S49152x11 .f32) : Vec F S49152x11x128 .f32 :=
  minimumf (maximumf (mulf h (broadcastInDim S49152x11x128 ![0, 1, 2] bcast_S49152x11x1_S49152x11x128_0_1_2
      (broadcastInDim S49152x11x1 ![0, 1] bcast_S49152x11_S49152x11x1_0_1
        (Host.divf (broadcastInDim S49152x11 ![] bcast_S_S49152x11 (constant S_ .f32 0x3F800000#32 : FVec F S_ .f32)) s))))
      (broadcastInDim S49152x11x128 ![] bcast_S_S49152x11x128 (constant S_ .f32 0xC3E00000#32 : FVec F S_ .f32)))
    (broadcastInDim S49152x11x128 ![] bcast_S_S49152x11x128 (constant S_ .f32 0x43E00000#32 : FVec F S_ .f32))

/-- The rounded values times their group's scale. -/
def scaled (q : Vec F S49152x11x128 .bf16) (s : Vec F S49152x11 .f32) : Vec F S49152x1408 .bf16 :=
  shapeCast S49152x1408 (mulf q (broadcastInDim S49152x11x128 ![0, 1, 2] bcast_S49152x11x1_S49152x11x128_0_1_2
    (broadcastInDim S49152x11x1 ![0, 1] bcast_S49152x11_S49152x11x1_0_1 (truncf .bf16 (s : FVec F S49152x11 .f32) bitsLt_bf16_f32 : FVec F S49152x11 .bf16))))
    shapeCasts_S49152x11x128_S49152x1408

/-- A row's weight on every lane. -/
def spread (w : Vec F S49152 .f32) : Vec F S49152x128 .f32 :=
  broadcastInDim S49152x128 ![0, 1] bcast_S49152x1_S49152x128_0_1 (broadcastInDim S49152x1 ![0] bcast_S49152_S49152x1_0 w)

/-! ## The stretches -/

/-- The powers of two. -/
def table : Vec F S247 .f32 := fun i => FloatOps.ofBits .f32 (lit0 (S247.rowMajor i))

theorem head_table (V : Valuation τ sig (Elt F)) : StableHlo.after hostOps0 V (Proc.devRef .tc main_cst) = table := by
  unfold hostOps0
  after_reads_simp
  rfl

theorem head_experts (V : Valuation τ sig (Elt F)) :
    StableHlo.after hostOps0 V (Proc.devRef .tc main_v2) = experts (V (Proc.devRef .tc main_arg0)) := by
  unfold hostOps0
  after_reads_simp
  rfl

theorem head_weights (V : Valuation τ sig (Elt F)) :
    StableHlo.after hostOps0 V (Proc.devRef .tc main_v11) = weights (V (Proc.devRef .tc main_arg0)) (V (Proc.devRef .tc main_arg3)) := by
  unfold hostOps0
  after_reads_simp
  rfl

theorem head_acts (V : Valuation τ sig (Elt F)) :
    StableHlo.after hostOps0 V (Proc.devRef .tc main_v15) = acts (V (Proc.devRef .tc main_arg3)) := by
  unfold hostOps0
  after_reads_simp
  rfl

theorem head_scales (V : Valuation τ sig (Elt F)) :
    StableHlo.after hostOps0 V (Proc.devRef .tc main_v16) = truncf .bf16 (V (Proc.devRef .tc main_arg5)) bitsLt_bf16_f32 := by
  unfold hostOps0
  after_reads_simp

/-- The hidden values, from the contents before the middle stretch. -/
def hiddenAt (V : Valuation τ sig (Elt F)) : Vec F S49152x11x128 .f32 :=
  hidden (chosen (V (Proc.devRef .tc main_v2)) (products (V (Proc.devRef .tc main_v17)) (V (Proc.devRef .tc main_v16)) (V (Proc.devRef .tc main_v15))))

set_option maxHeartbeats 4000000 in
theorem mid_scales (V : Valuation τ sig (Elt F)) :
    StableHlo.after hostOps1 V (Proc.devRef .tc main_v56) = scales (V (Proc.devRef .tc main_cst)) (tops (hiddenAt V)) := by
  unfold hostOps1
  after_reads_simp
  rfl

set_option maxHeartbeats 4000000 in
theorem mid_clipped (V : Valuation τ sig (Elt F)) :
    StableHlo.after hostOps1 V (Proc.devRef .tc main_v65)
      = clipped (hiddenAt V) (scales (V (Proc.devRef .tc main_cst)) (tops (hiddenAt V))) := by
  unfold hostOps1
  after_reads_simp
  rfl

theorem last_hidden (V : Valuation τ sig (Elt F)) :
    StableHlo.after hostOps2 V (Proc.devRef .tc main_v71) = scaled (V (Proc.devRef .tc main_v66)) (V (Proc.devRef .tc main_v56)) := by
  unfold hostOps2
  after_reads_simp
  rfl

theorem last_weights (V : Valuation τ sig (Elt F)) :
    StableHlo.after hostOps2 V (Proc.devRef .tc main_v73) = spread (V (Proc.devRef .tc main_v11)) := by
  unfold hostOps2
  after_reads_simp
  rfl

end Cert.GateUpReferenceIdeal.Up

end
-- ==== Proof.UpRefEnd.lean ====
/- What the gate and up reference's two calls leave, over the extended reals, and what its result arrays end holding. -/
module

public import proofs.«01_k».proof.Proof.UpRefRun

@[expose] public section

set_option maxRecDepth 16384

noncomputable section

namespace Cert.GateUpReferenceIdeal.Up

open Cert.GateUpReferenceIdeal Cert.GateUpReferenceIdeal.Gen
open Idealize.ShloMosaic Idealize.ShloMosaic.TcCoe
open Idealize.SL Idealize.SL.Sem

/-! ## The two calls: the codes and the rounded values, unchanged over the extended reals -/

section Calls

variable (V : (c : Dev nD) → (b : Ref sig .tc) → Buf (Elt Ideal) ((c : Thread nD τ).loc b)) (c : Dev nD)

/-- The calls' one grid point. -/
def pt0 : Fin cfg0.N := ⟨0, by decide +kernel⟩
def pt1 : Fin cfg1.N := ⟨0, by decide +kernel⟩

theorem iblk_codes : iblk0 V c 0 pt0 = V c main_arg4 := by
  have hi : ∀ t : Fin cfg0.N, win0_0.index t = ![0, 0, 0] := (by decide +kernel : ∀ t : Fin grid0.N, _)
  funext j
  blk_ext! [iblk0, hi pt0]

theorem codes : (dat0 V c).arrAt 1 cfg0.N = V c main_arg4 := by
  refine (dat0 V c).arrAt_eq_of_after_last 1 pt0 (by decide +kernel) _ fun j => ?_
  blk_simp
  rw [after0_1]
  frame_out
  rw [iblk_codes]
  rfl

theorem iblk_values : iblk1 V c 0 pt1 = V c main_v65 := by
  have hi : ∀ t : Fin cfg1.N, win1_0.index t = ![0, 0, 0] := (by decide +kernel : ∀ t : Fin grid1.N, _)
  funext j
  blk_ext! [iblk1, hi pt1]

/-- The rounding body's value. -/
theorem rounded (v : Vec Ideal S49152x11x128 .f32) : k1_pay1 (F := Ideal) v = v := by
  unfold k1_pay1
  exact shapeCast_self _ _

theorem values : (dat1 V c).arrAt 1 cfg1.N = V c main_v65 := by
  refine (dat1 V c).arrAt_eq_of_after_last 1 pt1 (by decide +kernel) _ fun j => ?_
  blk_simp
  rw [after1_1]
  frame_out
  rw [iblk_values]
  exact congrFun (rounded _) _

end Calls

/-! ## The buffers, stretch by stretch -/

variable (m : (ℓ : Loc nD τ sig) → Buf (Elt Ideal) ℓ) (ρ : Dev nD → PrngReg) (c : Dev nD)

/-- The hidden values, from the arguments. -/
def hiddenOf (e : S96.Idx → BitVec 32) (x : S49152x2176.Idx → BitVec 32) (W : Vec Ideal S32x4096x2816 .bf16) (S : Vec Ideal S32x32x22 .f32) :
    Vec Ideal S49152x11x128 .f32 :=
  hidden (chosen (experts e) (products W (truncf .bf16 (S : FVec Ideal S32x32x22 .f32) bitsLt_bf16_f32 : FVec Ideal S32x32x22 .bf16) (acts x)))

/-- The scales. -/
def scalesOf (e : S96.Idx → BitVec 32) (x : S49152x2176.Idx → BitVec 32) (W : Vec Ideal S32x4096x2816 .bf16) (S : Vec Ideal S32x32x22 .f32) :
    Vec Ideal S49152x11 .f32 :=
  scales (table (F := Ideal)) (tops (hiddenOf e x W S))

/-- The first result. -/
def result (e : S96.Idx → BitVec 32) (x : S49152x2176.Idx → BitVec 32) (W : Vec Ideal S32x4096x2816 .bf16) (S : Vec Ideal S32x32x22 .f32) :
    Vec Ideal S49152x1408 .bf16 :=
  scaled (F := Ideal) (clipped (hiddenOf e x W S) (scalesOf e x W S)) (scalesOf e x W S)

theorem hidden_eq : hiddenAt (W2 m ρ c) = hiddenOf (m ((c : Thread nD τ).loc main_arg0)) (m ((c : Thread nD τ).loc main_arg3))
    (m ((c : Thread nD τ).loc main_arg4)) (m ((c : Thread nD τ).loc main_arg5)) := by
  unfold hiddenAt hiddenOf
  have h2 : W2 m ρ c (Proc.devRef .tc main_v2) = experts (m ((c : Thread nD τ).loc main_arg0)) :=
    (W2_of_ne m ρ c main_v2 (by decide)).trans (head_experts (W0 m ρ c))
  have h15 : W2 m ρ c (Proc.devRef .tc main_v15) = acts (F := Ideal) (m ((c : Thread nD τ).loc main_arg3)) :=
    (W2_of_ne m ρ c main_v15 (by decide)).trans (head_acts (W0 m ρ c))
  have h16 : W2 m ρ c (Proc.devRef .tc main_v16) = truncf (F := Ideal) .bf16 (m ((c : Thread nD τ).loc main_arg5)) bitsLt_bf16_f32 :=
    (W2_of_ne m ρ c main_v16 (by decide)).trans (head_scales (W0 m ρ c))
  have h17 : W2 m ρ c (Proc.devRef .tc main_v17) = m ((c : Thread nD τ).loc main_arg4) :=
    (W2_arr m ρ c 1).trans ((codes (V1 m ρ) c).trans (W1_args m ρ c main_arg4 (by decide)))
  rw [h2, h15, h16, h17]

theorem table_eq : W2 m ρ c (Proc.devRef .tc main_cst) = table (F := Ideal) :=
  (W2_of_ne m ρ c main_cst (by decide)).trans (head_table (W0 m ρ c))

theorem scales_eq : W4 m ρ c (Proc.devRef .tc main_v56) = scalesOf (m ((c : Thread nD τ).loc main_arg0)) (m ((c : Thread nD τ).loc main_arg3))
    (m ((c : Thread nD τ).loc main_arg4)) (m ((c : Thread nD τ).loc main_arg5)) := by
  refine (W4_of_ne m ρ c main_v56 (by decide)).trans ((mid_scales (W2 m ρ c)).trans ?_)
  unfold scalesOf
  rw [hidden_eq, table_eq]

theorem clipped_eq : W4 m ρ c (Proc.devRef .tc main_v66)
    = clipped (F := Ideal) (hiddenOf (m ((c : Thread nD τ).loc main_arg0)) (m ((c : Thread nD τ).loc main_arg3))
        (m ((c : Thread nD τ).loc main_arg4)) (m ((c : Thread nD τ).loc main_arg5)))
      (scalesOf (m ((c : Thread nD τ).loc main_arg0)) (m ((c : Thread nD τ).loc main_arg3))
        (m ((c : Thread nD τ).loc main_arg4)) (m ((c : Thread nD τ).loc main_arg5))) := by
  refine ((W4_arr m ρ c 1).trans ((values (V3 m ρ) c).trans (mid_clipped (W2 m ρ c)))).trans ?_
  unfold scalesOf
  rw [hidden_eq, table_eq]

theorem result_eq : W5 m ρ c (Proc.devRef .tc main_v71) = result (m ((c : Thread nD τ).loc main_arg0)) (m ((c : Thread nD τ).loc main_arg3))
    (m ((c : Thread nD τ).loc main_arg4)) (m ((c : Thread nD τ).loc main_arg5)) := by
  refine (last_hidden (W4 m ρ c)).trans ?_
  unfold result
  rw [clipped_eq, scales_eq]

theorem weights_eq : W5 m ρ c (Proc.devRef .tc main_v73)
    = spread (weights (F := Ideal) (m ((c : Thread nD τ).loc main_arg0)) (m ((c : Thread nD τ).loc main_arg3))) := by
  refine (last_weights (W4 m ρ c)).trans (congrArg spread ?_)
  exact (W4_of_ne m ρ c main_v11 (by decide)).trans ((W3_of m ρ c main_v11 (by decide)).trans ((W2_of_ne m ρ c main_v11 (by decide)).trans
    (head_weights (W0 m ρ c))))

section Run

open Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

-- the run's implicit arguments are found by unifying its conclusion with this one, through plain definitions
set_option backward.isDefEq.respectTransparency.types false in
/-- The reference's run, its two result arrays read. -/
theorem run_results : θ_run defs (onTc (τ := τ) (main (F := Ideal))) ⟨m, fun _ => 0, ρ⟩ (fun r => ∀ c : Dev nD,
      r.2.mem ((c.tc : Thread nD τ).loc main_v71) = result (m ((c.tc : Thread nD τ).loc main_arg0)) (m ((c.tc : Thread nD τ).loc main_arg3))
        (m ((c.tc : Thread nD τ).loc main_arg4)) (m ((c.tc : Thread nD τ).loc main_arg5))
      ∧ r.2.mem ((c.tc : Thread nD τ).loc main_v73)
        = spread (weights (F := Ideal) (m ((c.tc : Thread nD τ).loc main_arg0)) (m ((c.tc : Thread nD τ).loc main_arg3)))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v71 (by decide))).trans (result_eq m ρ c), (h c _ (mem_uc main_v73 (by decide))).trans (weights_eq m ρ c)⟩)

end Run

end Cert.GateUpReferenceIdeal.Up

end
-- ==== Proof.UpRefValue.lean ====
/- The gate and up reference's two products and its weights, element by element, over the extended reals. -/
module

public import proofs.«01_k».proof.Proof.UpRefEnd
public import proofs.«01_k».proof.Proof.UpSpec
public import Idealize.ShloMosaic.Lib.ValueIdx
public import Idealize.ShloMosaic.Lib.IdealHost
public import Idealize.ShloMosaic.Lib.WordCmp
public import Idealize.ShloMosaic.Lib.BitcastConvert
public import Idealize.ShloMosaic.Lib.Pipeline.Value
public import Idealize.ShloMosaic.Lib.Pointwise.Reduce

@[expose] public section

noncomputable section

namespace Cert.GateUpReferenceIdeal.Up

open Cert.GateUpReferenceIdeal Cert.GateUpReferenceIdeal.Gen
open Idealize.ShloMosaic hiding ix1 ix2 ix3 ix4 ix5
open Idealize.ShloMosaic.TcCoe Idealize.ShloMosaic.ValueIdx
open Idealize.SL Idealize.SL.Sem
open scoped BigOperators

/-- A choice by equality of words. -/
theorem select_eq {α : Type} (x y : BitVec 32) (a b : α) : Scalar.select (IntOp.cmpi .eq x y) a b = if x = y then a else b := by
  rw [WordCmp.cmpi_eq_eq]
  by_cases h : x = y
  · rw [decide_eq_true h, if_pos h]; rfl
  · rw [decide_eq_false h, if_neg h]; rfl

/-- Row `p`'s expert is its tile's. -/
theorem experts_apply (e : S96.Idx → BitVec 32) (p : Fin 49152) :
    experts e (ix1 p) = e (ix1 ⟨p.val / 512, by have := p.isLt; omega⟩) := by
  have hp := p.isLt
  unfold experts
  rw [shapeCast_apply _ _ _ (ix2 (⟨p.val / 512, by omega⟩ : Fin 96) (⟨p.val % 512, by omega⟩ : Fin 512)) (by
      refine (Shape.rowMajor_val_two _).trans (Eq.trans ?_ (Shape.rowMajor_val_one _).symm)
      show p.val / 512 * 512 + p.val % 512 = p.val
      omega),
    broadcastInDim_apply _ _ _ _ (ix2 (⟨p.val / 512, by omega⟩ : Fin 96) (0 : Fin 1)) (by
      intro a
      match a with
      | ⟨0, _⟩ => rfl
      | ⟨1, _⟩ => rfl)]
  exact broadcastInDim_apply _ _ _ _ (ix1 (⟨p.val / 512, by omega⟩ : Fin 96)) (by
      intro a
      match a with
      | ⟨0, _⟩ => rfl)

/-- A column spread over 128 lanes. -/
theorem spread_apply {α : Type} (v : S49152.Idx → α) (p : Fin 49152) (l : Fin 128) :
    broadcastInDim S49152x128 ![0, 1] bcast_S49152x1_S49152x128_0_1 (broadcastInDim S49152x1 ![0] bcast_S49152_S49152x1_0 v) (ix2 p l)
      = v (ix1 p) := by
  rw [broadcastInDim_apply _ _ _ _ (ix2 p (0 : Fin 1)) (by
      intro a
      match a with
      | ⟨0, _⟩ => rfl
      | ⟨1, _⟩ => rfl)]
  exact broadcastInDim_apply _ _ _ _ (ix1 p) (by
      intro a
      match a with
      | ⟨0, _⟩ => rfl)

/-- A host sum along the rows of a matrix. -/
theorem sumLast {a n : ℕ} (x : FVec Ideal (⟨2, ![a, n]⟩ : Shape) .f32) (init : FVec Ideal S_ .f32)
    (h : (⟨2, ![a, n]⟩ : Shape).ReducesTo [1] ⟨1, ![a]⟩) (hu : 0 < S_.numel) (r : Fin a) :
    (Host.reduceAdd x init h hu (ix1 r) : EReal) = (init (Shape.Idx.first hu) : EReal) + ∑ k : Fin n, (x (ix2 r k) : EReal) :=
  Ideal.hostReduceAdd_r2_a1 h x _ _

theorem pick_apply {s : Shape} (A B : IVec s 32) (X Z : FVec Ideal s .f32) (i : s.Idx) :
    (select (cmpi .eq A B) X Z i : EReal) = if A i = B i then (X i : EReal) else Z i := select_eq _ _ _ _

/-- Lane `k` of row `p`'s routing weights. -/
theorem lane_apply (x : S49152x2176.Idx → BitVec 32) (p : Fin 49152) (k : Fin 128) :
    ((bitcastToFloat .f32 (extractStridedSlice S49152x128 ![0, 2048] x slices_S49152x2176_S49152x128_0_2048) : FVec Ideal S49152x128 .f32) (ix2 p k) : EReal)
      = Ideal.ofBits .f32 (x (ix2 p ⟨2048 + k.val, by have := k.isLt; omega⟩)) := by
  have hk := k.isLt
  have e2 : extractStridedSlice S49152x128 ![0, 2048] x slices_S49152x2176_S49152x128_0_2048 (ix2 p k) = x (ix2 p ⟨2048 + k.val, by omega⟩) :=
    extractStridedSlice_apply _ _ _ _ _ (by
      intro a
      match a with
      | ⟨0, _⟩ => exact (Nat.zero_add _).symm
      | ⟨1, _⟩ => rfl)
  rw [← e2]
  rfl

theorem zeros_apply (p : Fin 49152) (k : Fin 128) :
    ((broadcastInDim S49152x128 ![] bcast_S_S49152x128 (constant S_ .f32 0x00000000#32 : FVec Ideal S_ .f32)) (ix2 p k) : EReal) = 0 :=
  (broadcastInDim_scalar_apply _ _ _).trans Ideal.ofBits_zero_f32

/-- Row `p`'s weight. -/
theorem weights_apply (e : S96.Idx → BitVec 32) (x : S49152x2176.Idx → BitVec 32) (p : Fin 49152) :
    (weights (F := Ideal) e x (ix1 p) : EReal)
      = UpSpec.weight (fun k => x (ix2 p k)) (e (ix1 ⟨p.val / 512, by have := p.isLt; omega⟩)) := by
  unfold weights UpSpec.weight
  refine (sumLast _ _ _ _ p).trans ?_
  refine (congrArg (· + _) Ideal.ofBits_zero_f32).trans ((zero_add _).trans (Finset.sum_congr rfl fun k _ => ?_))
  have e0 : iotaInDim S49152x128 32 1 (ix2 p k) = BitVec.ofNat 32 k.val := rfl
  refine (pick_apply _ _ _ _ _).trans ?_
  rw [e0, spread_apply, experts_apply, lane_apply, zeros_apply]

/-- Row `p`'s activation `d`. -/
theorem acts_apply (x : S49152x2176.Idx → BitVec 32) (p : Fin 49152) (d : Fin 4096) :
    (acts (F := Ideal) x (ix2 p d) : EReal) = UpSpec.act (fun k => x (ix2 p k)) d := by
  have hd := d.isLt
  unfold acts
  rw [shapeCast_apply _ _ _ (ix3 p (⟨d.val / 2048, by omega⟩ : Fin 2) (⟨d.val % 2048, by omega⟩ : Fin 2048)) (by
      refine (Shape.rowMajor_val_three _).trans (Eq.trans ?_ (Shape.rowMajor_val_two _).symm)
      show (p.val * 2 + d.val / 2048) * 2048 + d.val % 2048 = p.val * 4096 + d.val
      omega),
    transpose_apply _ _ _ _ (ix3 p (⟨d.val % 2048, by omega⟩ : Fin 2048) (⟨d.val / 2048, by omega⟩ : Fin 2)) (by
      intro b
      match b with
      | ⟨0, _⟩ => rfl
      | ⟨1, _⟩ => rfl
      | ⟨2, _⟩ => rfl)]
  have e2 : extractStridedSlice S49152x2048 ![0, 0] x slices_S49152x2176_S49152x2048_0_0 (ix2 p (⟨d.val % 2048, by omega⟩ : Fin 2048))
      = x (ix2 p ⟨d.val % 2048, by omega⟩) :=
    extractStridedSlice_apply _ _ _ _ _ (by
      intro a
      match a with
      | ⟨0, _⟩ => exact (Nat.zero_add _).symm
      | ⟨1, _⟩ => exact (Nat.zero_add _).symm)
  have e3 : (splits_S49152x2048_w32_S49152x2048x2_w16).drop (ix3 p (⟨d.val % 2048, by omega⟩ : Fin 2048) (⟨d.val / 2048, by omega⟩ : Fin 2))
      = ix2 p (⟨d.val % 2048, by omega⟩ : Fin 2048) := by
    funext a; apply Fin.ext
    match a with
    | ⟨0, _⟩ => rfl
    | ⟨1, _⟩ => rfl
  refine Eq.trans (b := Ideal.ofBits .bf16 ((extractStridedSlice S49152x2048 ![0, 0] x slices_S49152x2176_S49152x2048_0_0
    ((splits_S49152x2048_w32_S49152x2048x2_w16).drop (ix3 p (⟨d.val % 2048, by omega⟩ : Fin 2048) (⟨d.val / 2048, by omega⟩ : Fin 2)))).extractLsb' (d.val / 2048 * 16) 16)) rfl ?_
  rw [e3, e2]
  rfl

/-- The scales, one per entry of the codes. -/
theorem tiled_apply (S : Vec Ideal S32x32x22 .bf16) (e : Fin 32) (d : Fin 4096) (f : Fin 2816) :
    (shapeCast S32x4096x2816 (broadcastInDim S32x32x128x22x128 ![0, 1, 2, 3, 4] bcast_S32x32x1x22x1_S32x32x128x22x128_0_1_2_3_4
        (broadcastInDim S32x32x1x22x1 ![0, 1, 3] bcast_S32x32x22_S32x32x1x22x1_0_1_3 S)) shapeCasts_S32x32x128x22x128_S32x4096x2816) (ix3 e d f)
      = S (ix3 e ⟨d.val / 128, by have := d.isLt; omega⟩ ⟨f.val / 128, by have := f.isLt; omega⟩) := by
  have hf := f.isLt
  have hd := d.isLt
  rw [shapeCast_apply _ _ _ (ix5 e (⟨d.val / 128, by omega⟩ : Fin 32) (⟨d.val % 128, by omega⟩ : Fin 128) (⟨f.val / 128, by omega⟩ : Fin 22) (⟨f.val % 128, by omega⟩ : Fin 128)) (by
      refine (Shape.rowMajor_val_five _).trans (Eq.trans ?_ (Shape.rowMajor_val_three _).symm)
      show (((e.val * 32 + d.val / 128) * 128 + d.val % 128) * 22 + f.val / 128) * 128 + f.val % 128 = (e.val * 4096 + d.val) * 2816 + f.val
      omega)]
  rw [broadcastInDim_apply _ _ _ _ (ix5 e (⟨d.val / 128, by omega⟩ : Fin 32) (0 : Fin 1) (⟨f.val / 128, by omega⟩ : Fin 22) (0 : Fin 1)) (by
      intro a
      match a with
      | ⟨0, _⟩ => rfl
      | ⟨1, _⟩ => rfl
      | ⟨2, _⟩ => rfl
      | ⟨3, _⟩ => rfl
      | ⟨4, _⟩ => rfl)]
  exact broadcastInDim_apply _ _ _ _ (ix3 e (⟨d.val / 128, by omega⟩ : Fin 32) (⟨f.val / 128, by omega⟩ : Fin 22)) (by
      intro a
      match a with
      | ⟨0, _⟩ => rfl
      | ⟨1, _⟩ => rfl
      | ⟨2, _⟩ => rfl)

/-- The contraction of the printed product. -/
theorem dot_apply (A : FVec Ideal S32x4096x2816 .bf16) (B : FVec Ideal S49152x4096 .bf16) (e : Fin 32) (f : Fin 2816) (p : Fin 49152) :
    (Host.dotGeneral dot_S32x4096x2816_S49152x4096_S32x2816x49152_1_1_02_0_n_n none A B : FVec Ideal S32x2816x49152 .f32) (ix3 e f p)
      = ∑ d : Fin 4096, A (ix3 e d f) * B (ix2 p d) := by
  show FloatOps.dotGeneral _ none _ A B (ix3 e f p) = _
  rw [Ideal.dotGeneral_apply, ← Equiv.sum_comp (contrEquiv1 dot_S32x4096x2816_S49152x4096_S32x2816x49152_1_1_02_0_n_n 4096 rfl rfl).symm]
  refine Finset.sum_congr rfl fun d _ => ?_
  have c := contrEquiv1_symm_val dot_S32x4096x2816_S49152x4096_S32x2816x49152_1_1_02_0_n_n 4096 rfl rfl d
  have l : dot_S32x4096x2816_S49152x4096_S32x2816x49152_1_1_02_0_n_n.lhsIdx (ix3 e f p) ((contrEquiv1 _ 4096 rfl rfl).symm d) = ix3 e d f := by
    funext ax; apply Fin.ext
    match ax with
    | ⟨0, _⟩ => simp [DotDims.lhsIdx, dot_S32x4096x2816_S49152x4096_S32x2816x49152_1_1_02_0_n_n]; rfl
    | ⟨1, _⟩ => simp [DotDims.lhsIdx, dot_S32x4096x2816_S49152x4096_S32x2816x49152_1_1_02_0_n_n]; exact c
    | ⟨2, _⟩ => simp [DotDims.lhsIdx, dot_S32x4096x2816_S49152x4096_S32x2816x49152_1_1_02_0_n_n]; rfl
  have r : dot_S32x4096x2816_S49152x4096_S32x2816x49152_1_1_02_0_n_n.rhsIdx (ix3 e f p) ((contrEquiv1 _ 4096 rfl rfl).symm d) = ix2 p d := by
    funext ax; apply Fin.ext
    match ax with
    | ⟨0, _⟩ => simp [DotDims.rhsIdx, dot_S32x4096x2816_S49152x4096_S32x2816x49152_1_1_02_0_n_n]; rfl
    | ⟨1, _⟩ => simp [DotDims.rhsIdx, dot_S32x4096x2816_S49152x4096_S32x2816x49152_1_1_02_0_n_n]; exact c
  rw [l, r]

/-- Row `p`'s product with expert `e`'s weights, at column `f`. -/
theorem products_apply (W : Vec Ideal S32x4096x2816 .bf16) (S : Vec Ideal S32x32x22 .bf16) (h : Vec Ideal S49152x4096 .bf16)
    (e : Fin 32) (p : Fin 49152) (f : Fin 2816) :
    (products W S h : S32x49152x2816.Idx → EReal) (ix3 e p f) = ∑ d : Fin 4096, (h (ix2 p d) : EReal)
      * ((W (ix3 e d f) : EReal) * S (ix3 e ⟨d.val / 128, by have := d.isLt; omega⟩ ⟨f.val / 128, by have := f.isLt; omega⟩)) := by
  unfold products
  refine (transpose_apply _ _ _ _ (ix3 e f p) (by
    intro b
    match b with
    | ⟨0, _⟩ => rfl
    | ⟨1, _⟩ => rfl
    | ⟨2, _⟩ => rfl)).trans ((dot_apply _ _ e f p).trans (Finset.sum_congr rfl fun d _ => ?_))
  have e1 := tiled_apply S e d f
  refine (mul_comm _ _).trans (congrArg (fun z : EReal => (h (ix2 p d) : EReal) * z) ?_)
  exact congrArg (fun z : EReal => (W (ix3 e d f) : EReal) * z) e1

/-- The sum over the experts keeps row `p`'s own. -/
theorem chosen_apply (r : S49152.Idx → BitVec 32) (P : Vec Ideal S32x49152x2816 .f32) (p : Fin 49152) (f : Fin 2816)
    (E : Fin 32) (hE : r (ix1 p) = BitVec.ofNat 32 E.val) :
    (chosen r P : S49152x2816.Idx → EReal) (ix2 p f) = P (ix3 E p f) := by
  have e1 : ∀ k : Fin 32, broadcastInDim S32x49152x2816 ![0, 1, 2] bcast_S1x49152x1_S32x49152x2816_0_1_2 (broadcastInDim S1x49152x1 ![1] bcast_S49152_S1x49152x1_1 r) (ix3 k p f)
      = BitVec.ofNat 32 E.val := by
    intro k
    rw [← hE, broadcastInDim_apply _ _ _ _ (ix3 (0 : Fin 1) p (0 : Fin 1)) (by
      intro a
      match a with
      | ⟨0, _⟩ => rfl
      | ⟨1, _⟩ => rfl
      | ⟨2, _⟩ => rfl)]
    exact broadcastInDim_apply _ _ _ _ (ix1 p) (by
      intro a
      match a with
      | ⟨0, _⟩ => rfl)
  unfold chosen
  rw [hostReduceAdd_apply, Ideal.hostReduceAdd_r3_a0]
  refine (congrArg (· + _) Ideal.ofBits_zero_f32).trans ((zero_add _).trans
    ((Finset.sum_eq_single E ?_ (fun h => absurd (Finset.mem_univ E) h)).trans ?_))
  · intro k _ hk
    refine (select_eq _ _ _ _).trans ((if_neg ?_).trans Ideal.ofBits_zero_f32)
    intro h
    have h' := (show BitVec.ofNat 32 k.val = _ from h).trans (e1 k)
    exact hk (Fin.ext ((WordCmp.ofNat_eq_ofNat_iff (lt_trans k.isLt (by decide)) (lt_trans E.isLt (by decide))).mp h'))
  · refine (select_eq _ _ _ _).trans ((if_pos ?_).trans rfl)
    exact (e1 E).symm

end Cert.GateUpReferenceIdeal.Up

end
-- ==== Proof.UpRefQuant.lean ====
/- The gate and up reference's activation and quantiser, element by element, over the extended reals. -/
module

public import proofs.«01_k».proof.Proof.UpRefRun
public import proofs.«01_k».proof.Proof.UpSpec
public import Idealize.ShloMosaic.Lib.ValueIdx
public import Idealize.ShloMosaic.Lib.IdealHost
public import Idealize.ShloMosaic.Lib.Pipeline.Value
public import Idealize.ShloMosaic.Lib.Pointwise.Reduce

@[expose] public section

noncomputable section

namespace Cert.GateUpReferenceIdeal.Up

open Cert.GateUpReferenceIdeal Cert.GateUpReferenceIdeal.Gen
open Idealize.ShloMosaic hiding ix1 ix2 ix3 ix4 ix5
open Idealize.ShloMosaic.TcCoe Idealize.ShloMosaic.ValueIdx
open Idealize.SL Idealize.SL.Sem
open scoped BigOperators

/-! ## Constants -/

theorem one_bits : Ideal.ofBits .f32 0x3F800000#32 = 1 := Ideal.ofBits_one_f32
theorem bot_bits : Ideal.ofBits .f32 0xFF800000#32 = ⊥ := by simp [Ideal.ofBits, Ideal.ieee]
theorem top_bits : Ideal.ofBits .f32 0x7F800000#32 = ⊤ := by simp [Ideal.ofBits, Ideal.ieee]
theorem last_bits : Ideal.ofBits .f32 0x7B800000#32 = Quant.pow2 246 := Quant.ofBits_pow _ 246 (by omega) (by decide)

set_option maxRecDepth 8192 in
theorem table_bits : ∀ j : Fin 247, (lit0 j).toNat = (j.val + 1) * 2 ^ 23 := by decide +kernel

/-- The table's entry `j`. -/
theorem table_apply (j : Fin 247) : (table (F := Ideal) (ix1 j) : EReal) = Quant.pow2 j.val := by
  have hj := j.isLt
  have e : S247.rowMajor (ix1 j) = j := Fin.ext (Shape.rowMajor_val_one _)
  refine Eq.trans (b := Ideal.ofBits .f32 (lit0 (S247.rowMajor (ix1 j)))) rfl ?_
  rw [e]
  exact Quant.ofBits_pow _ j.val (by omega) (table_bits j)

/-! ## Reductions along the last axis -/

theorem maxLast {a b n : ℕ} (x : FVec Ideal (⟨3, ![a, b, n]⟩ : Shape) .f32) (init : FVec Ideal S_ .f32)
    (h : (⟨3, ![a, b, n]⟩ : Shape).ReducesTo [2] ⟨2, ![a, b]⟩) (hu : 0 < S_.numel) (p : Fin a) (q : Fin b) :
    (Host.reduce (FloatOps.maximumf (F := Ideal) (φ := .f32)) x init h hu (ix2 p q) : Ideal .f32)
      = (Finset.univ : Finset (Fin n)).fold max (init (Shape.Idx.first hu) : EReal) (fun k => (x (ix3 p q k) : EReal)) :=
  (Host.reduce_eq_fold _ _ _ _ _ _).trans (Shape.ReducesTo.fold_fiber_r3_a2 h _ _ _ _)

theorem minLast {a b n : ℕ} (x : FVec Ideal (⟨3, ![a, b, n]⟩ : Shape) .f32) (init : FVec Ideal S_ .f32)
    (h : (⟨3, ![a, b, n]⟩ : Shape).ReducesTo [2] ⟨2, ![a, b]⟩) (hu : 0 < S_.numel) (p : Fin a) (q : Fin b) :
    (Host.reduce (FloatOps.minimumf (F := Ideal) (φ := .f32)) x init h hu (ix2 p q) : Ideal .f32)
      = (Finset.univ : Finset (Fin n)).fold min (init (Shape.Idx.first hu) : EReal) (fun k => (x (ix3 p q k) : EReal)) :=
  (Host.reduce_eq_fold _ _ _ _ _ _).trans (Shape.ReducesTo.fold_fiber_r3_a2 h _ _ _ _)

/-! ## The terms -/

/-- silu of one number. -/
theorem silu_eq (a b : EReal) : a * Ideal.div (Ideal.ofBits .f32 0x3F800000#32) (Ideal.ofBits .f32 0x3F800000#32 + Ideal.exp (-a)) * b
    = a * Ideal.logistic a * b := by
  rw [one_bits]
  rfl

/-- The hidden value `k` of group `q` of row `p`. -/
theorem hidden_apply (g : Vec Ideal S49152x2816 .f32) (p : Fin 49152) (q : Fin 11) (k : Fin 128) :
    (hidden g (ix3 p q k) : EReal)
      = (g (ix2 p ⟨128 * q.val + k.val, by have := q.isLt; have := k.isLt; omega⟩) : EReal)
          * Ideal.logistic (g (ix2 p ⟨128 * q.val + k.val, by have := q.isLt; have := k.isLt; omega⟩) : EReal)
        * (g (ix2 p ⟨1408 + (128 * q.val + k.val), by have := q.isLt; have := k.isLt; omega⟩) : EReal) := by
  have hq := q.isLt
  have hk := k.isLt
  unfold hidden
  rw [shapeCast_apply _ _ _ (ix2 p (⟨128 * q.val + k.val, by omega⟩ : Fin 1408)) (by
      refine (Shape.rowMajor_val_two _).trans (Eq.trans ?_ (Shape.rowMajor_val_three _).symm)
      show p.val * 1408 + (128 * q.val + k.val) = (p.val * 11 + q.val) * 128 + k.val
      omega)]
  have e1 : extractStridedSlice S49152x1408 ![0, 0] g slices_S49152x2816_S49152x1408_0_0 (ix2 p (⟨128 * q.val + k.val, by omega⟩ : Fin 1408))
      = g (ix2 p ⟨128 * q.val + k.val, by omega⟩) :=
    extractStridedSlice_apply _ _ _ _ _ (by
      intro a
      match a with
      | ⟨0, _⟩ => exact (Nat.zero_add _).symm
      | ⟨1, _⟩ => exact (Nat.zero_add _).symm)
  have e2 : extractStridedSlice S49152x1408 ![0, 1408] g slices_S49152x2816_S49152x1408_0_1408 (ix2 p (⟨128 * q.val + k.val, by omega⟩ : Fin 1408))
      = g (ix2 p ⟨1408 + (128 * q.val + k.val), by omega⟩) :=
    extractStridedSlice_apply _ _ _ _ _ (by
      intro a
      match a with
      | ⟨0, _⟩ => exact (Nat.zero_add _).symm
      | ⟨1, _⟩ => rfl)
  rw [← e1, ← e2]
  exact silu_eq _ _

/-- Group `q` of row `p`'s largest magnitude. -/
theorem tops_apply (h : Vec Ideal S49152x11x128 .f32) (p : Fin 49152) (q : Fin 11) :
    (tops h (ix2 p q) : EReal) = Quant.top (fun k => (h (ix3 p q k) : EReal)) := by
  unfold tops
  refine (maxLast _ _ _ _ p q).trans ?_
  refine Eq.trans (b := (Finset.univ : Finset (Fin 128)).fold max (Ideal.ofBits .f32 0xFF800000#32)
    (fun k => max (h (ix3 p q k) : EReal) (-(h (ix3 p q k) : EReal)))) rfl ?_
  rw [bot_bits]
  rfl

/-- Group `q` of row `p`'s value of a group array, at any width. -/
theorem group_apply {α : Type} (v : S49152x11.Idx → α) (p : Fin 49152) (q : Fin 11) (k : Fin 128) :
    broadcastInDim S49152x11x128 ![0, 1, 2] bcast_S49152x11x1_S49152x11x128_0_1_2 (broadcastInDim S49152x11x1 ![0, 1] bcast_S49152x11_S49152x11x1_0_1 v) (ix3 p q k)
      = v (ix2 p q) := by
  rw [broadcastInDim_apply _ _ _ _ (ix3 p q (0 : Fin 1)) (by
      intro a
      match a with
      | ⟨0, _⟩ => rfl
      | ⟨1, _⟩ => rfl
      | ⟨2, _⟩ => rfl)]
  exact broadcastInDim_apply _ _ _ _ (ix2 p q) (by
      intro a
      match a with
      | ⟨0, _⟩ => rfl
      | ⟨1, _⟩ => rfl)

theorem group_apply' {α : Type} (v : S49152x11.Idx → α) (p : Fin 49152) (q : Fin 11) (j : Fin 247) :
    broadcastInDim S49152x11x247 ![0, 1, 2] bcast_S49152x11x1_S49152x11x247_0_1_2 (broadcastInDim S49152x11x1 ![0, 1] bcast_S49152x11_S49152x11x1_0_1 v) (ix3 p q j)
      = v (ix2 p q) := by
  rw [broadcastInDim_apply _ _ _ _ (ix3 p q (0 : Fin 1)) (by
      intro a
      match a with
      | ⟨0, _⟩ => rfl
      | ⟨1, _⟩ => rfl
      | ⟨2, _⟩ => rfl)]
  exact broadcastInDim_apply _ _ _ _ (ix2 p q) (by
      intro a
      match a with
      | ⟨0, _⟩ => rfl
      | ⟨1, _⟩ => rfl)

theorem powers_apply {α : Type} (C : S247.Idx → α) (p : Fin 49152) (q : Fin 11) (j : Fin 247) :
    broadcastInDim S49152x11x247 ![2] bcast_S247_S49152x11x247_2 C (ix3 p q j) = C (ix1 j) :=
  broadcastInDim_apply _ _ _ _ (ix1 j) (by
      intro a
      match a with
      | ⟨0, _⟩ => rfl)

/-- A choice by comparison of extended reals. -/
theorem select_gt (x y a b : EReal) : Scalar.select (BitVec.ofBool (decide (y < x))) a b = if y < x then a else b := by
  by_cases h : y < x
  · rw [decide_eq_true h, if_pos h]; rfl
  · rw [decide_eq_false h, if_neg h]; rfl
theorem select_same (x y a b : EReal) : Scalar.select (BitVec.ofBool (decide (x = y))) a b = if x = y then a else b := by
  by_cases h : x = y
  · rw [decide_eq_true h, if_pos h]; rfl
  · rw [decide_eq_false h, if_neg h]; rfl

/-- Group `q` of row `p`'s scale. -/
theorem scales_apply (a : Vec Ideal S49152x11 .f32) (p : Fin 49152) (q : Fin 11) :
    (scales (table (F := Ideal)) a (ix2 p q) : EReal)
      = if (a (ix2 p q) : EReal) = 0 then 1 else Quant.pow2 (Quant.count ((a (ix2 p q) : EReal) * Ideal.ofBits .f32 0x3B124925#32)) := by
  unfold scales
  refine (select_same (a (ix2 p q) : EReal) (Ideal.ofBits .f32 0#32) (Ideal.ofBits .f32 0x3F800000#32) _).trans ?_
  rw [Ideal.ofBits_zero_f32, one_bits]
  refine congrArg (fun z : EReal => if (a (ix2 p q) : EReal) = 0 then 1 else z) ?_
  refine (minLast _ _ _ _ p q).trans ?_
  rw [← Quant.least_above ((a (ix2 p q) : EReal) * Ideal.ofBits .f32 0x3B124925#32) (fun j => (table (F := Ideal) (ix1 j) : EReal)) table_apply]
  refine congrArg₂ (fun (z : EReal) (g : Fin 247 → EReal) => (Finset.univ : Finset (Fin 247)).fold min z g) top_bits (funext fun j => ?_)
  have e1 := powers_apply (table (F := Ideal)) p q j
  have e2 := group_apply' (mulf a (broadcastInDim S49152x11 ![] bcast_S_S49152x11 (constant S_ .f32 0x3B124925#32 : FVec Ideal S_ .f32)) : FVec Ideal S49152x11 .f32) p q j
  refine (select_gt _ _ _ (Ideal.ofBits .f32 0x7B800000#32)).trans ?_
  rw [last_bits, e1, e2]
  rfl

/-- A value over its group's scale, clipped. -/
theorem clipped_apply (h : Vec Ideal S49152x11x128 .f32) (s : Vec Ideal S49152x11 .f32) (p : Fin 49152) (q : Fin 11) (k : Fin 128) :
    (clipped h s (ix3 p q k) : EReal)
      = min (Ideal.ofBits .f32 0x43E00000#32) (max (Ideal.ofBits .f32 0xC3E00000#32) ((h (ix3 p q k) : EReal) * Ideal.div 1 (s (ix2 p q) : EReal))) := by
  unfold clipped
  have e := group_apply (Host.divf (broadcastInDim S49152x11 ![] bcast_S_S49152x11 (constant S_ .f32 0x3F800000#32 : FVec Ideal S_ .f32)) (s : FVec Ideal S49152x11 .f32) : FVec Ideal S49152x11 .f32) p q k
  rw [min_comm, max_comm, ← one_bits]
  exact congrArg (fun z : EReal => min (max ((h (ix3 p q k) : EReal) * z) (Ideal.ofBits .f32 0xC3E00000#32)) (Ideal.ofBits .f32 0x43E00000#32)) e

/-- Column `f` of row `p` of the first result. -/
theorem scaled_apply (v : Vec Ideal S49152x11x128 .bf16) (s : Vec Ideal S49152x11 .f32) (p : Fin 49152) (f : Fin 1408) :
    (scaled v s (ix2 p f) : EReal)
      = (v (ix3 p ⟨f.val / 128, by have := f.isLt; omega⟩ ⟨f.val % 128, Nat.mod_lt _ (by decide)⟩) : EReal)
        * (s (ix2 p ⟨f.val / 128, by have := f.isLt; omega⟩) : EReal) := by
  have hf := f.isLt
  unfold scaled
  rw [shapeCast_apply _ _ _ (ix3 p (⟨f.val / 128, by omega⟩ : Fin 11) (⟨f.val % 128, by omega⟩ : Fin 128)) (by
      refine (Shape.rowMajor_val_three _).trans (Eq.trans ?_ (Shape.rowMajor_val_two _).symm)
      show (p.val * 11 + f.val / 128) * 128 + f.val % 128 = p.val * 1408 + f.val
      omega)]
  have e := group_apply (truncf .bf16 (s : FVec Ideal S49152x11 .f32) bitsLt_bf16_f32 : FVec Ideal S49152x11 .bf16) p (⟨f.val / 128, by omega⟩ : Fin 11) (⟨f.val % 128, by omega⟩ : Fin 128)
  exact congrArg (fun z : EReal => (v (ix3 p (⟨f.val / 128, by omega⟩ : Fin 11) (⟨f.val % 128, by omega⟩ : Fin 128)) : EReal) * z) e

/-- The quantiser of the reference is the group's. -/
theorem quantised (h : Vec Ideal S49152x11x128 .f32) (p : Fin 49152) (f : Fin 1408) :
    (scaled (clipped h (scales (table (F := Ideal)) (tops h)) : Vec Ideal S49152x11x128 .f32) (scales (table (F := Ideal)) (tops h)) (ix2 p f) : EReal)
      = Quant.quantOf (fun k => (h (ix3 p ⟨f.val / 128, by have := f.isLt; omega⟩ k) : EReal)) ⟨f.val % 128, Nat.mod_lt _ (by decide)⟩ := by
  have hs : (scales (table (F := Ideal)) (tops h) (ix2 p ⟨f.val / 128, by have := f.isLt; omega⟩) : EReal)
      = Quant.scaleOf (Quant.peakOf (fun k => (h (ix3 p ⟨f.val / 128, by have := f.isLt; omega⟩ k) : EReal))) := by
    rw [scales_apply, tops_apply]
    unfold Quant.scaleOf
    rw [if_congr (Quant.peak_zero _) rfl rfl]
    rfl
  rw [scaled_apply, clipped_apply, hs, Quant.div_scale]
  rfl

end Cert.GateUpReferenceIdeal.Up

end
-- ==== Proof.UpRefSpec.lean ====
/- The gate and up reference's two results, element by element, over the extended reals. -/
module

public import proofs.«01_k».proof.Proof.UpRefValue
public import proofs.«01_k».proof.Proof.UpRefQuant

@[expose] public section

noncomputable section

namespace Cert.GateUpReferenceIdeal.Up

open Cert.GateUpReferenceIdeal Cert.GateUpReferenceIdeal.Gen
open Idealize.ShloMosaic hiding ix1 ix2 ix3 ix4 ix5
open Idealize.ShloMosaic.TcCoe Idealize.ShloMosaic.ValueIdx
open Idealize.SL Idealize.SL.Sem
open scoped BigOperators

/-- Row `p`'s product with its own expert's weights, at column `f`. -/
theorem own_apply (e : S96.Idx → BitVec 32) (x : S49152x2176.Idx → BitVec 32) (W : Vec Ideal S32x4096x2816 .bf16) (S : Vec Ideal S32x32x22 .f32)
    (p : Fin 49152) (E : Fin 32) (hE : e (ix1 ⟨p.val / 512, by have := p.isLt; omega⟩) = BitVec.ofNat 32 E.val) (f : Fin 2816) :
    (chosen (experts e) (products W (truncf .bf16 (S : FVec Ideal S32x32x22 .f32) bitsLt_bf16_f32 : FVec Ideal S32x32x22 .bf16) (acts x)) (ix2 p f) : EReal)
      = UpSpec.prod (fun k => x (ix2 p k)) (fun d f => W (ix3 E d f)) (fun i j => S (ix3 E i j)) f := by
  refine (chosen_apply _ _ p f E ((experts_apply e p).trans hE)).trans ((products_apply _ _ _ E p f).trans ?_)
  unfold UpSpec.prod
  refine Finset.sum_congr rfl fun d _ => ?_
  rw [acts_apply]
  rfl

/-- The first result: the row's quantised hidden value. -/
theorem result_apply (e : S96.Idx → BitVec 32) (x : S49152x2176.Idx → BitVec 32) (W : Vec Ideal S32x4096x2816 .bf16) (S : Vec Ideal S32x32x22 .f32)
    (p : Fin 49152) (E : Fin 32) (hE : e (ix1 ⟨p.val / 512, by have := p.isLt; omega⟩) = BitVec.ofNat 32 E.val) (f : Fin 1408) :
    (result e x W S (ix2 p f) : EReal)
      = UpSpec.out (fun k => x (ix2 p k)) (fun d f => W (ix3 E d f)) (fun i j => S (ix3 E i j)) f := by
  unfold result scalesOf
  refine (quantised _ p f).trans ?_
  unfold UpSpec.out
  refine congrArg (fun h => Quant.quantOf h ⟨f.val % 128, Nat.mod_lt _ (by decide)⟩) (funext fun k => ?_)
  unfold hiddenOf UpSpec.hid
  rw [hidden_apply, own_apply e x W S p E hE, own_apply e x W S p E hE]

/-- The second result: the row's weight on every lane. -/
theorem spread_weights_apply (e : S96.Idx → BitVec 32) (x : S49152x2176.Idx → BitVec 32) (p : Fin 49152) (l : Fin 128) :
    (spread (weights (F := Ideal) e x) (ix2 p l) : EReal)
      = UpSpec.weight (fun k => x (ix2 p k)) (e (ix1 ⟨p.val / 512, by have := p.isLt; omega⟩)) := by
  unfold spread
  exact (spread_apply _ p l).trans (weights_apply e x p)

end Cert.GateUpReferenceIdeal.Up

end
-- ==== Proof.UpEquation.lean ====
/- The gate and up equation: over the extended reals the idealized kernel and the reference agree at every row that the masks
   select, in both results. -/
module

public import proofs.«01_k».proof.Proof.UpFrame
public import proofs.«01_k».proof.Proof.UpElem
public import proofs.«01_k».proof.Proof.UpRefSpec

@[expose] public section

noncomputable section

namespace Cert.GateUpIdeal.Up

open Cert.GateUpIdeal
open Idealize.ShloMosaic hiding ix1 ix2 ix3 ix4 ix5
open Idealize.ShloMosaic.TcCoe Idealize.ShloMosaic.ValueIdx
open Idealize.SL.Sem

variable (m : (ℓ : Loc nD τ sig) → Buf (Elt Ideal) ℓ) (h : PreAt m) (c : Dev nD)

/-- The reference's hidden values at the kernel's arguments. -/
def expectedH : S49152x1408.Idx → EReal :=
  Cert.GateUpReferenceIdeal.Up.result (m ((c.tc : Thread nD τ).loc main_arg0)) (m ((c.tc : Thread nD τ).loc main_arg3))
    (m ((c.tc : Thread nD τ).loc main_arg4)) (m ((c.tc : Thread nD τ).loc main_arg5))

/-- The reference's row weights at the kernel's arguments. -/
def expectedW : S49152x128.Idx → EReal :=
  Cert.GateUpReferenceIdeal.Up.spread (Cert.GateUpReferenceIdeal.Up.weights (F := Ideal) (m ((c.tc : Thread nD τ).loc main_arg0))
    (m ((c.tc : Thread nD τ).loc main_arg3)))

include h in
theorem used_of : Used m := fun t => used_of_pre _ _ _ _ _ _ (h 0).2.2 t

include h in
/-- The block of a tile with rows is its own. -/
theorem block_eq (b : Fin 96) (hv : 0 < (validAt (pf m) b).toInt) : blockOf (pf m) b = b.val := by
  have hn := tiles_nat m (good_of_pre m h)
  unfold blockOf
  rcases used_of m h b with h' | h' <;> omega

/-- The expert of row `r` of tile `b`. -/
theorem expert_eq (b : Fin 96) (r : Fin 512) :
    (m (((0 : Dev nD).tc : Thread nD τ).loc main_arg0) : S96.Idx → BitVec 32)
      (ix1 ⟨(rowOf b r).val / 512, by have := (rowOf b r).isLt; omega⟩) = expertAt (pf m) b := by
  have hr := r.isLt
  have e1 : (⟨(rowOf b r).val / 512, by have := (rowOf b r).isLt; omega⟩ : Fin 96) = b := by
    apply Fin.ext; show (512 * b.val + r.val) / 512 = b.val; omega
  rw [e1]
  show m _ _ = m _ _
  have e2 : (ix1 b : S96.Idx) = tileIx b := by
    funext a
    obtain rfl : a = (0 : Fin 1) := Subsingleton.elim (α := Fin 1) _ _
    rfl
  exact congrArg _ e2

/-- At row `r` of tile `b`, in a group of 128 rows whose first row is valid, the kernel's hidden values end at the reference's. -/
theorem agree_atH (G : S49152x1408.Idx → EReal)
    (hG : (rdat m (good_of_pre m h) c).ArrAt (3 : Fin 5) (cfgA m (good_of_pre m h)).N G)
    (b : Fin 96) (y : S512x1408.Idx) (hy : (128 * ((y 0).val / 128 : ℕ) : Int) < (validAt (pf m) b).toInt) :
    G (placeH b y) = expectedH m c (placeH b y) := by
  obtain rfl : c = 0 := Subsingleton.elim (α := Fin 1) _ _
  refine (end_goodH m (good_of_pre m h) 0 (used_of m h) b y hy G hG).trans
    ((specAtH_eq m (good_of_pre m h) 0 b (block_eq m h b (by omega)) y).trans ?_)
  have hE := (expert_eq m b (y 0)).trans (show _ = BitVec.ofNat 32 (expOf m (good_of_pre m h) b).val from by
    show _ = BitVec.ofNat 32 (expertAt (pf m) b).toNat
    rw [BitVec.ofNat_toNat, BitVec.setWidth_eq])
  exact (Cert.GateUpReferenceIdeal.Up.result_apply _ _ _ _ (rowOf b (y 0)) (expOf m (good_of_pre m h) b) hE (y 1)).symm

/-- So do its row weights. -/
theorem agree_atW (G : S49152x128.Idx → EReal)
    (hG : (rdat m (good_of_pre m h) c).ArrAt (4 : Fin 5) (cfgA m (good_of_pre m h)).N G)
    (b : Fin 96) (y : S512x128.Idx) (hy : (128 * ((y 0).val / 128 : ℕ) : Int) < (validAt (pf m) b).toInt) :
    G (placeW b y) = expectedW m c (placeW b y) := by
  obtain rfl : c = 0 := Subsingleton.elim (α := Fin 1) _ _
  refine (end_goodW m (good_of_pre m h) 0 (used_of m h) b y hy G hG).trans
    ((specAtW_eq m (good_of_pre m h) 0 b (block_eq m h b (by omega)) y).trans ?_)
  have e := Cert.GateUpReferenceIdeal.Up.spread_weights_apply (m (((0 : Dev nD).tc : Thread nD τ).loc main_arg0))
    (m (((0 : Dev nD).tc : Thread nD τ).loc main_arg3)) (rowOf b (y 0)) (y 1)
  rw [expert_eq m b (y 0)] at e
  exact e.symm

/-- So it is wherever the first mask selects. -/
theorem agreeH (G : S49152x1408.Idx → EReal)
    (hG : (rdat m (good_of_pre m h) c).ArrAt (3 : Fin 5) (cfgA m (good_of_pre m h)).N G) (i : (⟨2, ![49152, 1408]⟩ : Shape).Idx)
    (hi : (Cert.On_rows_held_gate_up.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 i = 1#1) :
    G i = expectedH m c i := by
  obtain rfl : c = 0 := Subsingleton.elim (α := Fin 1) _ _
  have h0 : (i 0).val < 49152 := (i 0).isLt
  have hp : (i 0).val = 512 * ((i 0).val / 512) + (i 0).val % 512 := by omega
  have hv := held_of_maskH _ _ _ _ _ _ i hi ⟨(i 0).val / 512, by omega⟩ ((i 0).val % 512) (Nat.mod_lt _ (by decide)) hp
  have e : i = placeH ⟨(i 0).val / 512, by omega⟩ (ix2 ⟨(i 0).val % 512, Nat.mod_lt _ (by decide)⟩ (i 1)) := by
    funext a; apply Fin.ext
    match a with
    | ⟨0, _⟩ => exact hp
    | ⟨1, _⟩ => rfl
  rw [e]
  exact agree_atH m h 0 G hG _ _ hv

/-- So it is wherever the second mask selects. -/
theorem agreeW (G : S49152x128.Idx → EReal)
    (hG : (rdat m (good_of_pre m h) c).ArrAt (4 : Fin 5) (cfgA m (good_of_pre m h)).N G) (i : (⟨2, ![49152, 128]⟩ : Shape).Idx)
    (hi : (Cert.On_rows_held_gate_up.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 i = 1#1) :
    G i = expectedW m c i := by
  obtain rfl : c = 0 := Subsingleton.elim (α := Fin 1) _ _
  have h0 : (i 0).val < 49152 := (i 0).isLt
  have hp : (i 0).val = 512 * ((i 0).val / 512) + (i 0).val % 512 := by omega
  have hv := held_of_maskW _ _ _ _ _ _ i hi ⟨(i 0).val / 512, by omega⟩ ((i 0).val % 512) (Nat.mod_lt _ (by decide)) hp
  have e : i = placeW ⟨(i 0).val / 512, by omega⟩ (ix2 ⟨(i 0).val % 512, Nat.mod_lt _ (by decide)⟩ (i 1)) := by
    funext a; apply Fin.ext
    match a with
    | ⟨0, _⟩ => exact hp
    | ⟨1, _⟩ => rfl
  rw [e]
  exact agree_atW m h 0 G hG _ _ hv

/-- The kernel's run. -/
theorem run_agrees (m : (ℓ : Loc nD τ sig) → Buf (Elt Ideal) ℓ) (h : PreAt m) (ρ : Dev nD → PrngReg) :
    θ_run (defs (F := Ideal)) (onTc (τ := τ) (main (F := Ideal))) ⟨m, fun _ => 0, ρ⟩ (fun r => ∀ c : Dev nD,
      (∀ i : (⟨2, ![49152, 1408]⟩ : Shape).Idx, (Cert.On_rows_held_gate_up.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 i = 1#1 →
          r.2.mem ((c.tc : Thread nD τ).loc main_v0_0) i = expectedH m c i)
      ∧ (∀ i : (⟨2, ![49152, 128]⟩ : Shape).Idx, (Cert.On_rows_held_gate_up.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 i = 1#1 →
          r.2.mem ((c.tc : Thread nD τ).loc main_v0_1) i = expectedW m c i)) :=
  (θ_run defs _ _).mono (fun r hr c => ⟨fun i hi => agreeH m h c _ ((hr.1 c).1 (3 : Fin 5)) i hi,
    fun i hi => agreeW m h c _ ((hr.1 c).1 (4 : Fin 5)) i hi⟩) (run m ρ (good_of_pre m h))

end Cert.GateUpIdeal.Up

namespace Cert.Proof

open Idealize.ShloMosaic Idealize.SL.Sem

/-- The gate and up kernel's results are the reference's wherever the masks select. -/
theorem algebraic_gate_up : Cert.algebraic_GateUpIdeal_GateUpReferenceIdeal_on_rows_held_gate_up := by
  intro m g m' g' hpre hargs
  refine ⟨fun c => Cert.GateUpIdeal.Up.expectedH m c, fun c => Cert.GateUpIdeal.Up.expectedW m c, ?_, ?_⟩
  · refine (θ_run _ _ _).mono ?_ (θ_run_and (Cert.GateUpIdeal.Up.run_agrees m hpre g) (Cert.GateUpIdeal.Up.frameAt (F := Ideal) m g hpre))
    exact fun r hr c => ⟨(hr.1 c).1, (hr.1 c).2, hr.2.1 c⟩
  · refine (θ_run _ _ _).mono ?_ (θ_run_and (Cert.GateUpReferenceIdeal.Up.run_results m' g') (Cert.GateUpReferenceIdeal.Gen.unchanged (F := Ideal) m' g'))
    intro r hr c
    obtain ⟨h0, h1, h2, h3, h4, h5⟩ := hargs c
    have e := hr.1 c
    rw [h0, h3, h4, h5] at e
    exact ⟨fun i _ => congrFun e.1 i, fun i _ => congrFun e.2 i, hr.2 c⟩

end Cert.Proof

end
-- ==== Proof.lean ====
/- The certificate: the frames of the six programs, the two idealizations, and the agreement of each idealized kernel with its
   reference at every row that its mask selects. -/
module

public import proofs.«01_k».proof.Proof.Gen.Kernel.Launch
public import proofs.«01_k».proof.Proof.Gen.KernelIdeal.Launch
public import proofs.«01_k».proof.Defs
public import proofs.«01_k».proof.Proof.Gen.ReferenceIdeal
public import proofs.«01_k».proof.Proof.Gen.ReferenceIdeal.Launch
public import proofs.«01_k».proof.Proof.Gen.ReferenceIdeal.Frame
public import proofs.«01_k».proof.Proof.Gen.Kernel
public import proofs.«01_k».proof.Proof.Gen.KernelIdeal
public import proofs.«01_k».proof.Proof.Equation
public import proofs.«01_k».proof.Proof.UpEquation
public import proofs.«01_k».proof.Proof.Gen.GateUp
public import proofs.«01_k».proof.Proof.Gen.GateUp.Launch
public import proofs.«01_k».proof.Proof.Gen.GateUpIdeal
public import proofs.«01_k».proof.Proof.Gen.GateUpIdeal.Launch
public import proofs.«01_k».proof.Proof.Gen.GateUpReferenceIdeal
public import proofs.«01_k».proof.Proof.Gen.GateUpReferenceIdeal.Launch
public import proofs.«01_k».proof.Proof.Gen.GateUpReferenceIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.GateUp.Gen.facts, Cert.GateUpIdeal.Gen.facts, Cert.GateUpReferenceIdeal.Gen.facts,
    Cert.KernelIdeal.Down.preFacts, Cert.GateUpIdeal.Up.preFacts, Cert.KernelIdeal.Down.onFacts, Cert.GateUpIdeal.Up.onFacts,
    Cert.KernelIdeal.Down.quiescent_compiled, Cert.KernelIdeal.Down.quiescent_ideal, fun m ρ _ => Cert.ReferenceIdeal.Gen.frame m ρ,
    Cert.GateUpIdeal.Up.quiescent_compiled, Cert.GateUpIdeal.Up.quiescent_ideal, fun m ρ _ => Cert.GateUpReferenceIdeal.Gen.frame m ρ,
    trivial, algebraic, trivial, algebraic_gate_up⟩

end Cert.Proof

end
